-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "rsqrt2" .f32 0x3F3504F3#32 (((Real.sqrt 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)) (v3 : (c : Dev Cert.Kernel3Ideal.nD) → Buf (Elt Ideal) ((c.tc : Thread Cert.Kernel3Ideal.nD Cert.Kernel3Ideal.τ).loc Cert.Kernel3Ideal.main_v19_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_2) = v2 c
          ∧ r.2.mem ((c.tc : Thread Cert.Kernel3Ideal.nD Cert.Kernel3Ideal.τ).loc Cert.Kernel3Ideal.main_v19_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v292) = v0 c
          ∧ r.2.mem ((c.tc : Thread Cert.Reference3Ideal.nD Cert.Reference3Ideal.τ).loc Cert.Reference3Ideal.main_v308) = v1 c
          ∧ r.2.mem ((c.tc : Thread Cert.Reference3Ideal.nD Cert.Reference3Ideal.τ).loc Cert.Reference3Ideal.main_v309) = v2 c
          ∧ r.2.mem ((c.tc : Thread Cert.Reference3Ideal.nD Cert.Reference3Ideal.τ).loc Cert.Reference3Ideal.main_v310) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_bounded (hKernelIdeal := hKernelIdeal) (hReferenceIdeal := hReferenceIdeal) (hPre_bounded := hPre_bounded)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_bounded.lean ====
abbrev S8x8192x512 : Shape := ⟨3, ![8, 8192, 512]⟩
abbrev S8x8192x8x64 : Shape := ⟨4, ![8, 8192, 8, 64]⟩
abbrev S_ : Shape := ⟨0, ![]⟩
abbrev S8x8192x8 : Shape := ⟨3, ![8, 8192, 8]⟩

class Facts : Prop where
  shapeCasts_S8x8192x512_S8x8192x8x64 : S8x8192x512.ShapeCasts S8x8192x8x64
  reducesTo_S8x8192x8x64_S8x8192x8_d3 : S8x8192x8x64.ReducesTo [3] S8x8192x8
  h_S_ : 0 < S_.numel
  bcast_S_S8x8192x8 : S_.BroadcastsInDim S8x8192x8 (![] : Fin 0 → Fin S8x8192x8.rank)
  reducesTo_S8x8192x8_S_d0_1_2 : S8x8192x8.ReducesTo [0, 1, 2] S_

variable [Facts]

def fn {F : FTy → Type} [FloatOps F] (main_arg0 : FVec F S8x8192x512 .f32) (main_arg1 : FVec F S8x8192x512 .f32) (main_arg2 : FVec F S8x8192x512 .f32) : IVec S_ 1 :=
  let main_v0 : FVec F S8x8192x8x64 .f32 := shapeCast S8x8192x8x64 main_arg0 shapeCasts_S8x8192x512_S8x8192x8x64
  let main_v1 : FVec F S8x8192x8x64 .f32 := mulf main_v0 main_v0
  let main_cst : FVec F S_ .f32 := constant S_ .f32 0x00000000#32
  let main_v2 : FVec F S8x8192x8 .f32 := (fun x v => Host.reduceAdd x v reducesTo_S8x8192x8x64_S8x8192x8_d3 h_S_) main_v1 main_cst
  let main_cst_0 : FVec F S_ .f32 := constant S_ .f32 0x440A0000#32
  let main_v3 : FVec F S8x8192x8 .f32 := broadcastInDim S8x8192x8 ![] bcast_S_S8x8192x8 main_cst_0
  let main_v4 : IVec S8x8192x8 1 := cmpf .ole main_v2 main_v3
  let main_c : IVec S_ 1 := constantI S_ 1 1#1
  let main_v5 : IVec S_ 1 := (fun x v => Host.reduce IntOp.andi x v reducesTo_S8x8192x8_S_d0_1_2 h_S_) main_v4 main_c
  let main_v6 : FVec F S8x8192x8x64 .f32 := shapeCast S8x8192x8x64 main_arg1 shapeCasts_S8x8192x512_S8x8192x8x64
  let main_v7 : FVec F S8x8192x8x64 .f32 := mulf main_v6 main_v6
  let main_cst_1 : FVec F S_ .f32 := constant S_ .f32 0x00000000#32
  let main_v8 : FVec F S8x8192x8 .f32 := (fun x v => Host.reduceAdd x v reducesTo_S8x8192x8x64_S8x8192x8_d3 h_S_) main_v7 main_cst_1
  let main_cst_2 : FVec F S_ .f32 := constant S_ .f32 0x440A0000#32
  let main_v9 : FVec F S8x8192x8 .f32 := broadcastInDim S8x8192x8 ![] bcast_S_S8x8192x8 main_cst_2
  let main_v10 : IVec S8x8192x8 1 := cmpf .ole main_v8 main_v9
  let main_c_3 : IVec S_ 1 := constantI S_ 1 1#1
  let main_v11 : IVec S_ 1 := (fun x v => Host.reduce IntOp.andi x v reducesTo_S8x8192x8_S_d0_1_2 h_S_) main_v10 main_c_3
  let main_v12 : IVec S_ 1 := andi main_v5 main_v11
  main_v12
-- ==== Kernel.lean ====
abbrev S8x8192x512 : Shape := ⟨3, ![8, 8192, 512]⟩
abbrev S256x256 : Shape := ⟨2, ![256, 256]⟩
abbrev S1x256x512 : Shape := ⟨3, ![1, 256, 512]⟩
abbrev S1x8192x512 : Shape := ⟨3, ![1, 8192, 512]⟩
abbrev S4x512x128 : Shape := ⟨3, ![4, 512, 128]⟩
abbrev S256x128 : Shape := ⟨2, ![256, 128]⟩
abbrev S1x256x128 : Shape := ⟨3, ![1, 256, 128]⟩
abbrev S1x512x128 : Shape := ⟨3, ![1, 512, 128]⟩
abbrev S512x128 : Shape := ⟨2, ![512, 128]⟩
abbrev S512x256 : Shape := ⟨2, ![512, 256]⟩
abbrev S512x1 : Shape := ⟨2, ![512, 1]⟩
abbrev S1 : Shape := ⟨1, ![1]⟩
abbrev S1x1x1 : Shape := ⟨3, ![1, 1, 1]⟩

abbrev nBuf : Space → Nat
  | .hbm => 12
  | .vmem => 10
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S8x8192x512, .bf16⟩
  | .hbm, ⟨4, _⟩ => ⟨S8x8192x512, .bf16⟩
  | .hbm, ⟨5, _⟩ => ⟨S8x8192x512, .bf16⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .bf16⟩
  | .hbm, ⟨10, _⟩ => ⟨S256x256, .bf16⟩
  | .hbm, ⟨11, _⟩ => ⟨S8x8192x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S256x256, .bf16⟩
  | .local _ .vmem, ⟨5, _⟩ => ⟨S1x256x512, .bf16⟩
  | .local _ .vmem, ⟨6, _⟩ => ⟨S1x256x512, .bf16⟩
  | .local _ .vmem, ⟨7, _⟩ => ⟨S4x512x128, .bf16⟩
  | .local _ .vmem, ⟨8, _⟩ => ⟨S4x512x128, .f32⟩
  | .local _ .vmem, ⟨9, _⟩ => ⟨S4x512x128, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c0_i32 : BitVec 32 := 0#32
  let v75 : BitVec 32 := Scalar.maxsi arg1 c0_i32
  let c256_i32 : BitVec 32 := 256#32
  let v76 : BitVec 32 := Scalar.muli v75 c256_i32
  v76
def k0_off1 (i : grid0.Coords) : Fin 3 → Nat :=
  let c0_40 : Index := 0#32
  let arg1 : BitVec 32 := BitVec.ofNat 32 (i 1).val
  let c0_i32 : BitVec 32 := 0#32
  let v75 : BitVec 32 := Scalar.maxsi arg1 c0_i32
  let c256_i32 : BitVec 32 := 256#32
  let v76 : BitVec 32 := Scalar.muli v75 c256_i32
  let v77 : BitVec 32 := v76
  let v78 : Index := Scalar.indexCast v77
  let c0_41 : Index := 0#32
  ![0, v78.toNat, 0]
def k0_mult2 (i : grid0.Coords) : BitVec 32 :=
  let arg1 : BitVec 32 := BitVec.ofNat 32 (i 1).val
  let c0_i32_52 : BitVec 32 := 0#32
  let v104 : BitVec 32 := Scalar.maxsi arg1 c0_i32_52
  let c256_i32_53 : BitVec 32 := 256#32
  let v105 : BitVec 32 := Scalar.muli v104 c256_i32_53
  v105
def k0_off2 (i : grid0.Coords) : Fin 3 → Nat :=
  let c0_54 : Index := 0#32
  let arg1 : BitVec 32 := BitVec.ofNat 32 (i 1).val
  let c0_i32_52 : BitVec 32 := 0#32
  let v104 : BitVec 32 := Scalar.maxsi arg1 c0_i32_52
  let c256_i32_53 : BitVec 32 := 256#32
  let v105 : BitVec 32 := Scalar.muli v104 c256_i32_53
  let v106 : BitVec 32 := v105
  let v107 : Index := Scalar.indexCast v106
  let c128_55 : Index := 128#32
  ![0, v107.toNat, 128]
def k0_mult3 (i : grid0.Coords) : BitVec 32 :=
  let arg1 : BitVec 32 := BitVec.ofNat 32 (i 1).val
  let c0_i32_66 : BitVec 32 := 0#32
  let v133 : BitVec 32 := Scalar.maxsi arg1 c0_i32_66
  let c256_i32_67 : BitVec 32 := 256#32
  let v134 : BitVec 32 := Scalar.muli v133 c256_i32_67
  v134
def k0_off3 (i : grid0.Coords) : Fin 3 → Nat :=
  let c0_68 : Index := 0#32
  let arg1 : BitVec 32 := BitVec.ofNat 32 (i 1).val
  let c0_i32_66 : BitVec 32 := 0#32
  let v133 : BitVec 32 := Scalar.maxsi arg1 c0_i32_66
  let c256_i32_67 : BitVec 32 := 256#32
  let v134 : BitVec 32 := Scalar.muli v133 c256_i32_67
  let v135 : BitVec 32 := v134
  let v136 : Index := Scalar.indexCast v135
  let c256_69 : Index := 256#32
  ![0, v136.toNat, 256]
def k0_mult4 (i : grid0.Coords) : BitVec 32 :=
  let arg1 : BitVec 32 := BitVec.ofNat 32 (i 1).val
  let c0_i32_80 : BitVec 32 := 0#32
  let v162 : BitVec 32 := Scalar.maxsi arg1 c0_i32_80
  let c256_i32_81 : BitVec 32 := 256#32
  let v163 : BitVec 32 := Scalar.muli v162 c256_i32_81
  v163
def k0_off4 (i : grid0.Coords) : Fin 3 → Nat :=
  let c0_82 : Index := 0#32
  let arg1 : BitVec 32 := BitVec.ofNat 32 (i 1).val
  let c0_i32_80 : BitVec 32 := 0#32
  let v162 : BitVec 32 := Scalar.maxsi arg1 c0_i32_80
  let c256_i32_81 : BitVec 32 := 256#32
  let v163 : BitVec 32 := Scalar.muli v162 c256_i32_81
  let v164 : BitVec 32 := v163
  let v165 : Index := Scalar.indexCast v164
  let c384_83 : Index := 384#32
  ![0, v165.toNat, 384]
def k0_mult5 (i : grid0.Coords) : BitVec 32 :=
  let arg1 : BitVec 32 := BitVec.ofNat 32 (i 1).val
  let c1_i32 : BitVec 32 := 1#32
  let v74 : BitVec 32 := Scalar.subi arg1 c1_i32
  let c0_i32_94 : BitVec 32 := 0#32
  let v191 : BitVec 32 := Scalar.maxsi v74 c0_i32_94
  let c256_i32_95 : BitVec 32 := 256#32
  let v192 : BitVec 32 := Scalar.muli v191 c256_i32_95
  v192
def k0_off5 (i : grid0.Coords) : Fin 3 → Nat :=
  let c0_96 : Index := 0#32
  let arg1 : BitVec 32 := BitVec.ofNat 32 (i 1).val
  let c1_i32 : BitVec 32 := 1#32
  let v74 : BitVec 32 := Scalar.subi arg1 c1_i32
  let c0_i32_94 : BitVec 32 := 0#32
  let v191 : BitVec 32 := Scalar.maxsi v74 c0_i32_94
  let c256_i32_95 : BitVec 32 := 256#32
  let v192 : BitVec 32 := Scalar.muli v191 c256_i32_95
  let v193 : BitVec 32 := v192
  let v194 : Index := Scalar.indexCast v193
  let c0_97 : Index := 0#32
  ![0, v194.toNat, 0]
def k0_mult6 (i : grid0.Coords) : BitVec 32 :=
  let arg1 : BitVec 32 := BitVec.ofNat 32 (i 1).val
  let c1_i32 : BitVec 32 := 1#32
  let v74 : BitVec 32 := Scalar.subi arg1 c1_i32
  let c0_i32_105 : BitVec 32 := 0#32
  let v210 : BitVec 32 := Scalar.maxsi v74 c0_i32_105
  let c256_i32_106 : BitVec 32 := 256#32
  let v211 : BitVec 32 := Scalar.muli v210 c256_i32_106
  v211
def k0_off6 (i : grid0.Coords) : Fin 3 → Nat :=
  let c0_107 : Index := 0#32
  let arg1 : BitVec 32 := BitVec.ofNat 32 (i 1).val
  let c1_i32 : BitVec 32 := 1#32
  let v74 : BitVec 32 := Scalar.subi arg1 c1_i32
  let c0_i32_105 : BitVec 32 := 0#32
  let v210 : BitVec 32 := Scalar.maxsi v74 c0_i32_105
  let c256_i32_106 : BitVec 32 := 256#32
  let v211 : BitVec 32 := Scalar.muli v210 c256_i32_106
  let v212 : BitVec 32 := v211
  let v213 : Index := Scalar.indexCast v212
  let c128_108 : Index := 128#32
  ![0, v213.toNat, 128]
def k0_mult7 (i : grid0.Coords) : BitVec 32 :=
  let arg1 : BitVec 32 := BitVec.ofNat 32 (i 1).val
  let c1_i32 : BitVec 32 := 1#32
  let v74 : BitVec 32 := Scalar.subi arg1 c1_i32
  let c0_i32_116 : BitVec 32 := 0#32
  let v229 : BitVec 32 := Scalar.maxsi v74 c0_i32_116
  let c256_i32_117 : BitVec 32 := 256#32
  let v230 : BitVec 32 := Scalar.muli v229 c256_i32_117
  v230
def k0_off7 (i : grid0.Coords) : Fin 3 → Nat :=
  let c0_118 : Index := 0#32
  let arg1 : BitVec 32 := BitVec.ofNat 32 (i 1).val
  let c1_i32 : BitVec 32 := 1#32
  let v74 : BitVec 32 := Scalar.subi arg1 c1_i32
  let c0_i32_116 : BitVec 32 := 0#32
  let v229 : BitVec 32 := Scalar.maxsi v74 c0_i32_116
  let c256_i32_117 : BitVec 32 := 256#32
  let v230 : BitVec 32 := Scalar.muli v229 c256_i32_117
  let v231 : BitVec 32 := v230
  let v232 : Index := Scalar.indexCast v231
  let c256_119 : Index := 256#32
  ![0, v232.toNat, 256]
def k0_mult8 (i : grid0.Coords) : BitVec 32 :=
  let arg1 : BitVec 32 := BitVec.ofNat 32 (i 1).val
  let c1_i32 : BitVec 32 := 1#32
  let v74 : BitVec 32 := Scalar.subi arg1 c1_i32
  let c0_i32_127 : BitVec 32 := 0#32
  let v248 : BitVec 32 := Scalar.maxsi v74 c0_i32_127
  let c256_i32_128 : BitVec 32 := 256#32
  let v249 : BitVec 32 := Scalar.muli v248 c256_i32_128
  v249
def k0_off8 (i : grid0.Coords) : Fin 3 → Nat :=
  let c0_129 : Index := 0#32
  let arg1 : BitVec 32 := BitVec.ofNat 32 (i 1).val
  let c1_i32 : BitVec 32 := 1#32
  let v74 : BitVec 32 := Scalar.subi arg1 c1_i32
  let c0_i32_127 : BitVec 32 := 0#32
  let v248 : BitVec 32 := Scalar.maxsi v74 c0_i32_127
  let c256_i32_128 : BitVec 32 := 256#32
  let v249 : BitVec 32 := Scalar.muli v248 c256_i32_128
  let v250 : BitVec 32 := v249
  let v251 : Index := Scalar.indexCast v250
  let c384_130 : Index := 384#32
  ![0, v251.toNat, 384]
def k0_mult9 (i : grid0.Coords) : BitVec 32 :=
  let arg1 : BitVec 32 := BitVec.ofNat 32 (i 1).val
  let c0_i32_174 : BitVec 32 := 0#32
  let v363 : BitVec 32 := Scalar.maxsi arg1 c0_i32_174
  let c256_i32_175 : BitVec 32 := 256#32
  let v364 : BitVec 32 := Scalar.muli v363 c256_i32_175
  v364
def k0_mult10 (i : grid0.Coords) : BitVec 32 :=
  let arg1 : BitVec 32 := BitVec.ofNat 32 (i 1).val
  let c0_i32_179 : BitVec 32 := 0#32
  let v370 : BitVec 32 := Scalar.maxsi arg1 c0_i32_179
  let c256_i32_180 : BitVec 32 := 256#32
  let v371 : BitVec 32 := Scalar.muli v370 c256_i32_180
  v371
def k0_mult11 (i : grid0.Coords) : BitVec 32 :=
  let arg1 : BitVec 32 := BitVec.ofNat 32 (i 1).val
  let c0_i32_184 : BitVec 32 := 0#32
  let v377 : BitVec 32 := Scalar.maxsi arg1 c0_i32_184
  let c256_i32_185 : BitVec 32 := 256#32
  let v378 : BitVec 32 := Scalar.muli v377 c256_i32_185
  v378
def k0_mult12 (i : grid0.Coords) : BitVec 32 :=
  let arg1 : BitVec 32 := BitVec.ofNat 32 (i 1).val
  let c0_i32_189 : BitVec 32 := 0#32
  let v384 : BitVec 32 := Scalar.maxsi arg1 c0_i32_189
  let c256_i32_190 : BitVec 32 := 256#32
  let v385 : BitVec 32 := Scalar.muli v384 c256_i32_190
  v385
def k0_mult13 (i : grid0.Coords) : BitVec 32 :=
  let arg1 : BitVec 32 := BitVec.ofNat 32 (i 1).val
  let c1_i32 : BitVec 32 := 1#32
  let v74 : BitVec 32 := Scalar.subi arg1 c1_i32
  let c0_i32_194 : BitVec 32 := 0#32
  let v391 : BitVec 32 := Scalar.maxsi v74 c0_i32_194
  let c256_i32_195 : BitVec 32 := 256#32
  let v392 : BitVec 32 := Scalar.muli v391 c256_i32_195
  v392
def k0_mult14 (i : grid0.Coords) : BitVec 32 :=
  let arg1 : BitVec 32 := BitVec.ofNat 32 (i 1).val
  let c1_i32 : BitVec 32 := 1#32
  let v74 : BitVec 32 := Scalar.subi arg1 c1_i32
  let c0_i32_199 : BitVec 32 := 0#32
  let v398 : BitVec 32 := Scalar.maxsi v74 c0_i32_199
  let c256_i32_200 : BitVec 32 := 256#32
  let v399 : BitVec 32 := Scalar.muli v398 c256_i32_200
  v399
def k0_mult15 (i : grid0.Coords) : BitVec 32 :=
  let arg1 : BitVec 32 := BitVec.ofNat 32 (i 1).val
  let c1_i32 : BitVec 32 := 1#32
  let v74 : BitVec 32 := Scalar.subi arg1 c1_i32
  let c0_i32_204 : BitVec 32 := 0#32
  let v405 : BitVec 32 := Scalar.maxsi v74 c0_i32_204
  let c256_i32_205 : BitVec 32 := 256#32
  let v406 : BitVec 32 := Scalar.muli v405 c256_i32_205
  v406
def k0_mult16 (i : grid0.Coords) : BitVec 32 :=
  let arg1 : BitVec 32 := BitVec.ofNat 32 (i 1).val
  let c1_i32 : BitVec 32 := 1#32
  let v74 : BitVec 32 := Scalar.subi arg1 c1_i32
  let c0_i32_209 : BitVec 32 := 0#32
  let v412 : BitVec 32 := Scalar.maxsi v74 c0_i32_209
  let c256_i32_210 : BitVec 32 := 256#32
  let v413 : BitVec 32 := Scalar.muli v412 c256_i32_210
  v413
def k0_mult17 (arg10 : BitVec 32) : BitVec 32 :=
  let c0_i32_276 : BitVec 32 := 0#32
  let v541 : BitVec 32 := Scalar.maxsi arg10 c0_i32_276
  let c256_i32_277 : BitVec 32 := 256#32
  let v542 : BitVec 32 := Scalar.muli v541 c256_i32_277
  v542

def k0_off9 (arg10 : BitVec 32) : Fin 3 → Nat :=
  let c0_278 : Index := 0#32
  let c0_i32_276 : BitVec 32 := 0#32
  let v541 : BitVec 32 := Scalar.maxsi arg10 c0_i32_276
  let c256_i32_277 : BitVec 32 := 256#32
  let v542 : BitVec 32 := Scalar.muli v541 c256_i32_277
  let v543 : BitVec 32 := v542
  let v544 : Index := Scalar.indexCast v543
  let c0_279 : Index := 0#32
  ![0, v544.toNat, 0]
def k0_mult18 (arg10 : BitVec 32) : BitVec 32 :=
  let c0_i32_287 : BitVec 32 := 0#32
  let v560 : BitVec 32 := Scalar.maxsi arg10 c0_i32_287
  let c256_i32_288 : BitVec 32 := 256#32
  let v561 : BitVec 32 := Scalar.muli v560 c256_i32_288
  v561
def k0_off10 (arg10 : BitVec 32) : Fin 3 → Nat :=
  let c0_289 : Index := 0#32
  let c0_i32_287 : BitVec 32 := 0#32
  let v560 : BitVec 32 := Scalar.maxsi arg10 c0_i32_287
  let c256_i32_288 : BitVec 32 := 256#32
  let v561 : BitVec 32 := Scalar.muli v560 c256_i32_288
  let v562 : BitVec 32 := v561
  let v563 : Index := Scalar.indexCast v562
  let c128_290 : Index := 128#32
  ![0, v563.toNat, 128]
def k0_mult19 (arg10 : BitVec 32) : BitVec 32 :=
  let c0_i32_298 : BitVec 32 := 0#32
  let v579 : BitVec 32 := Scalar.maxsi arg10 c0_i32_298
  let c256_i32_299 : BitVec 32 := 256#32
  let v580 : BitVec 32 := Scalar.muli v579 c256_i32_299
  v580
def k0_off11 (arg10 : BitVec 32) : Fin 3 → Nat :=
  let c0_300 : Index := 0#32
  let c0_i32_298 : BitVec 32 := 0#32
  let v579 : BitVec 32 := Scalar.maxsi arg10 c0_i32_298
  let c256_i32_299 : BitVec 32 := 256#32
  let v580 : BitVec 32 := Scalar.muli v579 c256_i32_299
  let v581 : BitVec 32 := v580
  let v582 : Index := Scalar.indexCast v581
  let c256_301 : Index := 256#32
  ![0, v582.toNat, 256]
def k0_mult20 (arg10 : BitVec 32) : BitVec 32 :=
  let c0_i32_309 : BitVec 32 := 0#32
  let v598 : BitVec 32 := Scalar.maxsi arg10 c0_i32_309
  let c256_i32_310 : BitVec 32 := 256#32
  let v599 : BitVec 32 := Scalar.muli v598 c256_i32_310
  v599
def k0_off12 (arg10 : BitVec 32) : Fin 3 → Nat :=
  let c0_311 : Index := 0#32
  let c0_i32_309 : BitVec 32 := 0#32
  let v598 : BitVec 32 := Scalar.maxsi arg10 c0_i32_309
  let c256_i32_310 : BitVec 32 := 256#32
  let v599 : BitVec 32 := Scalar.muli v598 c256_i32_310
  let v600 : BitVec 32 := v599
  let v601 : Index := Scalar.indexCast v600
  let c384_312 : Index := 384#32
  ![0, v601.toNat, 384]
def k0_mult21 (arg10 : BitVec 32) : BitVec 32 :=
  let c0_i32_332 : BitVec 32 := 0#32
  let v645 : BitVec 32 := Scalar.maxsi arg10 c0_i32_332
  let c256_i32_333 : BitVec 32 := 256#32
  let v646 : BitVec 32 := Scalar.muli v645 c256_i32_333
  v646
def k0_mult22 (arg10 : BitVec 32) : BitVec 32 :=
  let c0_i32_337 : BitVec 32 := 0#32
  let v652 : BitVec 32 := Scalar.maxsi arg10 c0_i32_337
  let c256_i32_338 : BitVec 32 := 256#32
  let v653 : BitVec 32 := Scalar.muli v652 c256_i32_338
  v653
def k0_mult23 (arg10 : BitVec 32) : BitVec 32 :=
  let c0_i32_342 : BitVec 32 := 0#32
  let v659 : BitVec 32 := Scalar.maxsi arg10 c0_i32_342
  let c256_i32_343 : BitVec 32 := 256#32
  let v660 : BitVec 32 := Scalar.muli v659 c256_i32_343
  v660
def k0_mult24 (arg10 : BitVec 32) : BitVec 32 :=
  let c0_i32_347 : BitVec 32 := 0#32
  let v666 : BitVec 32 := Scalar.maxsi arg10 c0_i32_347
  let c256_i32_348 : BitVec 32 := 256#32
  let v667 : BitVec 32 := Scalar.muli v666 c256_i32_348
  v667

def k0_chk1 (arg10 : BitVec 32) : Prop :=
  (256 ∣ (k0_mult17 arg10).toNat) ∧
  (∀ a, (k0_off9 arg10) a + S1x256x128.size a ≤ S1x8192x512.size a) ∧
  (256 ∣ (k0_mult18 arg10).toNat) ∧
  (∀ a, (k0_off10 arg10) a + S1x256x128.size a ≤ S1x8192x512.size a) ∧
  (256 ∣ (k0_mult19 arg10).toNat) ∧
  (∀ a, (k0_off11 arg10) a + S1x256x128.size a ≤ S1x8192x512.size a) ∧
  (256 ∣ (k0_mult20 arg10).toNat) ∧
  (∀ a, (k0_off12 arg10) a + S1x256x128.size a ≤ S1x8192x512.size a) ∧
  (256 ∣ (k0_mult21 arg10).toNat) ∧
  (256 ∣ (k0_mult22 arg10).toNat) ∧
  (256 ∣ (k0_mult23 arg10).toNat) ∧
  (256 ∣ (k0_mult24 arg10).toNat)
theorem k0_mult17_dvd : ∀ (arg10 : BitVec 32) (k0_hw1 : k0_chk1 arg10), 256 ∣ (k0_mult17 arg10).toNat := fun arg10 k0_hw1 => k0_hw1.1
theorem k0_off9_inb : ∀ (arg10 : BitVec 32) (k0_hw1 : k0_chk1 arg10), ∀ a, (k0_off9 arg10) a + S1x256x128.size a ≤ S1x8192x512.size a := fun arg10 k0_hw1 => k0_hw1.2.1
theorem k0_mult18_dvd : ∀ (arg10 : BitVec 32) (k0_hw1 : k0_chk1 arg10), 256 ∣ (k0_mult18 arg10).toNat := fun arg10 k0_hw1 => k0_hw1.2.2.1
theorem k0_off10_inb : ∀ (arg10 : BitVec 32) (k0_hw1 : k0_chk1 arg10), ∀ a, (k0_off10 arg10) a + S1x256x128.size a ≤ S1x8192x512.size a := fun arg10 k0_hw1 => k0_hw1.2.2.2.1
theorem k0_mult19_dvd : ∀ (arg10 : BitVec 32) (k0_hw1 : k0_chk1 arg10), 256 ∣ (k0_mult19 arg10).toNat := fun arg10 k0_hw1 => k0_hw1.2.2.2.2.1
theorem k0_off11_inb : ∀ (arg10 : BitVec 32) (k0_hw1 : k0_chk1 arg10), ∀ a, (k0_off11 arg10) a + S1x256x128.size a ≤ S1x8192x512.size a := fun arg10 k0_hw1 => k0_hw1.2.2.2.2.2.1
theorem k0_mult20_dvd : ∀ (arg10 : BitVec 32) (k0_hw1 : k0_chk1 arg10), 256 ∣ (k0_mult20 arg10).toNat := fun arg10 k0_hw1 => k0_hw1.2.2.2.2.2.2.1
theorem k0_off12_inb : ∀ (arg10 : BitVec 32) (k0_hw1 : k0_chk1 arg10), ∀ a, (k0_off12 arg10) a + S1x256x128.size a ≤ S1x8192x512.size a := fun arg10 k0_hw1 => k0_hw1.2.2.2.2.2.2.2.1
theorem k0_mult21_dvd : ∀ (arg10 : BitVec 32) (k0_hw1 : k0_chk1 arg10), 256 ∣ (k0_mult21 arg10).toNat := fun arg10 k0_hw1 => k0_hw1.2.2.2.2.2.2.2.2.1
theorem k0_mult22_dvd : ∀ (arg10 : BitVec 32) (k0_hw1 : k0_chk1 arg10), 256 ∣ (k0_mult22 arg10).toNat := fun arg10 k0_hw1 => k0_hw1.2.2.2.2.2.2.2.2.2.1
theorem k0_mult23_dvd : ∀ (arg10 : BitVec 32) (k0_hw1 : k0_chk1 arg10), 256 ∣ (k0_mult23 arg10).toNat := fun arg10 k0_hw1 => k0_hw1.2.2.2.2.2.2.2.2.2.2.1
theorem k0_mult24_dvd : ∀ (arg10 : BitVec 32) (k0_hw1 : k0_chk1 arg10), 256 ∣ (k0_mult24 arg10).toNat := fun arg10 k0_hw1 => k0_hw1.2.2.2.2.2.2.2.2.2.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S8x8192x512 : Shape := ⟨3, ![8, 8192, 512]⟩
abbrev S8x8192x8x64 : Shape := ⟨4, ![8, 8192, 8, 64]⟩
abbrev S8x8x8192x64 : Shape := ⟨4, ![8, 8, 8192, 64]⟩
abbrev S8x8x8192x8192 : Shape := ⟨4, ![8, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S8x8192x8x64, .f32⟩
  | .hbm, ⟨4, _⟩ => ⟨S8x8x8192x64, .f32⟩
  | .hbm, ⟨5, _⟩ => ⟨S8x8192x8x64, .f32⟩
  | .hbm, ⟨6, _⟩ => ⟨S8x8x8192x64, .f32⟩
  | .hbm, ⟨7, _⟩ => ⟨S8x8192x8x64, .f32⟩
  | .hbm, ⟨8, _⟩ => ⟨S8x8x8192x64, .f32⟩
  | .hbm, ⟨9, _⟩ => ⟨S8x8x8192x8192, .f32⟩
  | .hbm, ⟨10, _⟩ => ⟨S_, .f32⟩
  | .hbm, ⟨11, _⟩ => ⟨S8x8x8192x8192, .f32⟩
  | .hbm, ⟨12, _⟩ => ⟨S8x8x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8x8x8192x8192, .f32⟩
  | .hbm, ⟨21, _⟩ => ⟨S_, .f32⟩
  | .hbm, ⟨22, _⟩ => ⟨S8x8x8192x8192, .f32⟩
  | .hbm, ⟨23, _⟩ => ⟨S8x8x8192x8192, .f32⟩
  | .hbm, ⟨24, _⟩ => ⟨S8x8x8192x8192, .f32⟩
  | .hbm, ⟨25, _⟩ => ⟨S8x8x8192x8192, .f32⟩
  | .hbm, ⟨26, _⟩ => ⟨S8x8x8192x8192, .i1⟩
  | .hbm, ⟨27, _⟩ => ⟨S8x8x8192x8192, .f32⟩
  | .hbm, ⟨28, _⟩ => ⟨S8x8x8192x8192, .f32⟩
  | .hbm, ⟨29, _⟩ => ⟨S8x8x8192x8192, .f32⟩
  | .hbm, ⟨30, _⟩ => ⟨S8x8x8192x8192, .f32⟩
  | .hbm, ⟨31, _⟩ => ⟨S8x8x8192x8192, .f32⟩
  | .hbm, ⟨32, _⟩ => ⟨S8x8x8192x8192, .f32⟩
  | .hbm, ⟨33, _⟩ => ⟨S8x8x8192x8192, .f32⟩
  | .hbm, ⟨34, _⟩ => ⟨S8x8x8192x8192, .f32⟩
  | .hbm, ⟨35, _⟩ => ⟨S8x8x8192x8192, .f32⟩
  | .hbm, ⟨36, _⟩ => ⟨S8x8x8192x8192, .f32⟩
  | .hbm, ⟨37, _⟩ => ⟨S_, .f32⟩
  | .hbm, ⟨38, _⟩ => ⟨S_, .f32⟩
  | .hbm, ⟨39, _⟩ => ⟨S8x8x8192x8192, .i1⟩
  | .hbm, ⟨40, _⟩ => ⟨S8x8x8192x8192, .f32⟩
  | .hbm, ⟨41, _⟩ => ⟨S8x8x8192x8192, .f32⟩
  | .hbm, ⟨42, _⟩ => ⟨S_, .f32⟩
  | .hbm, ⟨43, _⟩ => ⟨S_, .f32⟩
  | .hbm, ⟨44, _⟩ => ⟨S8x8x8192x8192, .f32⟩
  | .hbm, ⟨45, _⟩ => ⟨S8x8x8192x8192, .f32⟩
  | .hbm, ⟨46, _⟩ => ⟨S8x8x8192x8192, .f32⟩
  | .hbm, ⟨47, _⟩ => ⟨S8x8x8192x8192, .f32⟩
  | .hbm, ⟨48, _⟩ => ⟨S_, .f32⟩
  | .hbm, ⟨49, _⟩ => ⟨S_, .f32⟩
  | .hbm, ⟨50, _⟩ => ⟨S8x8x8192x8192, .i1⟩
  | .hbm, ⟨51, _⟩ => ⟨S8x8x8192x8192, .f32⟩
  | .hbm, ⟨52, _⟩ => ⟨S8x8x8192x8192, .f32⟩
  | .hbm, ⟨53, _⟩ => ⟨S8x8x8192x64, .f32⟩
  | .hbm, ⟨54, _⟩ => ⟨S8x8192x8x64, .f32⟩
  | .hbm, ⟨55, _⟩ => ⟨S8x8192x512, .f32⟩
  | .hbm, ⟨56, _⟩ => ⟨S8x8192x512, .bf16⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_1 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x512 : Shape := ⟨3, ![8, 8192, 512]⟩
abbrev S8x8192x256 : Shape := ⟨3, ![8, 8192, 256]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S1x1024 : Shape := ⟨2, ![1, 1024]⟩
abbrev S1x2816 : Shape := ⟨2, ![1, 2816]⟩
abbrev S1x512x1024 : Shape := ⟨3, ![1, 512, 1024]⟩
abbrev S1x512x512 : Shape := ⟨3, ![1, 512, 512]⟩
abbrev S1x512x256 : Shape := ⟨3, ![1, 512, 256]⟩
abbrev S520x2816 : Shape := ⟨2, ![520, 2816]⟩
abbrev S512x1024 : Shape := ⟨2, ![512, 1024]⟩
abbrev S512x512 : Shape := ⟨2, ![512, 512]⟩
abbrev S8x2816 : Shape := ⟨2, ![8, 2816]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S512x256 : Shape := ⟨2, ![512, 256]⟩

abbrev nBuf : Space → Nat
  | .hbm => 24
  | .vmem => 20
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x256, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S8x8192x512, .bf16⟩
  | .hbm, ⟨14, _⟩ => ⟨S8x8192x512, .bf16⟩
  | .hbm, ⟨15, _⟩ => ⟨S1024x1024, .bf16⟩
  | .hbm, ⟨16, _⟩ => ⟨S1x1024, .f32⟩
  | .hbm, ⟨17, _⟩ => ⟨S1024x5632, .bf16⟩
  | .hbm, ⟨18, _⟩ => ⟨S1x2816, .f32⟩
  | .hbm, ⟨19, _⟩ => ⟨S2816x1024, .bf16⟩
  | .hbm, ⟨20, _⟩ => ⟨S1x1024, .f32⟩
  | .hbm, ⟨21, _⟩ => ⟨S1024x1024, .bf16⟩
  | .hbm, ⟨22, _⟩ => ⟨S256x1024, .bf16⟩
  | .hbm, ⟨23, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .f32⟩
  | .local _ .vmem, ⟨7, _⟩ => ⟨S1x512x256, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x2816, .f32⟩
  | .local _ .vmem, ⟨12, _⟩ => ⟨S1x2816, .f32⟩
  | .local _ .vmem, ⟨13, _⟩ => ⟨S2816x1024, .bf16⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S1x512x1024, .f32⟩
  | .local _ .vmem, ⟨18, _⟩ => ⟨S1x512x1024, .f32⟩
  | .local _ .vmem, ⟨19, _⟩ => ⟨S520x2816, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel2Ideal.lean ====
variable {F : FTy → Type} [FloatOps F] [Named F]
def κ : String → Option EReal := fun
  | "rsqrt2" => some (((Real.sqrt 2)⁻¹ : ℝ) : EReal)
  | _ => none
-- ==== Reference2Ideal.lean ====
abbrev S8x8192x1024 : Shape := ⟨3, ![8, 8192, 1024]⟩
abbrev S8x8192x512 : Shape := ⟨3, ![8, 8192, 512]⟩
abbrev S8x8192x256 : Shape := ⟨3, ![8, 8192, 256]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S8x8194x2816 : Shape := ⟨3, ![8, 8194, 2816]⟩
abbrev S1x2816 : Shape := ⟨2, ![1, 2816]⟩
abbrev S1x1x2816 : Shape := ⟨3, ![1, 1, 2816]⟩

abbrev nBuf : Space → Nat
  | .hbm => 108
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x256, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S8x8192x1024, .f32⟩
  | .hbm, ⟨17, _⟩ => ⟨S_, .f32⟩
  | .hbm, ⟨18, _⟩ => ⟨S8x8192, .f32⟩
  | .hbm, ⟨19, _⟩ => ⟨S8x8192x1, .f32⟩
  | .hbm, ⟨20, _⟩ => ⟨S_, .f32⟩
  | .hbm, ⟨21, _⟩ => ⟨S8x8192x1, .f32⟩
  | .hbm, ⟨22, _⟩ => ⟨S8x8192x1, .f32⟩
  | .hbm, ⟨23, _⟩ => ⟨S_, .f32⟩
  | .hbm, ⟨24, _⟩ => ⟨S8x8192x1, .f32⟩
  | .hbm, ⟨25, _⟩ => ⟨S8x8192x1, .f32⟩
  | .hbm, ⟨26, _⟩ => ⟨S8x8192x1, .f32⟩
  | .hbm, ⟨27, _⟩ => ⟨S8x8192x1024, .f32⟩
  | .hbm, ⟨28, _⟩ => ⟨S8x8192x1024, .f32⟩
  | .hbm, ⟨29, _⟩ => ⟨S1x1x1024, .f32⟩
  | .hbm, ⟨30, _⟩ => ⟨S8x8192x1024, .f32⟩
  | .hbm, ⟨31, _⟩ => ⟨S8x8192x1024, .f32⟩
  | .hbm, ⟨32, _⟩ => ⟨S8x8192x5632, .f32⟩
  | .hbm, ⟨33, _⟩ => ⟨S8x8192x2816, .f32⟩
  | .hbm, ⟨34, _⟩ => ⟨S8x8192x2816, .f32⟩
  | .hbm, ⟨35, _⟩ => ⟨S_, .i32⟩
  | .hbm, ⟨36, _⟩ => ⟨S_, .f32⟩
  | .hbm, ⟨37, _⟩ => ⟨S8x8194x2816, .f32⟩
  | .hbm, ⟨38, _⟩ => ⟨S1x2816, .f32⟩
  | .hbm, ⟨39, _⟩ => ⟨S2816, .f32⟩
  | .hbm, ⟨40, _⟩ => ⟨S8x8192x2816, .f32⟩
  | .hbm, ⟨41, _⟩ => ⟨S1x1x2816, .f32⟩
  | .hbm, ⟨42, _⟩ => ⟨S8x8192x2816, .f32⟩
  | .hbm, ⟨43, _⟩ => ⟨S8x8192x2816, .f32⟩
  | .hbm, ⟨44, _⟩ => ⟨S_, .f32⟩
  | .hbm, ⟨45, _⟩ => ⟨S8x8192x2816, .f32⟩
  | .hbm, ⟨46, _⟩ => ⟨S8x8192x2816, .f32⟩
  | .hbm, ⟨47, _⟩ => ⟨S1x2816, .f32⟩
  | .hbm, ⟨48, _⟩ => ⟨S2816, .f32⟩
  | .hbm, ⟨49, _⟩ => ⟨S8x8192x2816, .f32⟩
  | .hbm, ⟨50, _⟩ => ⟨S1x1x2816, .f32⟩
  | .hbm, ⟨51, _⟩ => ⟨S8x8192x2816, .f32⟩
  | .hbm, ⟨52, _⟩ => ⟨S8x8192x2816, .f32⟩
  | .hbm, ⟨53, _⟩ => ⟨S8x8192x2816, .f32⟩
  | .hbm, ⟨54, _⟩ => ⟨S1x2816, .f32⟩
  | .hbm, ⟨55, _⟩ => ⟨S2816, .f32⟩
  | .hbm, ⟨56, _⟩ => ⟨S8x8192x2816, .f32⟩
  | .hbm, ⟨57, _⟩ => ⟨S1x1x2816, .f32⟩
  | .hbm, ⟨58, _⟩ => ⟨S8x8192x2816, .f32⟩
  | .hbm, ⟨59, _⟩ => ⟨S8x8192x2816, .f32⟩
  | .hbm, ⟨60, _⟩ => ⟨S8x8192x2816, .f32⟩
  | .hbm, ⟨61, _⟩ => ⟨S1x1x2816, .f32⟩
  | .hbm, ⟨62, _⟩ => ⟨S8x8192x2816, .f32⟩
  | .hbm, ⟨63, _⟩ => ⟨S8x8192x2816, .f32⟩
  | .hbm, ⟨64, _⟩ => ⟨S_, .f32⟩
  | .hbm, ⟨65, _⟩ => ⟨S8x8192x2816, .f32⟩
  | .hbm, ⟨66, _⟩ => ⟨S8x8192x2816, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S8x8192x2816, .f32⟩
  | .hbm, ⟨71, _⟩ => ⟨S8x8192x2816, .f32⟩
  | .hbm, ⟨72, _⟩ => ⟨S8x8192x2816, .f32⟩
  | .hbm, ⟨73, _⟩ => ⟨S_, .f32⟩
  | .hbm, ⟨74, _⟩ => ⟨S8x8192x2816, .f32⟩
  | .hbm, ⟨75, _⟩ => ⟨S8x8192x2816, .f32⟩
  | .hbm, ⟨76, _⟩ => ⟨S8x8192x2816, .f32⟩
  | .hbm, ⟨77, _⟩ => ⟨S8x8192x2816, .f32⟩
  | .hbm, ⟨78, _⟩ => ⟨S8x8192x1024, .f32⟩
  | .hbm, ⟨79, _⟩ => ⟨S8x8192x1024, .f32⟩
  | .hbm, ⟨80, _⟩ => ⟨S8x8192x1024, .f32⟩
  | .hbm, ⟨81, _⟩ => ⟨S_, .f32⟩
  | .hbm, ⟨82, _⟩ => ⟨S8x8192, .f32⟩
  | .hbm, ⟨83, _⟩ => ⟨S8x8192x1, .f32⟩
  | .hbm, ⟨84, _⟩ => ⟨S_, .f32⟩
  | .hbm, ⟨85, _⟩ => ⟨S8x8192x1, .f32⟩
  | .hbm, ⟨86, _⟩ => ⟨S8x8192x1, .f32⟩
  | .hbm, ⟨87, _⟩ => ⟨S_, .f32⟩
  | .hbm, ⟨88, _⟩ => ⟨S8x8192x1, .f32⟩
  | .hbm, ⟨89, _⟩ => ⟨S8x8192x1, .f32⟩
  | .hbm, ⟨90, _⟩ => ⟨S8x8192x1, .f32⟩
  | .hbm, ⟨91, _⟩ => ⟨S8x8192x1024, .f32⟩
  | .hbm, ⟨92, _⟩ => ⟨S8x8192x1024, .f32⟩
  | .hbm, ⟨93, _⟩ => ⟨S1x1x1024, .f32⟩
  | .hbm, ⟨94, _⟩ => ⟨S8x8192x1024, .f32⟩
  | .hbm, ⟨95, _⟩ => ⟨S8x8192x1024, .f32⟩
  | .hbm, ⟨96, _⟩ => ⟨S8x8192x1024, .f32⟩
  | .hbm, ⟨97, _⟩ => ⟨S8x8192x1024, .f32⟩
  | .hbm, ⟨98, _⟩ => ⟨S8x8192x1024, .f32⟩
  | .hbm, ⟨99, _⟩ => ⟨S_, .f32⟩
  | .hbm, ⟨100, _⟩ => ⟨S8x8192x1024, .f32⟩
  | .hbm, ⟨101, _⟩ => ⟨S8x8192x1024, .f32⟩
  | .hbm, ⟨102, _⟩ => ⟨S_, .f32⟩
  | .hbm, ⟨103, _⟩ => ⟨S8x8192x1024, .f32⟩
  | .hbm, ⟨104, _⟩ => ⟨S8x8192x1024, .f32⟩
  | .hbm, ⟨105, _⟩ => ⟨S8x8192x1024, .f32⟩
  | .hbm, ⟨106, _⟩ => ⟨S8x8192x1024, .f32⟩
  | .hbm, ⟨107, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_9 : Ref sig .tc := ⟨.hbm, 99, rfl⟩
abbrev main_v74 : Ref sig .tc := ⟨.hbm, 100, rfl⟩
abbrev main_v75 : Ref sig .tc := ⟨.hbm, 101, rfl⟩
abbrev main_cst_10 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024 : Shape := ⟨1, ![1024]⟩
abbrev S1024x2560 : Shape := ⟨2, ![1024, 2560]⟩
abbrev S64 : Shape := ⟨1, ![64]⟩
abbrev S31x512 : Shape := ⟨2, ![31, 512]⟩
abbrev S512 : Shape := ⟨1, ![512]⟩
abbrev S512x512 : Shape := ⟨2, ![512, 512]⟩
abbrev S_ : Shape := ⟨0, ![]⟩
abbrev S1x64 : Shape := ⟨2, ![1, 64]⟩
abbrev S8x64 : Shape := ⟨2, ![8, 64]⟩
abbrev S1x512 : Shape := ⟨2, ![1, 512]⟩
abbrev S1x1024 : Shape := ⟨2, ![1, 1024]⟩
abbrev S8x8192x512 : Shape := ⟨3, ![8, 8192, 512]⟩
abbrev S1x512x1024 : Shape := ⟨3, ![1, 512, 1024]⟩
abbrev S1x512x512 : Shape := ⟨3, ![1, 512, 512]⟩
abbrev S544x512 : Shape := ⟨2, ![544, 512]⟩
abbrev S7x536x512 : Shape := ⟨3, ![7, 536, 512]⟩
abbrev S536x512 : Shape := ⟨2, ![536, 512]⟩
abbrev S1x536x512 : Shape := ⟨3, ![1, 536, 512]⟩
abbrev S512x1024 : Shape := ⟨2, ![512, 1024]⟩
abbrev S512x1 : Shape := ⟨2, ![512, 1]⟩
abbrev S64x512 : Shape := ⟨2, ![64, 512]⟩
abbrev S1x64x512 : Shape := ⟨3, ![1, 64, 512]⟩
abbrev S64x1 : Shape := ⟨2, ![64, 1]⟩
abbrev S1024x512 : Shape := ⟨2, ![1024, 512]⟩
abbrev S32x512 : Shape := ⟨2, ![32, 512]⟩

abbrev nBuf : Space → Nat
  | .hbm => 53
  | .vmem => 21
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2560, .f32⟩
  | .hbm, ⟨3, _⟩ => ⟨S64, .f32⟩
  | .hbm, ⟨4, _⟩ => ⟨S64, .f32⟩
  | .hbm, ⟨5, _⟩ => ⟨S31x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x512, .i32⟩
  | .hbm, ⟨10, _⟩ => ⟨S_, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S512x512, .i1⟩
  | .hbm, ⟨24, _⟩ => ⟨S_, .i32⟩
  | .hbm, ⟨25, _⟩ => ⟨S512x512, .i32⟩
  | .hbm, ⟨26, _⟩ => ⟨S512x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S_, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .bf16⟩
  | .hbm, ⟨36, _⟩ => ⟨S1x64, .f32⟩
  | .hbm, ⟨37, _⟩ => ⟨S8x64, .f32⟩
  | .hbm, ⟨38, _⟩ => ⟨S512, .f32⟩
  | .hbm, ⟨39, _⟩ => ⟨S1x512, .f32⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S1x512, .f32⟩
  | .hbm, ⟨44, _⟩ => ⟨S1x1024, .f32⟩
  | .hbm, ⟨45, _⟩ => ⟨S1024x2560, .bf16⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S8x8192x512, .bf16⟩
  | .hbm, ⟨50, _⟩ => ⟨S8x8192x512, .bf16⟩
  | .hbm, ⟨51, _⟩ => ⟨S8x8192x512, .bf16⟩
  | .hbm, ⟨52, _⟩ => ⟨S8x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2560, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S31x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S544x512, .f32⟩
  | .local _ .vmem, ⟨20, _⟩ => ⟨S7x536x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19_0 : Ref sig .tc := ⟨.hbm, 49, rfl⟩
abbrev main_v19_1 : Ref sig .tc := ⟨.hbm, 50, rfl⟩
abbrev main_v19_2 : Ref sig .tc := ⟨.hbm, 51, rfl⟩
abbrev main_v19_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8x8192x1024 : Shape := ⟨3, ![8, 8192, 1024]⟩
abbrev S1024 : Shape := ⟨1, ![1024]⟩
abbrev S1024x2560 : Shape := ⟨2, ![1024, 2560]⟩
abbrev S64 : Shape := ⟨1, ![64]⟩
abbrev S31x512 : Shape := ⟨2, ![31, 512]⟩
abbrev S512 : Shape := ⟨1, ![512]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2560 : Shape := ⟨3, ![8, 8192, 2560]⟩
abbrev S8x8192x512 : Shape := ⟨3, ![8, 8192, 512]⟩
abbrev S8x8222x512 : Shape := ⟨3, ![8, 8222, 512]⟩
abbrev S1x512 : Shape := ⟨2, ![1, 512]⟩
abbrev S1x1x512 : Shape := ⟨3, ![1, 1, 512]⟩
abbrev S8x8192x8x64 : Shape := ⟨4, ![8, 8192, 8, 64]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩

abbrev nBuf : Space → Nat
  | .hbm => 341
  | .vmem => 0
  | .smem => 0
  | _ => 0

abbrev hbmTy0_0 (i : Nat) : BufTy := match i % 128 with
  | 0 => ⟨S8x8192x1024, .f32⟩
  | 1 => ⟨S1024, .f32⟩
  | 2 => ⟨S1024x2560, .f32⟩
  | 3 => ⟨S64, .f32⟩
  | 4 => ⟨S64, .f32⟩
  | 5 => ⟨S31x512, .f32⟩
  | 6 => ⟨S512, .f32⟩
  | 7 => ⟨S512, .f32⟩
  | 8 => ⟨S512, .f32⟩
  | 9 => ⟨S8x8192x1024, .f32⟩
  | 10 => ⟨S_, .f32⟩
  | 11 => ⟨S8x8192, .f32⟩
  | 12 => ⟨S8x8192x1, .f32⟩
  | 13 => ⟨S_, .f32⟩
  | 14 => ⟨S8x8192x1, .f32⟩
  | 15 => ⟨S8x8192x1, .f32⟩
  | 16 => ⟨S_, .f32⟩
  | 17 => ⟨S8x8192x1, .f32⟩
  | 18 => ⟨S8x8192x1, .f32⟩
  | 19 => ⟨S8x8192x1, .f32⟩
  | 20 => ⟨S8x8192x1024, .f32⟩
  | 21 => ⟨S8x8192x1024, .f32⟩
  | 22 => ⟨S1x1x1024, .f32⟩
  | 23 => ⟨S8x8192x1024, .f32⟩
  | 24 => ⟨S8x8192x1024, .f32⟩
  | 25 => ⟨S8x8192x2560, .f32⟩
  | 26 => ⟨S8x8192x512, .f32⟩
  | 27 => ⟨S8x8192x512, .f32⟩
  | 28 => ⟨S8x8192x512, .f32⟩
  | 29 => ⟨S8x8192x512, .f32⟩
  | 30 => ⟨S8x8192x512, .f32⟩
  | 31 => ⟨S8x8192x512, .f32⟩
  | 32 => ⟨S8x8192x512, .f32⟩
  | 33 => ⟨S_, .f32⟩
  | 34 => ⟨S8x8192x512, .f32⟩
  | 35 => ⟨S8x8192x512, .f32⟩
  | 36 => ⟨S_, .f32⟩
  | 37 => ⟨S8x8192x512, .f32⟩
  | 38 => ⟨S8x8192x512, .f32⟩
  | 39 => ⟨S8x8192x512, .f32⟩
  | 40 => ⟨S_, .i32⟩
  | 41 => ⟨S_, .f32⟩
  | 42 => ⟨S8x8222x512, .f32⟩
  | 43 => ⟨S1x512, .f32⟩
  | 44 => ⟨S512, .f32⟩
  | 45 => ⟨S8x8192x512, .f32⟩
  | 46 => ⟨S1x1x512, .f32⟩
  | 47 => ⟨S8x8192x512, .f32⟩
  | 48 => ⟨S8x8192x512, .f32⟩
  | 49 => ⟨S_, .f32⟩
  | 50 => ⟨S8x8192x512, .f32⟩
  | 51 => ⟨S8x8192x512, .f32⟩
  | 52 => ⟨S1x512, .f32⟩
  | 53 => ⟨S512, .f32⟩
  | 54 => ⟨S8x8192x512, .f32⟩
  | 55 => ⟨S1x1x512, .f32⟩
  | 56 => ⟨S8x8192x512, .f32⟩
  | 57 => ⟨S8x8192x512, .f32⟩
  | 58 => ⟨S8x8192x512, .f32⟩
  | 59 => ⟨S1x512, .f32⟩
  | 60 => ⟨S512, .f32⟩
  | 61 => ⟨S8x8192x512, .f32⟩
  | 62 => ⟨S1x1x512, .f32⟩
  | 63 => ⟨S8x8192x512, .f32⟩
  | 64 => ⟨S8x8192x512, .f32⟩
  | 65 => ⟨S8x8192x512, .f32⟩
  | 66 => ⟨S1x512, .f32⟩
  | 67 => ⟨S512, .f32⟩
  | 68 => ⟨S8x8192x512, .f32⟩
  | 69 => ⟨S1x1x512, .f32⟩
  | 70 => ⟨S8x8192x512, .f32⟩
  | 71 => ⟨S8x8192x512, .f32⟩
  | 72 => ⟨S8x8192x512, .f32⟩
  | 73 => ⟨S1x512, .f32⟩
  | 74 => ⟨S512, .f32⟩
  | 75 => ⟨S8x8192x512, .f32⟩
  | 76 => ⟨S1x1x512, .f32⟩
  | 77 => ⟨S8x8192x512, .f32⟩
  | 78 => ⟨S8x8192x512, .f32⟩
  | 79 => ⟨S8x8192x512, .f32⟩
  | 80 => ⟨S1x512, .f32⟩
  | 81 => ⟨S512, .f32⟩
  | 82 => ⟨S8x8192x512, .f32⟩
  | 83 => ⟨S1x1x512, .f32⟩
  | 84 => ⟨S8x8192x512, .f32⟩
  | 85 => ⟨S8x8192x512, .f32⟩
  | 86 => ⟨S8x8192x512, .f32⟩
  | 87 => ⟨S1x512, .f32⟩
  | 88 => ⟨S512, .f32⟩
  | 89 => ⟨S8x8192x512, .f32⟩
  | 90 => ⟨S1x1x512, .f32⟩
  | 91 => ⟨S8x8192x512, .f32⟩
  | 92 => ⟨S8x8192x512, .f32⟩
  | 93 => ⟨S8x8192x512, .f32⟩
  | 94 => ⟨S1x512, .f32⟩
  | 95 => ⟨S512, .f32⟩
  | 96 => ⟨S8x8192x512, .f32⟩
  | 97 => ⟨S1x1x512, .f32⟩
  | 98 => ⟨S8x8192x512, .f32⟩
  | 99 => ⟨S8x8192x512, .f32⟩
  | 100 => ⟨S8x8192x512, .f32⟩
  | 101 => ⟨S1x512, .f32⟩
  | 102 => ⟨S512, .f32⟩
  | 103 => ⟨S8x8192x512, .f32⟩
  | 104 => ⟨S1x1x512, .f32⟩
  | 105 => ⟨S8x8192x512, .f32⟩
  | 106 => ⟨S8x8192x512, .f32⟩
  | 107 => ⟨S8x8192x512, .f32⟩
  | 108 => ⟨S1x512, .f32⟩
  | 109 => ⟨S512, .f32⟩
  | 110 => ⟨S8x8192x512, .f32⟩
  | 111 => ⟨S1x1x512, .f32⟩
  | 112 => ⟨S8x8192x512, .f32⟩
  | 113 => ⟨S8x8192x512, .f32⟩
  | 114 => ⟨S8x8192x512, .f32⟩
  | 115 => ⟨S1x512, .f32⟩
  | 116 => ⟨S512, .f32⟩
  | 117 => ⟨S8x8192x512, .f32⟩
  | 118 => ⟨S1x1x512, .f32⟩
  | 119 => ⟨S8x8192x512, .f32⟩
  | 120 => ⟨S8x8192x512, .f32⟩
  | 121 => ⟨S8x8192x512, .f32⟩
  | 122 => ⟨S1x512, .f32⟩
  | 123 => ⟨S512, .f32⟩
  | 124 => ⟨S8x8192x512, .f32⟩
  | 125 => ⟨S1x1x512, .f32⟩
  | 126 => ⟨S8x8192x512, .f32⟩
  | 127 => ⟨S8x8192x512, .f32⟩
  | _ => ⟨S8x8192x1024, .f32⟩

abbrev hbmTy0_1 (i : Nat) : BufTy := match i % 128 with
  | 0 => ⟨S8x8192x512, .f32⟩
  | 1 => ⟨S1x512, .f32⟩
  | 2 => ⟨S512, .f32⟩
  | 3 => ⟨S8x8192x512, .f32⟩
  | 4 => ⟨S1x1x512, .f32⟩
  | 5 => ⟨S8x8192x512, .f32⟩
  | 6 => ⟨S8x8192x512, .f32⟩
  | 7 => ⟨S8x8192x512, .f32⟩
  | 8 => ⟨S1x512, .f32⟩
  | 9 => ⟨S512, .f32⟩
  | 10 => ⟨S8x8192x512, .f32⟩
  | 11 => ⟨S1x1x512, .f32⟩
  | 12 => ⟨S8x8192x512, .f32⟩
  | 13 => ⟨S8x8192x512, .f32⟩
  | 14 => ⟨S8x8192x512, .f32⟩
  | 15 => ⟨S1x512, .f32⟩
  | 16 => ⟨S512, .f32⟩
  | 17 => ⟨S8x8192x512, .f32⟩
  | 18 => ⟨S1x1x512, .f32⟩
  | 19 => ⟨S8x8192x512, .f32⟩
  | 20 => ⟨S8x8192x512, .f32⟩
  | 21 => ⟨S8x8192x512, .f32⟩
  | 22 => ⟨S1x512, .f32⟩
  | 23 => ⟨S512, .f32⟩
  | 24 => ⟨S8x8192x512, .f32⟩
  | 25 => ⟨S1x1x512, .f32⟩
  | 26 => ⟨S8x8192x512, .f32⟩
  | 27 => ⟨S8x8192x512, .f32⟩
  | 28 => ⟨S8x8192x512, .f32⟩
  | 29 => ⟨S1x512, .f32⟩
  | 30 => ⟨S512, .f32⟩
  | 31 => ⟨S8x8192x512, .f32⟩
  | 32 => ⟨S1x1x512, .f32⟩
  | 33 => ⟨S8x8192x512, .f32⟩
  | 34 => ⟨S8x8192x512, .f32⟩
  | 35 => ⟨S8x8192x512, .f32⟩
  | 36 => ⟨S1x512, .f32⟩
  | 37 => ⟨S512, .f32⟩
  | 38 => ⟨S8x8192x512, .f32⟩
  | 39 => ⟨S1x1x512, .f32⟩
  | 40 => ⟨S8x8192x512, .f32⟩
  | 41 => ⟨S8x8192x512, .f32⟩
  | 42 => ⟨S8x8192x512, .f32⟩
  | 43 => ⟨S1x512, .f32⟩
  | 44 => ⟨S512, .f32⟩
  | 45 => ⟨S8x8192x512, .f32⟩
  | 46 => ⟨S1x1x512, .f32⟩
  | 47 => ⟨S8x8192x512, .f32⟩
  | 48 => ⟨S8x8192x512, .f32⟩
  | 49 => ⟨S8x8192x512, .f32⟩
  | 50 => ⟨S1x512, .f32⟩
  | 51 => ⟨S512, .f32⟩
  | 52 => ⟨S8x8192x512, .f32⟩
  | 53 => ⟨S1x1x512, .f32⟩
  | 54 => ⟨S8x8192x512, .f32⟩
  | 55 => ⟨S8x8192x512, .f32⟩
  | 56 => ⟨S8x8192x512, .f32⟩
  | 57 => ⟨S1x512, .f32⟩
  | 58 => ⟨S512, .f32⟩
  | 59 => ⟨S8x8192x512, .f32⟩
  | 60 => ⟨S1x1x512, .f32⟩
  | 61 => ⟨S8x8192x512, .f32⟩
  | 62 => ⟨S8x8192x512, .f32⟩
  | 63 => ⟨S8x8192x512, .f32⟩
  | 64 => ⟨S1x512, .f32⟩
  | 65 => ⟨S512, .f32⟩
  | 66 => ⟨S8x8192x512, .f32⟩
  | 67 => ⟨S1x1x512, .f32⟩
  | 68 => ⟨S8x8192x512, .f32⟩
  | 69 => ⟨S8x8192x512, .f32⟩
  | 70 => ⟨S8x8192x512, .f32⟩
  | 71 => ⟨S1x512, .f32⟩
  | 72 => ⟨S512, .f32⟩
  | 73 => ⟨S8x8192x512, .f32⟩
  | 74 => ⟨S1x1x512, .f32⟩
  | 75 => ⟨S8x8192x512, .f32⟩
  | 76 => ⟨S8x8192x512, .f32⟩
  | 77 => ⟨S8x8192x512, .f32⟩
  | 78 => ⟨S1x512, .f32⟩
  | 79 => ⟨S512, .f32⟩
  | 80 => ⟨S8x8192x512, .f32⟩
  | 81 => ⟨S1x1x512, .f32⟩
  | 82 => ⟨S8x8192x512, .f32⟩
  | 83 => ⟨S8x8192x512, .f32⟩
  | 84 => ⟨S8x8192x512, .f32⟩
  | 85 => ⟨S1x512, .f32⟩
  | 86 => ⟨S512, .f32⟩
  | 87 => ⟨S8x8192x512, .f32⟩
  | 88 => ⟨S1x1x512, .f32⟩
  | 89 => ⟨S8x8192x512, .f32⟩
  | 90 => ⟨S8x8192x512, .f32⟩
  | 91 => ⟨S8x8192x512, .f32⟩
  | 92 => ⟨S1x512, .f32⟩
  | 93 => ⟨S512, .f32⟩
  | 94 => ⟨S8x8192x512, .f32⟩
  | 95 => ⟨S1x1x512, .f32⟩
  | 96 => ⟨S8x8192x512, .f32⟩
  | 97 => ⟨S8x8192x512, .f32⟩
  | 98 => ⟨S8x8192x512, .f32⟩
  | 99 => ⟨S1x512, .f32⟩
  | 100 => ⟨S512, .f32⟩
  | 101 => ⟨S8x8192x512, .f32⟩
  | 102 => ⟨S1x1x512, .f32⟩
  | 103 => ⟨S8x8192x512, .f32⟩
  | 104 => ⟨S8x8192x512, .f32⟩
  | 105 => ⟨S8x8192x512, .f32⟩
  | 106 => ⟨S1x512, .f32⟩
  | 107 => ⟨S512, .f32⟩
  | 108 => ⟨S8x8192x512, .f32⟩
  | 109 => ⟨S1x1x512, .f32⟩
  | 110 => ⟨S8x8192x512, .f32⟩
  | 111 => ⟨S8x8192x512, .f32⟩
  | 112 => ⟨S8x8192x512, .f32⟩
  | 113 => ⟨S1x512, .f32⟩
  | 114 => ⟨S512, .f32⟩
  | 115 => ⟨S8x8192x512, .f32⟩
  | 116 => ⟨S1x1x512, .f32⟩
  | 117 => ⟨S8x8192x512, .f32⟩
  | 118 => ⟨S8x8192x512, .f32⟩
  | 119 => ⟨S8x8192x512, .f32⟩
  | 120 => ⟨S1x512, .f32⟩
  | 121 => ⟨S512, .f32⟩
  | 122 => ⟨S8x8192x512, .f32⟩
  | 123 => ⟨S1x1x512, .f32⟩
  | 124 => ⟨S8x8192x512, .f32⟩
  | 125 => ⟨S8x8192x512, .f32⟩
  | 126 => ⟨S8x8192x512, .f32⟩
  | 127 => ⟨S1x512, .f32⟩
  | _ => ⟨S8x8192x1024, .f32⟩

abbrev hbmTy0_2 (i : Nat) : BufTy := match i % 128 with
  | 0 => ⟨S512, .f32⟩
  | 1 => ⟨S8x8192x512, .f32⟩
  | 2 => ⟨S1x1x512, .f32⟩
  | 3 => ⟨S8x8192x512, .f32⟩
  | 4 => ⟨S8x8192x512, .f32⟩
  | 5 => ⟨S8x8192x512, .f32⟩
  | 6 => ⟨S1x1x512, .f32⟩
  | 7 => ⟨S8x8192x512, .f32⟩
  | 8 => ⟨S8x8192x512, .f32⟩
  | 9 => ⟨S_, .f32⟩
  | 10 => ⟨S8x8192, .f32⟩
  | 11 => ⟨S8x8192x1, .f32⟩
  | 12 => ⟨S_, .f32⟩
  | 13 => ⟨S8x8192x1, .f32⟩
  | 14 => ⟨S8x8192x1, .f32⟩
  | 15 => ⟨S8x8192x512, .f32⟩
  | 16 => ⟨S8x8192x512, .f32⟩
  | 17 => ⟨S8x8192x512, .f32⟩
  | 18 => ⟨S_, .f32⟩
  | 19 => ⟨S8x8192, .f32⟩
  | 20 => ⟨S8x8192x1, .f32⟩
  | 21 => ⟨S_, .f32⟩
  | 22 => ⟨S8x8192x1, .f32⟩
  | 23 => ⟨S8x8192x1, .f32⟩
  | 24 => ⟨S_, .f32⟩
  | 25 => ⟨S8x8192x1, .f32⟩
  | 26 => ⟨S8x8192x1, .f32⟩
  | 27 => ⟨S8x8192x1, .f32⟩
  | 28 => ⟨S8x8192x512, .f32⟩
  | 29 => ⟨S8x8192x512, .f32⟩
  | 30 => ⟨S1x1x512, .f32⟩
  | 31 => ⟨S8x8192x512, .f32⟩
  | 32 => ⟨S8x8192x512, .f32⟩
  | 33 => ⟨S1x1x512, .f32⟩
  | 34 => ⟨S8x8192x512, .f32⟩
  | 35 => ⟨S8x8192x512, .f32⟩
  | 36 => ⟨S8x8192x512, .f32⟩
  | 37 => ⟨S8x8192x512, .f32⟩
  | 38 => ⟨S_, .f32⟩
  | 39 => ⟨S8x8192x512, .f32⟩
  | 40 => ⟨S8x8192x512, .f32⟩
  | 41 => ⟨S_, .f32⟩
  | 42 => ⟨S8x8192x512, .f32⟩
  | 43 => ⟨S8x8192x512, .f32⟩
  | 44 => ⟨S8x8192x512, .f32⟩
  | 45 => ⟨S8x8192x8x64, .f32⟩
  | 46 => ⟨S8x8192x8x64, .f32⟩
  | 47 => ⟨S_, .f32⟩
  | 48 => ⟨S8x8192x8, .f32⟩
  | 49 => ⟨S8x8192x8x1, .f32⟩
  | 50 => ⟨S_, .f32⟩
  | 51 => ⟨S8x8192x8x1, .f32⟩
  | 52 => ⟨S8x8192x8x1, .f32⟩
  | 53 => ⟨S_, .f32⟩
  | 54 => ⟨S8x8192x8x1, .f32⟩
  | 55 => ⟨S8x8192x8x1, .f32⟩
  | 56 => ⟨S8x8192x8x1, .f32⟩
  | 57 => ⟨S8x8192x8x64, .f32⟩
  | 58 => ⟨S8x8192x8x64, .f32⟩
  | 59 => ⟨S1x1x1x64, .f32⟩
  | 60 => ⟨S8x8192x8x64, .f32⟩
  | 61 => ⟨S8x8192x8x64, .f32⟩
  | 62 => ⟨S8x8192x512, .f32⟩
  | 63 => ⟨S8x8192x512, .bf16⟩
  | 64 => ⟨S8x8192x8x64, .f32⟩
  | 65 => ⟨S8x8192x8x64, .f32⟩
  | 66 => ⟨S_, .f32⟩
  | 67 => ⟨S8x8192x8, .f32⟩
  | 68 => ⟨S8x8192x8x1, .f32⟩
  | 69 => ⟨S_, .f32⟩
  | 70 => ⟨S8x8192x8x1, .f32⟩
  | 71 => ⟨S8x8192x8x1, .f32⟩
  | 72 => ⟨S_, .f32⟩
  | 73 => ⟨S8x8192x8x1, .f32⟩
  | 74 => ⟨S8x8192x8x1, .f32⟩
  | 75 => ⟨S8x8192x8x1, .f32⟩
  | 76 => ⟨S8x8192x8x64, .f32⟩
  | 77 => ⟨S8x8192x8x64, .f32⟩
  | 78 => ⟨S1x1x1x64, .f32⟩
  | 79 => ⟨S8x8192x8x64, .f32⟩
  | 80 => ⟨S8x8192x8x64, .f32⟩
  | 81 => ⟨S8x8192x512, .f32⟩
  | 82 => ⟨S8x8192x512, .bf16⟩
  | 83 => ⟨S8x8192x512, .bf16⟩
  | 84 => ⟨S8x8192x512, .bf16⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_cst_5 : Ref sig .tc := ⟨.hbm, 265, rfl⟩
abbrev main_v248 : Ref sig .tc := ⟨.hbm, 266, rfl⟩
abbrev main_v249 : Ref sig .tc := ⟨.hbm, 267, rfl⟩
abbrev main_cst_6 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_cst_7 : Ref sig .tc := ⟨.hbm, 274, rfl⟩
abbrev main_v255 : Ref sig .tc := ⟨.hbm, 275, rfl⟩
abbrev main_v256 : Ref sig .tc := ⟨.hbm, 276, rfl⟩
abbrev main_cst_8 : Ref sig .tc := ⟨.hbm, 277, rfl⟩
abbrev main_v257 : Ref sig .tc := ⟨.hbm, 278, rfl⟩
abbrev main_v258 : Ref sig .tc := ⟨.hbm, 279, rfl⟩
abbrev main_cst_9 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_cst_10 : Ref sig .tc := ⟨.hbm, 294, rfl⟩
abbrev main_v272 : Ref sig .tc := ⟨.hbm, 295, rfl⟩
abbrev main_v273 : Ref sig .tc := ⟨.hbm, 296, rfl⟩
abbrev main_cst_11 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_cst_12 : Ref sig .tc := ⟨.hbm, 303, rfl⟩
abbrev main_v279 : Ref sig .tc := ⟨.hbm, 304, rfl⟩
abbrev main_v280 : Ref sig .tc := ⟨.hbm, 305, rfl⟩
abbrev main_cst_13 : Ref sig .tc := ⟨.hbm, 306, rfl⟩
abbrev main_v281 : Ref sig .tc := ⟨.hbm, 307, rfl⟩
abbrev main_v282 : Ref sig .tc := ⟨.hbm, 308, rfl⟩
abbrev main_cst_14 : Ref sig .tc := ⟨.hbm, 309, rfl⟩
abbrev main_v283 : Ref sig .tc := ⟨.hbm, 310, rfl⟩
abbrev main_v284 : Ref sig .tc := ⟨.hbm, 311, rfl⟩
abbrev main_v285 : Ref sig .tc := ⟨.hbm, 312, rfl⟩
abbrev main_v286 : Ref sig .tc := ⟨.hbm, 313, rfl⟩
abbrev main_v287 : Ref sig .tc := ⟨.hbm, 314, rfl⟩
abbrev main_v288 : Ref sig .tc := ⟨.hbm, 315, rfl⟩
abbrev main_v289 : Ref sig .tc := ⟨.hbm, 316, rfl⟩
abbrev main_v290 : Ref sig .tc := ⟨.hbm, 317, rfl⟩
abbrev main_v291 : Ref sig .tc := ⟨.hbm, 318, rfl⟩
abbrev main_v292 : Ref sig .tc := ⟨.hbm, 319, rfl⟩
abbrev main_v293 : Ref sig .tc := ⟨.hbm, 320, rfl⟩
abbrev main_v294 : Ref sig .tc := ⟨.hbm, 321, rfl⟩
abbrev main_cst_15 : Ref sig .tc := ⟨.hbm, 322, rfl⟩
abbrev main_v295 : Ref sig .tc := ⟨.hbm, 323, rfl⟩
abbrev main_v296 : Ref sig .tc := ⟨.hbm, 324, rfl⟩
abbrev main_cst_16 : Ref sig .tc := ⟨.hbm, 325, rfl⟩
abbrev main_v297 : Ref sig .tc := ⟨.hbm, 326, rfl⟩
abbrev main_v298 : Ref sig .tc := ⟨.hbm, 327, rfl⟩
abbrev main_cst_17 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_v305 : Ref sig .tc := ⟨.hbm, 335, rfl⟩
abbrev main_v306 : Ref sig .tc := ⟨.hbm, 336, rfl⟩
abbrev main_v307 : Ref sig .tc := ⟨.hbm, 337, rfl⟩
abbrev main_v308 : Ref sig .tc := ⟨.hbm, 338, rfl⟩
abbrev main_v309 : Ref sig .tc := ⟨.hbm, 339, rfl⟩
abbrev main_v310 : Ref sig .tc := ⟨.hbm, 340, rfl⟩

abbrev nD : Nat := 1
abbrev τ : Topo := Topo.v7x

variable {F : FTy → Type} [FloatOps F]
-- ==== Proof.KI.Common.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (show ∀ w : Fin 5, (spec0 w).arr.view.ref ≠ main_arg0 by decide))).trans (V_main_arg0 m c),
      ((h c).2 main_arg1 (Pipeline.mem_restRefs_of main_arg1 (by decide) (show ∀ w : Fin 5, (spec0 w).arr.view.ref ≠ main_arg1 by decide))).trans (V_main_arg1 m c),
      ((h c).2 main_arg2 (Pipeline.mem_restRefs_of main_arg2 (by decide) (show ∀ w : Fin 5, (spec0 w).arr.view.ref ≠ main_arg2 by decide))).trans (V_main_arg2 m c)⟩) h

/-! ## The kernel body on any staging memrefs: a subtype the run finds -/

/-- One staging buffer of output window 4, through which its contents are stated (`View.read_writes_of_cover`: the
    choice does not matter). -/
abbrev VO0_4 : View sig .tc .vmem S1x256x512 .bf16 := (Memref.whole cc0_stg4_0 : Memref sig .tc .vmem S1x256x512 .bf16).view
/-- Each window's current staging memref at point `t`, spelled as the pipeline passes it (`bodyAt0`), and its wholeness. -/
abbrev ms0_0 (t : Fin (cfg0 (F := F)).N) : Memref sig .tc .vmem S1x256x512 .bf16 := win0_0.stage ((cfg0 (F := F)).slots t 0)
abbrev hs0_0 (t : Fin (cfg0 (F := F)).N) : (ms0_0 (F := F) t).IsWhole := hstage0_0 (((cfg0 (F := F)).slots t 0).cast nbuf0_0)
abbrev ms0_1 (t : Fin (cfg0 (F := F)).N) : Memref sig .tc .vmem S1x8192x512 .bf16 := win0_1.stage ((cfg0 (F := F)).slots t 1)
abbrev hs0_1 (t : Fin (cfg0 (F := F)).N) : (ms0_1 (F := F) t).IsWhole := hstage0_1 (((cfg0 (F := F)).slots t 1).cast nbuf0_1)
abbrev ms0_2 (t : Fin (cfg0 (F := F)).N) : Memref sig .tc .vmem S1x8192x512 .bf16 := win0_2.stage ((cfg0 (F := F)).slots t 2)
abbrev hs0_2 (t : Fin (cfg0 (F := F)).N) : (ms0_2 (F := F) t).IsWhole := hstage0_2 (((cfg0 (F := F)).slots t 2).cast nbuf0_2)
abbrev ms0_3 (t : Fin (cfg0 (F := F)).N) : Memref sig .tc .vmem S256x256 .bf16 := win0_3.stage ((cfg0 (F := F)).slots t 3)
abbrev hs0_3 (t : Fin (cfg0 (F := F)).N) : (ms0_3 (F := F) t).IsWhole := hstage0_3 (((cfg0 (F := F)).slots t 3).cast nbuf0_3)
abbrev ms0_4 (t : Fin (cfg0 (F := F)).N) : Memref sig .tc .vmem S1x256x512 .bf16 := win0_4.stage ((cfg0 (F := F)).slots t 4)
abbrev hs0_4 (t : Fin (cfg0 (F := F)).N) : (ms0_4 (F := F) t).IsWhole := hstage0_4 (((cfg0 (F := F)).slots t 4).cast nbuf0_4)
/-- The scratch operands: whole scoped buffers of the kernel's own, passed beside the windows. -/
abbrev scM0_0 : Memref sig .tc .vmem S4x512x128 .bf16 := Memref.whole cc0_scratch0
abbrev scM0_1 : Memref sig .tc .vmem S4x512x128 .f32 := Memref.whole cc0_scratch1
abbrev scM0_2 : Memref sig .tc .vmem S4x512x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Proof.KI

end
-- ==== Proof.KI.Step.lean ====
module

public import proofs.«01_k».proof.Proof.KI.Common
public import Idealize.ShloMosaic.Lib.VecWindow
public import Idealize.ShloMosaic.Lib.ValueIdxCoords

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

/-! ## Blocks of a buffer -/

/-- The four lane pairs' blocks, stacked. -/
def stack {e : EltTy} (w : Fin 4 → Vec F S1x512x128 e) : Vec F S4x512x128 e := fun y => w (y 0) (ix3 0 (y 1) (y 2))

/-- Lane pair `p`'s block of a stacked buffer. -/
def pair {e : EltTy} (x : Vec F S4x512x128 e) : Fin 4 → Vec F S1x512x128 e
  | 0 => VecWindow.window x ![0, 0, 0] S1x512x128.size inb_S4x512x128_S1x512x128_0_0_0
  | 1 => VecWindow.window x ![1, 0, 0] S1x512x128.size inb_S4x512x128_S1x512x128_1_0_0
  | 2 => VecWindow.window x ![2, 0, 0] S1x512x128.size inb_S4x512x128_S1x512x128_2_0_0
  | 3 => VecWindow.window x ![3, 0, 0] S1x512x128.size inb_S4x512x128_S1x512x128_3_0_0

/-- The diagonal block's 256 rows of the keys (or the values) at each lane pair's lanes. -/
def diagRows (x : Vec F S1x8192x512 .bf16) (i : grid0.Coords) : Fin 4 → Vec F S1x256x128 .bf16
  | 0 => VecWindow.window x (k0_off1 i) S1x256x128.size (k0_off1_inb i)
  | 1 => VecWindow.window x (k0_off2 i) S1x256x128.size (k0_off2_inb i)
  | 2 => VecWindow.window x (k0_off3 i) S1x256x128.size (k0_off3_inb i)
  | 3 => VecWindow.window x (k0_off4 i) S1x256x128.size (k0_off4_inb i)

/-- The rows of the block before the diagonal one, likewise. -/
def prevRows (x : Vec F S1x8192x512 .bf16) (i : grid0.Coords) : Fin 4 → Vec F S1x256x128 .bf16
  | 0 => VecWindow.window x (k0_off5 i) S1x256x128.size (k0_off5_inb i)
  | 1 => VecWindow.window x (k0_off6 i) S1x256x128.size (k0_off6_inb i)
  | 2 => VecWindow.window x (k0_off7 i) S1x256x128.size (k0_off7_inb i)
  | 3 => VecWindow.window x (k0_off8 i) S1x256x128.size (k0_off8_inb i)

/-- The rows of the block the loop is at, likewise. -/
def tripRows (x : Vec F S1x8192x512 .bf16) (kv : BitVec 32) (hk : k0_chk1 kv) : Fin 4 → Vec F S1x256x128 .bf16
  | 0 => VecWindow.window x (k0_off9 kv) S1x256x128.size (k0_off9_inb kv hk)
  | 1 => VecWindow.window x (k0_off10 kv) S1x256x128.size (k0_off10_inb kv hk)
  | 2 => VecWindow.window x (k0_off11 kv) S1x256x128.size (k0_off11_inb kv hk)
  | 3 => VecWindow.window x (k0_off12 kv) S1x256x128.size (k0_off12_inb kv hk)

/-! ## One lane pair against one block of keys -/

/-- The scores, in base two. -/
def score (k : Vec F S1x256x128 .bf16) (q : Vec F S1x512x128 .bf16) : FVec F S512x256 .f32 :=
  matmul dot_S512x128_S256x128_S512x256_1_1_0_0_n_n none (shapeCast S512x128 q shapeCasts_S1x512x128_S512x128)
    (shapeCast S256x128 k shapeCasts_S1x256x128_S256x128) (constant S512x256 .f32 0x00000000#32)

/-- `log₂(1 + 2^z)`, the exponent capped at a hundred. -/
def soft (z : FVec F S512x256 .f32) : FVec F S512x256 .f32 :=
  maximumf (mulf (log (addf (broadcast S512x256 (Scalar.ofBits .f32 0x3F800000#32 : F .f32))
      (exp2 (minimumf z (broadcast S512x256 (Scalar.ofBits .f32 0x42C80000#32 : F .f32))))))
    (broadcast S512x256 (Named.named κ "log2e" 0x3FB8AA3B#32 : F .f32))) z

/-- Which keys of the diagonal block a row sees: those strictly before it. -/
def before : IVec S512x256 1 :=
  cmpi .slt (iota .tc S512x256 32 [1] iota_S512x256_d1_w32)
    (select (cmpi .sge (iota .tc S512x256 32 [0] iota_S512x256_d0_w32) (broadcast S512x256 256#32))
      (subi (iota .tc S512x256 32 [0] iota_S512x256_d0_w32) (broadcast S512x256 256#32))
      (iota .tc S512x256 32 [0] iota_S512x256_d0_w32))

/-- Zero at the keys a row of the diagonal block does not see. -/
def masked (x : FVec F S512x256 .f32) : FVec F S512x256 .f32 :=
  select before x (broadcast S512x256 (Scalar.ofBits .f32 0x00000000#32 : F .f32))

/-- The product with the triangle: minus the sums from each key on. -/
def sums (p : FVec F S512x256 .bf16) (tri : Vec F S256x256 .bf16) : FVec F S512x256 .f32 :=
  matmul dot_S512x256_S256x256_S512x256_1_0_0_1_n_n none p (shapeCast S256x256 (VecWindow.window tri ![0, 0] S256x256.size inb_S256x256_S256x256_0_0) shapeCasts_S256x256_S256x256) (constant S512x256 .f32 0x00000000#32)

/-- The sum over the whole block: the triangle product's first column. -/
def total (b : FVec F S512x256 .f32) : FVec F S512x1 .f32 := extractStridedSlice S512x1 ![0, 0] b slices_S512x256_o0_0_S512x1

/-- The weights times the values. -/
def mix (w : FVec F S512x256 .bf16) (v : Vec F S1x256x128 .bf16) : FVec F S512x128 .f32 :=
  matmul dot_S512x256_S256x128_S512x128_1_0_0_1_n_n none w (shapeCast S256x128 v shapeCasts_S1x256x128_S256x128) (constant S512x128 .f32 0x00000000#32)

/-- A column repeated over the lanes. -/
def spread (t : FVec F S512x1 .f32) : FVec F S512x128 .f32 := broadcastTo S512x128 t broadcasts_S512x1_S512x128

/-- The diagonal block's triangle product. -/
def diagSums (k : Vec F S1x256x128 .bf16) (q : Vec F S1x512x128 .bf16) (tri : Vec F S256x256 .bf16) : FVec F S512x256 .f32 :=
  sums (truncf .bf16 (masked (soft (score k q))) bitsLt_bf16_f32) tri

/-- The diagonal block's weighted values. -/
def diagMix (k v : Vec F S1x256x128 .bf16) (q : Vec F S1x512x128 .bf16) (tri : Vec F S256x256 .bf16) : FVec F S512x128 .f32 :=
  mix (truncf .bf16 (masked (exp2 (addf (score k q) (diagSums k q tri)))) bitsLt_bf16_f32) v

/-- A whole block's triangle product. -/
def fullSums (k : Vec F S1x256x128 .bf16) (q : Vec F S1x512x128 .bf16) (tri : Vec F S256x256 .bf16) : FVec F S512x256 .f32 :=
  sums (truncf .bf16 (soft (score k q)) bitsLt_bf16_f32) tri

/-- A whole block's weighted values. -/
def fullMix (k v : Vec F S1x256x128 .bf16) (q : Vec F S1x512x128 .bf16) (tri : Vec F S256x256 .bf16) : FVec F S512x128 .f32 :=
  mix (truncf .bf16 (exp2 (addf (score k q) (fullSums k q tri))) bitsLt_bf16_f32) v

/-! ## The state before the loop -/

/-- What the diagonal block leaves of each row's stick, in the exponent. -/
def run1 (k : Vec F S1x256x128 .bf16) (q : Vec F S1x512x128 .bf16) (tri : Vec F S256x256 .bf16) : FVec F S512x128 .f32 :=
  spread (shapeCast S512x1 (total (diagSums k q tri)) shapeCasts_S512x1_S512x1)

/-- The same after the block before it. -/
def run2 (k k' : Vec F S1x256x128 .bf16) (q : Vec F S1x512x128 .bf16) (tri : Vec F S256x256 .bf16) : FVec F S512x128 .f32 :=
  addf (run1 k q tri) (spread (total (fullSums k' q tri)))

/-- The accumulated values after these two blocks; of the second nothing where there is none. -/
def acc2 (blk : BitVec 32) (k v k' v' : Vec F S1x256x128 .bf16) (q : Vec F S1x512x128 .bf16) (tri : Vec F S256x256 .bf16) : FVec F S512x128 .f32 :=
  addf (diagMix k v q tri)
    (mulf (Scalar.select (Scalar.cmpi .sgt blk 0#32) (exp2 (run1 k q tri)) (broadcast S512x128 (Scalar.ofBits .f32 0x00000000#32 : F .f32)))
      (fullMix k' v' q tri))

/-! ## One trip -/

/-- What is left of each row's stick after one more block. -/
def runNext (k : Vec F S1x256x128 .bf16) (q : Vec F S1x512x128 .bf16) (tri : Vec F S256x256 .bf16) (r : Vec F S1x512x128 .f32) : FVec F S512x128 .f32 :=
  addf (shapeCast S512x128 r shapeCasts_S1x512x128_S512x128) (spread (total (fullSums k q tri)))

/-- The accumulated values after one more block. -/
def accNext (k v : Vec F S1x256x128 .bf16) (q : Vec F S1x512x128 .bf16) (tri : Vec F S256x256 .bf16) (r a : Vec F S1x512x128 .f32) : FVec F S512x128 .f32 :=
  addf (shapeCast S512x128 a shapeCasts_S1x512x128_S512x128) (mulf (exp2 (shapeCast S512x128 r shapeCasts_S1x512x128_S512x128)) (fullMix k v q tri))

/-- A pair's block as the buffer holds it. -/
def boxed (x : FVec F S512x128 .f32) : Vec F S1x512x128 .f32 := shapeCast S1x512x128 x shapeCasts_S512x128_S1x512x128

/-- Whether any row of the four pairs still has some of its stick left. -/
def alive (r0 r1 r2 r3 : FVec F S512x128 .f32) : BitVec 1 :=
  Scalar.cmpf .ogt (extractAt ![0, 0, 0] (shapeCast S1x1x1 (multiReduction .maximumf [1, 2] S1
      (shapeCast S1x512x128 (maximumf (maximumf (maximumf (exp2 r0) (exp2 r1)) (exp2 r2)) (exp2 r3)) shapeCasts_S512x128_S1x512x128)
      0xFF800000#32 reduces_S1x512x128_S1 (.inl rfl) rfl) shapeCasts_S1_S1x1x1) inpos_S1x1x1_p0_0_0 : F .f32) (Scalar.ofBits .f32 0x00000000#32)

section Loop
variable (xk xv : Vec F S1x8192x512 .bf16) (tri : Vec F S256x256 .bf16) (q2 : Vec F S4x512x128 .bf16)

/-- One trip at block `kv`: the new remainders of each pair. -/
def tripRun (kv : BitVec 32) (hk : k0_chk1 kv) (r : Vec F S4x512x128 .f32) (p : Fin 4) : FVec F S512x128 .f32 :=
  runNext (tripRows xk kv hk p) (pair q2 p) tri (pair r p)

/-- One trip at block `kv`: the new accumulated values of each pair. -/
def tripAcc (kv : BitVec 32) (hk : k0_chk1 kv) (a r : Vec F S4x512x128 .f32) (p : Fin 4) : FVec F S512x128 .f32 :=
  accNext (tripRows xk kv hk p) (tripRows xv kv hk p) (pair q2 p) tri (pair r p) (pair a p)

/-- Whether the loop goes on after the trip. -/
def tripAlive (kv : BitVec 32) (hk : k0_chk1 kv) (r : Vec F S4x512x128 .f32) : BitVec 1 :=
  alive (tripRun xk tri q2 kv hk r 0) (tripRun xk tri q2 kv hk r 1) (tripRun xk tri q2 kv hk r 2) (tripRun xk tri q2 kv hk r 3)

/-- The accumulated values and the remainders when the loop ends, with `n` blocks still to come (`n - 1` first, down to `0`). -/
def loop : ℕ → BitVec 1 → Vec F S4x512x128 .f32 → Vec F S4x512x128 .f32 → Vec F S4x512x128 .f32 × Vec F S4x512x128 .f32
  | 0, _, a, r => (a, r)
  | n + 1, al, a, r =>
    if h : al = 1#1 ∧ k0_chk1 (BitVec.ofNat 32 n) then
      loop n (tripAlive xk tri q2 (BitVec.ofNat 32 n) h.2 r) (stack fun p => boxed (tripAcc xk xv tri q2 (BitVec.ofNat 32 n) h.2 a r p))
        (stack fun p => boxed (tripRun xk tri q2 (BitVec.ofNat 32 n) h.2 r p))
    else (a, r)

end Loop

/-- A block index is inside the keys. -/
theorem chk_of_lt : ∀ n : Fin 32, k0_chk1 (BitVec.ofNat 32 n.val) := by decide +kernel

/-! ## A buffer written pair by pair -/

/-- A put of one pair's block, read at an entry. -/
theorem put_pair {α : Type} (x : S4x512x128.Idx → α) (p' : Fin 4) (w : S1x512x128.Idx → α) (p : Fin 4) (r : Fin 512) (l : Fin 128) :
    VecWindow.put (s := S4x512x128) x ![p'.val, 0, 0] S1x512x128.size w (ix3 p r l) = if p = p' then w (ix3 0 r l) else x (ix3 p r l) := by
  unfold VecWindow.put
  by_cases h : p = p'
  · subst h
    have hm : ∀ a, (![p.val, 0, 0] : Fin 3 → ℕ) a ≤ ((ix3 p r l : S4x512x128.Idx) a).val ∧ ((ix3 p r l : S4x512x128.Idx) a).val < (![p.val, 0, 0] : Fin 3 → ℕ) a + S1x512x128.size a := by
      intro a; fin_cases a
      · exact ⟨le_rfl, Nat.lt_succ_self _⟩
      · exact ⟨Nat.zero_le _, by show r.val < 0 + 512; omega⟩
      · exact ⟨Nat.zero_le _, by show l.val < 0 + 128; omega⟩
    rw [dif_pos hm, if_pos rfl]
    congr 1
    funext a; apply Fin.ext; fin_cases a
    · exact Nat.sub_self _
    · exact Nat.sub_zero _
    · exact Nat.sub_zero _
  · rw [if_neg h, dif_neg]
    intro hm
    have h0 := hm 0
    have h1 : p'.val ≤ p.val ∧ p.val < p'.val + 1 := h0
    exact h (Fin.ext (by omega))

/-- A stacked buffer written at its four pairs reads as their stack. -/
theorem read_pairs {sig' : RefSig} {κ' : Kind} {sp : Space} {e : EltTy} (v : View sig' κ' sp S4x512x128 e) (f : v.ty.Contents (Elt F))
    (w : Fin 4 → Vec F S1x512x128 e) :
    v.read (Elt F) (v.writes (Elt F) f
      [⟨Rect.unit ![3, 0, 0] S1x512x128.size inb_S4x512x128_S1x512x128_3_0_0, w 3⟩,
        ⟨Rect.unit ![2, 0, 0] S1x512x128.size inb_S4x512x128_S1x512x128_2_0_0, w 2⟩,
        ⟨Rect.unit ![1, 0, 0] S1x512x128.size inb_S4x512x128_S1x512x128_1_0_0, w 1⟩,
        ⟨Rect.unit ![0, 0, 0] S1x512x128.size inb_S4x512x128_S1x512x128_0_0_0, w 0⟩]) = stack w := by
  rw [View.read_writes_cons_put _ _ _ _ _ rfl, View.read_writes_cons_put _ _ _ _ _ rfl, View.read_writes_cons_put _ _ _ _ _ rfl,
    View.read_writes_cons_put _ _ _ _ _ rfl]
  funext y
  obtain ⟨p, r, l, rfl⟩ : ∃ (p : Fin 4) (r : Fin 512) (l : Fin 128), y = ix3 p r l := ⟨y 0, y 1, y 2, by funext a; fin_cases a <;> rfl⟩
  refine (put_pair _ 3 _ p r l).trans ?_
  by_cases h3 : p = 3
  · subst h3; rfl
  rw [if_neg h3]
  refine (put_pair _ 2 _ p r l).trans ?_
  by_cases h2 : p = 2
  · subst h2; rfl
  rw [if_neg h2]
  refine (put_pair _ 1 _ p r l).trans ?_
  by_cases h1 : p = 1
  · subst h1; rfl
  rw [if_neg h1]
  refine (put_pair _ 0 _ p r l).trans ?_
  have h0 : p = 0 := by revert h1 h2 h3; revert p; decide
  subst h0; rfl

end Cert.Proof.KI

end
-- ==== Proof.KI.Loop.lean ====
module

public import proofs.«01_k».proof.Proof.KI.Step
public import Idealize.ShloMosaic.Lib.VecWindow
public import Idealize.ShloMosaic.Lib.Tactic.RunNames

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The while's label: its specification, met by its body -/

section Label

variable (c : Dev nD) (i : grid0.Coords)
  (arg3 : Memref sig .tc .vmem S1x8192x512 .bf16) (harg3 : arg3.IsWhole) (arg7 : Memref sig .tc .vmem S4x512x128 .bf16) (harg7 : arg7.IsWhole)
  (arg5 : Memref sig .tc .vmem S256x256 .bf16) (harg5 : arg5.IsWhole) (arg4 : Memref sig .tc .vmem S1x8192x512 .bf16) (harg4 : arg4.IsWhole)
  (arg9 : Memref sig .tc .vmem S4x512x128 .f32) (harg9 : arg9.IsWhole) (arg8 : Memref sig .tc .vmem S4x512x128 .f32) (harg8 : arg8.IsWhole)
  (xk xv : Vec F S1x8192x512 .bf16) (tri : Vec F S256x256 .bf16) (q2 : Vec F S4x512x128 .bf16)

/-- The six buffers the loop reads and writes: keys, stacked queries, triangle and values at their contents, the remainders
    at `s.2`, the accumulated values at `s.1`. -/
def held (s : Vec F S4x512x128 .f32 × Vec F S4x512x128 .f32) : sProp 𝕄 :=
  iprop(owns (c : Thread nD τ) arg3 fullShare xk ∗ owns (c : Thread nD τ) arg7 fullShare q2 ∗ owns (c : Thread nD τ) arg5 fullShare tri
    ∗ owns (c : Thread nD τ) arg4 fullShare xv ∗ owns (c : Thread nD τ) arg9 fullShare s.2 ∗ owns (c : Thread nD τ) arg8 fullShare s.1)

/-- The label's specification with `n` blocks to come: it returns some counter and some bit, the state being the loop's. -/
def spec (n : ℕ) (al : BitVec 1) (a r : Vec F S4x512x128 .f32) : sWPT 𝕄 (BitVec 32 × BitVec 1) := do
  sWPT.consume (held c arg3 arg7 arg5 arg4 arg9 arg8 xk xv tri q2 (a, r))
  let b ← sWPT.arbitrary
  sWPT.produce (held c arg3 arg7 arg5 arg4 arg9 arg8 xk xv tri q2 (loop xk xv tri q2 n al a r))
  pure b

theorem spec_apply (n : ℕ) (al : BitVec 1) (a r : Vec F S4x512x128 .f32) (K : BitVec 32 × BitVec 1 → sProp 𝕄) :
    spec c arg3 arg7 arg5 arg4 arg9 arg8 xk xv tri q2 n al a r K
      = iprop(held c arg3 arg7 arg5 arg4 arg9 arg8 xk xv tri q2 (a, r)
          ∗ ∀ b : BitVec 32 × BitVec 1, (held c arg3 arg7 arg5 arg4 arg9 arg8 xk xv tri q2 (loop xk xv tri q2 n al a r) -∗ K b)) := rfl

/-- Block indices up to the last are nonnegative words, and the one before the first is not. -/
theorem sge_of_lt : ∀ n : Fin 32, Scalar.cmpi .sge (BitVec.ofNat 32 n.val) 0#32 = 1#1 := by decide +kernel
theorem sub_one : ∀ n : Fin 32, 0 < n.val → Scalar.subi (BitVec.ofNat 32 n.val) 1#32 = BitVec.ofNat 32 (n.val - 1) := by decide +kernel

/-- The counter `kv` has `n` blocks to come. -/
def Left (n : ℕ) (kv : BitVec 32) : Prop := (n = 0 ∧ Scalar.cmpi .sge kv 0#32 = 0#1) ∨ (0 < n ∧ n ≤ 32 ∧ kv = BitVec.ofNat 32 (n - 1))

theorem Left.pred {n : ℕ} {kv : BitVec 32} (h : Left (n + 1) kv) : Left n (Scalar.subi kv 1#32) := by
  obtain ⟨h, -⟩ | ⟨-, hn, rfl⟩ := h
  · omega
  cases n with
  | zero => left; exact ⟨rfl, by decide⟩
  | succ n =>
    right
    refine ⟨Nat.succ_pos _, by omega, ?_⟩
    exact sub_one ⟨n + 1, by omega⟩ (Nat.succ_pos _)

/-- The label meets its specification, by induction on the blocks to come. -/
theorem spec_le (E : Set ℕ) : ∀ (n : ℕ) (kv : BitVec 32) (_ : Left n kv) (al : BitVec 1) (a r : Vec F S4x512x128 .f32) (K : BitVec 32 × BitVec 1 → sProp 𝕄),
    spec c arg3 arg7 arg5 arg4 arg9 arg8 xk xv tri q2 n al a r K
      ⊢ wp frame (wpE (defs₀ (F := F)) Variants.nat (c : Thread nD τ) (some n)) E
          (defs₀ (F := F) .tc 1 ⟨i, arg3, harg3, arg7, harg7, arg5, harg5, arg4, harg4, arg9, harg9, arg8, harg8, kv, al⟩) K := by
  intro n
  induction n with
  | zero =>
    intro kv hl al a r K
    rw [spec_apply]
    show _ ⊢ wp frame (wpE (defs₀ (F := F)) Variants.nat (c : Thread nD τ) (some 0)) E
      (cc0_while1 i arg3 harg3 arg7 harg7 arg5 harg5 arg4 harg4 arg9 harg9 arg8 harg8 kv al) K
    simp only [cc0_while1_eq_skeleton]; unfold cc0_while1_skel
    have ht : ¬Scalar.andi (Scalar.cmpi .sge kv 0#32) al = 1#1 := by
      obtain ⟨-, h⟩ | ⟨h, -⟩ := hl
      · rw [h]; revert al; decide
      · omega
    simp only [ht, ↓reduceIte, Prog.pure_eq_ret]
    iintro ⟨H, Hk⟩
    rw [wp_ret]; imodintro
    iapply Hk
    simp only [loop]; iexact H
  | succ n ih =>
    intro kv hl al a r K
    rw [spec_apply]
    show _ ⊢ wp frame (wpE (defs₀ (F := F)) Variants.nat (c : Thread nD τ) (some (n + 1))) E
      (cc0_while1 i arg3 harg3 arg7 harg7 arg5 harg5 arg4 harg4 arg9 harg9 arg8 harg8 kv al) K
    simp only [cc0_while1_eq_skeleton]; unfold cc0_while1_skel
    have hp := hl.pred
    obtain ⟨h, -⟩ | ⟨-, hn, rfl⟩ := hl
    · omega
    have hk : k0_chk1 (BitVec.ofNat 32 n) := chk_of_lt ⟨n, by omega⟩
    change Left n (Scalar.subi (BitVec.ofNat 32 n) 1#32) at hp
    rw [Nat.add_sub_cancel]
    by_cases hal : ¬al = 1#1
    · have ht : ¬Scalar.andi (Scalar.cmpi .sge (BitVec.ofNat 32 n) 0#32) al = 1#1 := by
        rw [sge_of_lt ⟨n, by omega⟩]; revert hal; revert al; decide
      have hloop : loop xk xv tri q2 (n + 1) al a r = (a, r) := by rw [loop, dif_neg]; exact fun h => hal h.1
      rw [hloop]
      simp only [ht, ↓reduceIte, Prog.pure_eq_ret]
      iintro ⟨H, Hk⟩
      rw [wp_ret]; imodintro
      iapply Hk
      iexact H
    · have hal := not_not.mp hal
      subst hal
      have ht : Scalar.andi (Scalar.cmpi .sge (BitVec.ofNat 32 n) 0#32) 1#1 = 1#1 := by rw [sge_of_lt ⟨n, by omega⟩]; rfl
      have hloop : loop xk xv tri q2 (n + 1) 1#1 a r = loop xk xv tri q2 n (tripAlive xk tri q2 (BitVec.ofNat 32 n) hk r)
          (stack fun p => boxed (tripAcc xk xv tri q2 (BitVec.ofNat 32 n) hk a r p)) (stack fun p => boxed (tripRun xk tri q2 (BitVec.ofNat 32 n) hk r p)) := by
        rw [loop, dif_pos ⟨rfl, hk⟩]
      rw [hloop]
      clear hloop
      generalize hkv : BitVec.ofNat 32 n = kv at *
      simp only [ht, ↓reduceIte, k0_part15_eq_skeleton, k0_part16_eq_skeleton, k0_part17_eq_skeleton, k0_part18_eq_skeleton, k0_part19_eq_skeleton]
      unfold held owns
      iintro ⟨⟨⟨%f3, %hf3, H3⟩, ⟨%f7, %hf7, H7⟩, ⟨%f5, %hf5, H5⟩, ⟨%f4, %hf4, H4⟩, ⟨%f9, %hf9, H9⟩, ⟨%f8, %hf8, H8⟩⟩, Hk⟩
      subst hf3 hf7 hf5 hf4
      change View.read (Elt F) arg9.view f9 = r at hf9
      change View.read (Elt F) arg8.view f8 = a at hf8
      subst hf9 hf8
      sl_exec (disch := exact hk)
      generalize hb : Scalar.cmpf CmpFPredicate.ogt (k0_pay6 (F := F) _ _ _ _ _) _ = b
      have hb' : b = tripAlive (arg3.view.read (Elt F) f3) (arg5.view.read (Elt F) f5) (arg7.view.read (Elt F) f7) kv hk (arg9.view.read (Elt F) f9) := by
        rw [← hb]; sl_unfold_run_values
        rfl
      clear hb; subst hb'
      iapply (wp_call_spec Variants.nat (c : Thread nD τ) (some (n + 1)) E (spec c arg3 arg7 arg5 arg4 arg9 arg8 (arg3.view.read (Elt F) f3) (arg4.view.read (Elt F) f4)
          (arg5.view.read (Elt F) f5) (arg7.view.read (Elt F) f7) n _
          (stack fun p => boxed (tripAcc (arg3.view.read (Elt F) f3) (arg4.view.read (Elt F) f4) (arg5.view.read (Elt F) f5) (arg7.view.read (Elt F) f7) kv hk (arg8.view.read (Elt F) f8) (arg9.view.read (Elt F) f9) p))
          (stack fun p => boxed (tripRun (arg3.view.read (Elt F) f3) (arg5.view.read (Elt F) f5) (arg7.view.read (Elt F) f7) kv hk (arg9.view.read (Elt F) f9) p))) n
        (fun u hu => by cases hu; exact Nat.lt_succ_self n) (ih _ hp _ _ _))
      rw [spec_apply]; unfold held owns
      isplitr [Hk]
      · isplitl [H3]
        · iexists f3; isplitr; · ipureintro; rfl
          iexact H3
        isplitl [H7]
        · iexists f7; isplitr; · ipureintro; rfl
          iexact H7
        isplitl [H5]
        · iexists f5; isplitr; · ipureintro; rfl
          iexact H5
        isplitl [H4]
        · iexists f4; isplitr; · ipureintro; rfl
          iexact H4
        isplitl [H9]
        · iexists _; isplitr; swap; · iexact H9
          ipureintro
          sl_unfold_run_values
          exact read_pairs _ _ (fun p => boxed (tripRun (arg3.view.read (Elt F) f3) (arg5.view.read (Elt F) f5) (arg7.view.read (Elt F) f7) kv hk (arg9.view.read (Elt F) f9) p))
        · iexists _; isplitr; swap; · iexact H8
          ipureintro
          sl_unfold_run_values
          exact read_pairs _ _ (fun p => boxed (tripAcc (arg3.view.read (Elt F) f3) (arg4.view.read (Elt F) f4) (arg5.view.read (Elt F) f5) (arg7.view.read (Elt F) f7) kv hk (arg8.view.read (Elt F) f8) (arg9.view.read (Elt F) f9) p))
      · iintro %b H
        rw [wp_ret]; imodintro
        iapply Hk
        iexact H

end Label

end Cert.Proof.KI

end
-- ==== Proof.KI.Block.lean ====
module

public import proofs.«01_k».proof.Proof.KI.Step
public import Idealize.ShloMosaic.Lib.VecWindow

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

/-! ## The stacked queries -/

/-- The zeros beside a head's lanes. -/
def zeroHalf : FVec F S256x128 .bf16 := broadcast S256x128 (Scalar.ofBits .bf16 0x0000#16 : F .bf16)

/-- The lanes of a pair's first head. -/
def firstHead : IVec S256x128 1 := cmpi .slt (iota .tc S256x128 32 [1] iota_S256x128_d1_w32) (broadcast S256x128 64#32)

/-- A pair's queries, scaled. -/
def scaled (x : Vec F S1x256x128 .bf16) : FVec F S256x128 .bf16 :=
  truncf .bf16 (mulf (extf .f32 (shapeCast S256x128 x shapeCasts_S1x256x128_S256x128) bitsLt_bf16_f32)
    (broadcast S256x128 (Named.named κ "qscale" 0x3E38AA3B#32 : F .f32))) bitsLt_bf16_f32

/-- The scaled queries with the second head's lanes zeroed, and with the first head's. -/
def qLow (x : Vec F S1x256x128 .bf16) : Vec F S1x256x128 .bf16 := shapeCast S1x256x128 (select firstHead (scaled x) zeroHalf) shapeCasts_S256x128_S1x256x128
def qHigh (x : Vec F S1x256x128 .bf16) : Vec F S1x256x128 .bf16 := shapeCast S1x256x128 (select firstHead zeroHalf (scaled x)) shapeCasts_S256x128_S1x256x128

/-- A query block's rows at each pair's lanes. -/
def queryRows (x : Vec F S1x256x512 .bf16) : Fin 4 → Vec F S1x256x128 .bf16
  | 0 => VecWindow.window x ![0, 0, 0] S1x256x128.size inb_S1x256x512_S1x256x128_0_0_0
  | 1 => VecWindow.window x ![0, 0, 128] S1x256x128.size inb_S1x256x512_S1x256x128_0_0_128
  | 2 => VecWindow.window x ![0, 0, 256] S1x256x128.size inb_S1x256x512_S1x256x128_0_0_256
  | 3 => VecWindow.window x ![0, 0, 384] S1x256x128.size inb_S1x256x512_S1x256x128_0_0_384

/-- Two blocks of 256 rows per pair, one above the other. -/
def halves {e : EltTy} (lo hi : Fin 4 → Vec F S1x256x128 e) : Vec F S4x512x128 e := fun y =>
  if h : (y 1).val < 256 then lo (y 0) (ix3 0 ⟨(y 1).val, h⟩ (y 2))
  else hi (y 0) (ix3 0 ⟨(y 1).val - 256, by have h' : (y 1).val < 512 := (y 1).isLt; omega⟩ (y 2))

/-- The stacked, scaled, masked queries of a query block. -/
def stacked (x : Vec F S1x256x512 .bf16) : Vec F S4x512x128 .bf16 := halves (fun p => qLow (queryRows x p)) (fun p => qHigh (queryRows x p))

/-! ## The state before the loop and the block written -/

section Block
variable (i : grid0.Coords) (x0 : Vec F S1x256x512 .bf16) (xk xv : Vec F S1x8192x512 .bf16) (tri : Vec F S256x256 .bf16)

/-- The remainders of each pair when the loop begins. -/
def startRun (q2 : Vec F S4x512x128 .bf16) (p : Fin 4) : FVec F S512x128 .f32 := run2 (diagRows xk i p) (prevRows xk i p) (pair q2 p) tri

/-- The accumulated values of each pair when the loop begins. -/
def startAcc (q2 : Vec F S4x512x128 .bf16) (p : Fin 4) : FVec F S512x128 .f32 :=
  acc2 (BitVec.ofNat 32 (i 1).val) (diagRows xk i p) (diagRows xv i p) (prevRows xk i p) (prevRows xv i p) (pair q2 p) tri

/-- Whether the loop is entered at all, blocks permitting. -/
def startAlive (q2 : Vec F S4x512x128 .bf16) : BitVec 1 :=
  alive (startRun i xk tri q2 0) (startRun i xk tri q2 1) (startRun i xk tri q2 2) (startRun i xk tri q2 3)

/-- The accumulated values when the loop ends. -/
def finalAcc (q2 : Vec F S4x512x128 .bf16) : Vec F S4x512x128 .f32 :=
  (loop xk xv tri q2 ((i 1).val - 1) (startAlive i xk tri q2) (stack fun p => boxed (startAcc i xk xv tri q2 p)) (stack fun p => boxed (startRun i xk tri q2 p))).1

/-- A pair's result: the first head's lanes off the upper rows, the second's off the lower ones. -/
def unstack (a : Vec F S1x512x128 .f32) : Vec F S1x256x128 .bf16 :=
  shapeCast S1x256x128 (truncf .bf16 (select firstHead
      (extractStridedSlice S256x128 ![0, 0] (shapeCast S512x128 a shapeCasts_S1x512x128_S512x128) slices_S512x128_o0_0_S256x128)
      (extractStridedSlice S256x128 ![256, 0] (shapeCast S512x128 a shapeCasts_S1x512x128_S512x128) slices_S512x128_o256_0_S256x128)) bitsLt_bf16_f32)
    shapeCasts_S256x128_S1x256x128

/-- The pairs' lanes side by side. -/
def beside {e : EltTy} (w : Fin 4 → Vec F S1x256x128 e) : Vec F S1x256x512 e := fun y =>
  w ⟨(y 2).val / 128, by have h : (y 2).val < 512 := (y 2).isLt; omega⟩ (ix3 0 (y 1) ⟨(y 2).val % 128, Nat.mod_lt _ (by decide)⟩)

/-- The block the kernel writes at grid point `i`. -/
def blockOut : Vec F S1x256x512 .bf16 := beside fun p => unstack (pair (finalAcc i xk xv tri (stacked x0)) p)

end Block

/-! ## Buffers written part by part -/

/-- A put of half a pair's block, read at an entry. -/
theorem put_half {α : Type} (x : S4x512x128.Idx → α) (p' : Fin 4) (o : ℕ) (w : S1x256x128.Idx → α) (p : Fin 4) (r : Fin 512) (l : Fin 128) :
    VecWindow.put (s := S4x512x128) x ![p'.val, o, 0] S1x256x128.size w (ix3 p r l)
      = if h : p = p' ∧ o ≤ r.val ∧ r.val < o + 256 then w (ix3 0 ⟨r.val - o, by omega⟩ l) else x (ix3 p r l) := by
  unfold VecWindow.put
  by_cases h : p = p' ∧ o ≤ r.val ∧ r.val < o + 256
  · rw [dif_pos h]
    obtain ⟨rfl, h1, h2⟩ := h
    have hm : ∀ a, (![p.val, o, 0] : Fin 3 → ℕ) a ≤ ((ix3 p r l : S4x512x128.Idx) a).val ∧ ((ix3 p r l : S4x512x128.Idx) a).val < (![p.val, o, 0] : Fin 3 → ℕ) a + S1x256x128.size a := by
      intro a; fin_cases a
      · exact ⟨le_rfl, Nat.lt_succ_self _⟩
      · exact ⟨h1, h2⟩
      · exact ⟨Nat.zero_le _, by show l.val < 0 + 128; omega⟩
    rw [dif_pos hm]
    congr 1
    funext a; apply Fin.ext; fin_cases a
    · exact Nat.sub_self _
    · rfl
    · exact Nat.sub_zero _
  · rw [dif_neg h, dif_neg]
    intro hm
    have h0 : p'.val ≤ p.val ∧ p.val < p'.val + 1 := hm 0
    have h1 : o ≤ r.val ∧ r.val < o + 256 := hm 1
    exact h ⟨Fin.ext (by omega), h1⟩

/-- A stacked buffer written half by half reads as the halves. -/
theorem read_halves {sig' : RefSig} {κ' : Kind} {sp : Space} {e : EltTy} (v : View sig' κ' sp S4x512x128 e) (f : v.ty.Contents (Elt F))
    (lo hi : Fin 4 → Vec F S1x256x128 e) :
    v.read (Elt F) (v.writes (Elt F) f
      [⟨Rect.unit ![3, 256, 0] S1x256x128.size inb_S4x512x128_S1x256x128_3_256_0, hi 3⟩,
        ⟨Rect.unit ![3, 0, 0] S1x256x128.size inb_S4x512x128_S1x256x128_3_0_0, lo 3⟩,
        ⟨Rect.unit ![2, 256, 0] S1x256x128.size inb_S4x512x128_S1x256x128_2_256_0, hi 2⟩,
        ⟨Rect.unit ![2, 0, 0] S1x256x128.size inb_S4x512x128_S1x256x128_2_0_0, lo 2⟩,
        ⟨Rect.unit ![1, 256, 0] S1x256x128.size inb_S4x512x128_S1x256x128_1_256_0, hi 1⟩,
        ⟨Rect.unit ![1, 0, 0] S1x256x128.size inb_S4x512x128_S1x256x128_1_0_0, lo 1⟩,
        ⟨Rect.unit ![0, 256, 0] S1x256x128.size inb_S4x512x128_S1x256x128_0_256_0, hi 0⟩,
        ⟨Rect.unit ![0, 0, 0] S1x256x128.size inb_S4x512x128_S1x256x128_0_0_0, lo 0⟩]) = halves lo hi := by
  rw [View.read_writes_cons_put _ _ _ _ _ rfl, View.read_writes_cons_put _ _ _ _ _ rfl, View.read_writes_cons_put _ _ _ _ _ rfl,
    View.read_writes_cons_put _ _ _ _ _ rfl, View.read_writes_cons_put _ _ _ _ _ rfl, View.read_writes_cons_put _ _ _ _ _ rfl,
    View.read_writes_cons_put _ _ _ _ _ rfl, View.read_writes_cons_put _ _ _ _ _ rfl]
  funext y
  obtain ⟨p, r, l, rfl⟩ : ∃ (p : Fin 4) (r : Fin 512) (l : Fin 128), y = ix3 p r l := ⟨y 0, y 1, y 2, by funext a; fin_cases a <;> rfl⟩
  have hlo : ∀ h : r.val < 256, halves lo hi (ix3 p r l) = lo p (ix3 0 ⟨r.val - 0, by omega⟩ l) := fun h => dif_pos h
  have hhi : ¬r.val < 256 → halves lo hi (ix3 p r l) = hi p (ix3 0 ⟨r.val - 256, by omega⟩ l) := fun h => dif_neg h
  have step : ∀ (x : S4x512x128.Idx → Elt F e) (p' : Fin 4) (h : ¬(p = p' ∧ r.val < 256) → x (ix3 p r l) = halves lo hi (ix3 p r l)),
      VecWindow.put (s := S4x512x128) x ![p'.val, 0, 0] S1x256x128.size (lo p') (ix3 p r l) = halves lo hi (ix3 p r l) := by
    intro x p' h
    refine (put_half x p' 0 _ p r l).trans ?_
    split
    · next hh => obtain ⟨rfl, -, hr⟩ := hh; rw [hlo (by omega)]
    · next hh => exact h fun hc => hh ⟨hc.1, by omega, by omega⟩
  have step' : ∀ (x : S4x512x128.Idx → Elt F e) (p' : Fin 4) (h : ¬(p = p' ∧ ¬r.val < 256) → x (ix3 p r l) = halves lo hi (ix3 p r l)),
      VecWindow.put (s := S4x512x128) x ![p'.val, 256, 0] S1x256x128.size (hi p') (ix3 p r l) = halves lo hi (ix3 p r l) := by
    intro x p' h
    refine (put_half x p' 256 _ p r l).trans ?_
    split
    · next hh => obtain ⟨rfl, hr, -⟩ := hh; rw [hhi (by omega)]
    · next hh => exact h fun hc => hh ⟨hc.1, by omega, by omega⟩
  refine step' _ 3 fun h3' => step _ 3 fun h3 => step' _ 2 fun h2' => step _ 2 fun h2 => step' _ 1 fun h1' => step _ 1 fun h1 => step' _ 0 fun h0' => step _ 0 fun h0 => ?_
  have hp : ∀ p : Fin 4, p = 0 ∨ p = 1 ∨ p = 2 ∨ p = 3 := by decide
  exfalso
  by_cases hr : r.val < 256
  · obtain h | h | h | h := hp p
    exacts [h0 ⟨h, hr⟩, h1 ⟨h, hr⟩, h2 ⟨h, hr⟩, h3 ⟨h, hr⟩]
  · obtain h | h | h | h := hp p
    exacts [h0' ⟨h, hr⟩, h1' ⟨h, hr⟩, h2' ⟨h, hr⟩, h3' ⟨h, hr⟩]

/-- A put of one pair's lanes, read at an entry. -/
theorem put_lanes {α : Type} (x : S1x256x512.Idx → α) (o : ℕ) (w : S1x256x128.Idx → α) (r : Fin 256) (l : Fin 512) :
    VecWindow.put (s := S1x256x512) x ![0, 0, o] S1x256x128.size w (ix3 0 r l)
      = if h : o ≤ l.val ∧ l.val < o + 128 then w (ix3 0 r ⟨l.val - o, by omega⟩) else x (ix3 0 r l) := by
  unfold VecWindow.put
  by_cases h : o ≤ l.val ∧ l.val < o + 128
  · rw [dif_pos h]
    have hm : ∀ a, (![0, 0, o] : Fin 3 → ℕ) a ≤ ((ix3 0 r l : S1x256x512.Idx) a).val ∧ ((ix3 0 r l : S1x256x512.Idx) a).val < (![0, 0, o] : Fin 3 → ℕ) a + S1x256x128.size a := by
      intro a; fin_cases a
      · exact ⟨le_rfl, Nat.lt_succ_self _⟩
      · exact ⟨Nat.zero_le _, by show r.val < 0 + 256; omega⟩
      · exact h
    rw [dif_pos hm]
    congr 1
    funext a; apply Fin.ext; fin_cases a
    · exact Nat.sub_self _
    · exact Nat.sub_zero _
    · rfl
  · rw [dif_neg h, dif_neg]
    intro hm
    exact h (hm 2)

/-- The result block written pair by pair reads as the pairs side by side. -/
theorem read_lanes {sig' : RefSig} {κ' : Kind} {sp : Space} {e : EltTy} (v : View sig' κ' sp S1x256x512 e) (f : v.ty.Contents (Elt F))
    (w : Fin 4 → Vec F S1x256x128 e) :
    v.read (Elt F) (v.writes (Elt F) f
      [⟨Rect.unit ![0, 0, 384] S1x256x128.size inb_S1x256x512_S1x256x128_0_0_384, w 3⟩,
        ⟨Rect.unit ![0, 0, 256] S1x256x128.size inb_S1x256x512_S1x256x128_0_0_256, w 2⟩,
        ⟨Rect.unit ![0, 0, 128] S1x256x128.size inb_S1x256x512_S1x256x128_0_0_128, w 1⟩,
        ⟨Rect.unit ![0, 0, 0] S1x256x128.size inb_S1x256x512_S1x256x128_0_0_0, w 0⟩]) = beside w := by
  rw [View.read_writes_cons_put _ _ _ _ _ rfl, View.read_writes_cons_put _ _ _ _ _ rfl, View.read_writes_cons_put _ _ _ _ _ rfl,
    View.read_writes_cons_put _ _ _ _ _ rfl]
  funext y
  obtain ⟨r, l, rfl⟩ : ∃ (r : Fin 256) (l : Fin 512), y = ix3 0 r l :=
    ⟨y 1, y 2, funext fun a => by fin_cases a; exacts [Subsingleton.elim (α := Fin 1) _ _, rfl, rfl]⟩
  have hb : ∀ (p : Fin 4) (h : 128 * p.val ≤ l.val ∧ l.val < 128 * p.val + 128), w p (ix3 0 r ⟨l.val - 128 * p.val, by omega⟩) = beside w (ix3 0 r l) := by
    intro p h
    have e1 : (⟨l.val / 128, by omega⟩ : Fin 4) = p := Fin.ext (by show l.val / 128 = p.val; omega)
    have e2 : (⟨l.val % 128, Nat.mod_lt _ (by decide)⟩ : Fin 128) = ⟨l.val - 128 * p.val, by omega⟩ := Fin.ext (by show l.val % 128 = l.val - 128 * p.val; omega)
    show _ = w ⟨l.val / 128, _⟩ (ix3 0 r ⟨l.val % 128, _⟩)
    rw [e1, e2]
  have step : ∀ (x : S1x256x512.Idx → Elt F e) (p : Fin 4) (h : ¬(128 * p.val ≤ l.val ∧ l.val < 128 * p.val + 128) → x (ix3 0 r l) = beside w (ix3 0 r l)),
      VecWindow.put (s := S1x256x512) x ![0, 0, 128 * p.val] S1x256x128.size (w p) (ix3 0 r l) = beside w (ix3 0 r l) := by
    intro x p h
    refine (put_lanes x (128 * p.val) _ r l).trans ?_
    split
    · next hh => exact hb p hh
    · next hh => exact h hh
  refine step _ 3 fun h3 => step _ 2 fun h2 => step _ 1 fun h1 => step _ 0 fun h0 => ?_
  exfalso
  have e3 : ((3 : Fin 4) : ℕ) = 3 := rfl
  have e2 : ((2 : Fin 4) : ℕ) = 2 := rfl
  have e1 : ((1 : Fin 4) : ℕ) = 1 := rfl
  have e0 : ((0 : Fin 4) : ℕ) = 0 := rfl
  rw [e3] at h3; rw [e2] at h2; rw [e1] at h1; rw [e0] at h0
  omega

end Cert.Proof.KI

end
-- ==== Proof.KI.Body.lean ====
module

public import proofs.«01_k».proof.Proof.KI.Loop
public import proofs.«01_k».proof.Proof.KI.Block
public import Idealize.ShloMosaic.Lib.VecWindow
public import Idealize.ShloMosaic.Lib.Tactic.RunNames

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body at one grid point -/

/-- At query block `i` the loop starts two blocks back: `i - 1` blocks to come, none at blocks 0 and 1. -/
theorem left_start : ∀ n : Fin 32, Left (n.val - 1) (Scalar.subi (BitVec.ofNat 32 n.val) 2#32) := by
  have h : ∀ n : Fin 32, (n.val ≤ 1 ∧ Scalar.cmpi .sge (Scalar.subi (BitVec.ofNat 32 n.val) 2#32) 0#32 = 0#1)
      ∨ (2 ≤ n.val ∧ Scalar.subi (BitVec.ofNat 32 n.val) 2#32 = BitVec.ofNat 32 (n.val - 1 - 1)) := by decide +kernel
  intro n
  obtain ⟨h1, h2⟩ | ⟨h1, h2⟩ := h n
  · left; exact ⟨by omega, h2⟩
  · right; exact ⟨by omega, by omega, h2⟩

set_option maxHeartbeats 1600000 in
/-- The body reads the four input blocks and leaves `blockOut` of them in the output's buffer. -/
theorem body_run (c : Dev nD) (i : grid0.Coords) (hi : (i 1).val < 32)
    (arg2 : Memref sig .tc .vmem S1x256x512 .bf16) (harg2 : arg2.IsWhole) (arg3 : Memref sig .tc .vmem S1x8192x512 .bf16) (harg3 : arg3.IsWhole)
    (arg4 : Memref sig .tc .vmem S1x8192x512 .bf16) (harg4 : arg4.IsWhole) (arg5 : Memref sig .tc .vmem S256x256 .bf16) (harg5 : arg5.IsWhole)
    (arg6 : Memref sig .tc .vmem S1x256x512 .bf16) (harg6 : arg6.IsWhole) (arg7 : Memref sig .tc .vmem S4x512x128 .bf16) (harg7 : arg7.IsWhole)
    (arg8 : Memref sig .tc .vmem S4x512x128 .f32) (harg8 : arg8.IsWhole) (arg9 : Memref sig .tc .vmem S4x512x128 .f32) (harg9 : arg9.IsWhole)
    (x0 : Vec F S1x256x512 .bf16) (x1 x2 : Vec F S1x8192x512 .bf16) (x3 : Vec F S256x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (blockOut i x0 x1 x2 x3)
            ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.nat (c : Thread nD τ) none) E
          (cc0_stickbreak i arg2 harg2 arg3 harg3 arg4 harg4 arg5 harg5 arg6 harg6 arg7 harg7 arg8 harg8 arg9 harg9) K := by
  simp only [cc0_stickbreak_eq_skeleton]; unfold cc0_stickbreak_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  iintro ⟨H2, H3, H4, H5, ⟨%d6, H6⟩, ⟨%d7, H7⟩, ⟨%d8, H8⟩, ⟨%d9, H9⟩, Hk⟩
  unfold owns
  icases H2 with ⟨%f2, %hf2, H2⟩
  icases H7 with ⟨%f7, %hf7, H7⟩
  subst hf2
  sl_exec
  generalize hg : arg7.view.writes (Elt F) f7 _ = g7
  have hq : arg7.view.read (Elt F) g7 = stacked (arg2.view.read (Elt F) f2) := by
    rw [← hg]; sl_unfold_run_values
    exact read_halves _ _ (fun p => qLow (queryRows (arg2.view.read (Elt F) f2) p)) (fun p => qHigh (queryRows (arg2.view.read (Elt F) f2) p))
  clear hg
  icases H3 with ⟨%f3, %hf3, H3⟩
  icases H4 with ⟨%f4, %hf4, H4⟩
  icases H5 with ⟨%f5, %hf5, H5⟩
  icases H6 with ⟨%f6, %hf6, H6⟩
  icases H8 with ⟨%f8, %hf8, H8⟩
  icases H9 with ⟨%f9, %hf9, H9⟩
  subst hf3 hf4 hf5
  sl_exec
  have hl : Left ((i 1).val - 1) (body_run.sl.v487 i) := left_start ⟨(i 1).val, hi⟩
  generalize hb : body_run.sl.v495 (F := F) c i arg3 arg5 arg7 g7 f3 f5 = b
  have hb' : b = startAlive i (arg3.view.read (Elt F) f3) (arg5.view.read (Elt F) f5) (arg7.view.read (Elt F) g7) := by
    rw [← hb]; sl_unfold_run_values; rfl
  clear hb; subst hb'
  iapply (wp_call_spec Variants.nat (c : Thread nD τ) none E (spec c arg3 arg7 arg5 arg4 arg9 arg8 (arg3.view.read (Elt F) f3) (arg4.view.read (Elt F) f4) (arg5.view.read (Elt F) f5) (arg7.view.read (Elt F) g7) ((i 1).val - 1) (startAlive i (arg3.view.read (Elt F) f3) (arg5.view.read (Elt F) f5) (arg7.view.read (Elt F) g7))
      (stack fun p => boxed (startAcc i (arg3.view.read (Elt F) f3) (arg4.view.read (Elt F) f4) (arg5.view.read (Elt F) f5) (arg7.view.read (Elt F) g7) p)) (stack fun p => boxed (startRun i (arg3.view.read (Elt F) f3) (arg5.view.read (Elt F) f5) (arg7.view.read (Elt F) g7) p))) ((i 1).val - 1)
    (fun u hu => nomatch hu) (spec_le c i arg3 harg3 arg7 harg7 arg5 harg5 arg4 harg4 arg9 harg9 arg8 harg8 (arg3.view.read (Elt F) f3) (arg4.view.read (Elt F) f4) (arg5.view.read (Elt F) f5) (arg7.view.read (Elt F) g7) E _ _ hl _ _ _))
  rw [spec_apply]; unfold held owns
  isplitl [H3 H4 H5 H7 H8 H9]
  · isplitl [H3]
    · iexists f3; isplitr; · ipureintro; rfl
      iexact H3
    isplitl [H7]
    · iexists g7; isplitr; · ipureintro; rfl
      iexact H7
    isplitl [H5]
    · iexists f5; isplitr; · ipureintro; rfl
      iexact H5
    isplitl [H4]
    · iexists f4; isplitr; · ipureintro; rfl
      iexact H4
    isplitl [H9]
    · iexists _; isplitr; swap; · iexact H9
      ipureintro
      sl_unfold_run_values
      exact read_pairs _ _ (fun p => boxed (startRun i (arg3.view.read (Elt F) f3) (arg5.view.read (Elt F) f5) (arg7.view.read (Elt F) g7) p))
    · iexists _; isplitr; swap; · iexact H8
      ipureintro
      sl_unfold_run_values
      exact read_pairs _ _ (fun p => boxed (startAcc i (arg3.view.read (Elt F) f3) (arg4.view.read (Elt F) f4) (arg5.view.read (Elt F) f5) (arg7.view.read (Elt F) g7) p))
  iintro %b ⟨⟨%g3, %hg3, H3⟩, ⟨%h7, %hh7, H7⟩, ⟨%g5, %hg5, H5⟩, ⟨%g4, %hg4, H4⟩, ⟨%g9, %hg9, H9⟩, ⟨%g8, %hg8, H8⟩⟩
  obtain ⟨b1, b2⟩ := b
  dsimp only
  change arg8.view.read (Elt F) g8 = finalAcc i (arg3.view.read (Elt F) f3) (arg4.view.read (Elt F) f4) (arg5.view.read (Elt F) f5) (arg7.view.read (Elt F) g7) at hg8
  sl_exec
  rw [wp_ret]; imodintro
  iapply Hk
  isplitl [H2]
  · iexists f2; isplitr; · ipureintro; rfl
    iexact H2
  isplitl [H3]
  · iexists g3; isplitr; · ipureintro; exact hg3
    iexact H3
  isplitl [H4]
  · iexists g4; isplitr; · ipureintro; exact hg4
    iexact H4
  isplitl [H5]
  · iexists g5; isplitr; · ipureintro; exact hg5
    iexact H5
  isplitl [H6]
  · iexists _; isplitr; swap; · iexact H6
    ipureintro
    unfold blockOut
    rw [← hq, ← hg8]
    sl_unfold_run_values
    exact read_lanes _ _ (fun p => unstack (pair (arg8.view.read (Elt F) g8) p))
  isplitl [H7]
  · iexists _, h7; isplitr; · ipureintro; rfl
    iexact H7
  isplitl [H8]
  · iexists _, g8; isplitr; · ipureintro; rfl
    iexact H8
  iexists _, g9; isplitr; · ipureintro; rfl
  iexact H9

end Cert.Proof.KI

end
-- ==== Proof.KI.Frame.lean ====
module

public import proofs.«01_k».proof.Proof.KI.Body
public import Idealize.ShloMosaic.Lib.Claim
public import Idealize.ShloMosaic.Lib.Pipeline.Value
public import Idealize.ShloMosaic.Lib.VecWindow

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each grid point writes, and the launch -/

/-- The block of attention rows written at point `t`: `blockOut` of the blocks staged there. -/
def written (c : Dev nD) (t : Fin (cfg0 (F := F)).N) : Vec F S1x256x512 .bf16 :=
  blockOut (grid0.coords t) (iblk m c 0 t) (iblk m c 1 t) (iblk m c 2 t) (iblk m c 3 t)

/-- The pipeline's data on core `c`: the arrays as the host operations leave them; after the body each input's buffer
    holds its block still and the output's the block written. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => written m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

/-- What the body leaves in each window's buffer. -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = written m c t := by dsimp only [dats]; rfl

/-- Each input's buffer holds its block when the body starts. -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 (F := F) t) fullShare ((dats m 0 c).before 0 t d))
    ∗ (∃ d, owns (c : Thread nD τ) (ms0_1 (F := F) t) fullShare ((dats m 0 c).before 1 t d))
    ∗ (∃ d, owns (c : Thread nD τ) (ms0_2 (F := F) t) fullShare ((dats m 0 c).before 2 t d))
    ∗ (∃ d, owns (c : Thread nD τ) (ms0_3 (F := F) t) fullShare ((dats m 0 c).before 3 t d))
    ∗ (∃ d, owns (c : Thread nD τ) (ms0_4 (F := F) t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 (F := F) t) fullShare ((dats m 0 c).after 0 t)
    ∗ owns (c : Thread nD τ) (ms0_1 (F := F) t) fullShare ((dats m 0 c).after 1 t)
    ∗ owns (c : Thread nD τ) (ms0_2 (F := F) t) fullShare ((dats m 0 c).after 2 t)
    ∗ owns (c : Thread nD τ) (ms0_3 (F := F) t) fullShare ((dats m 0 c).after 3 t)
    ∗ owns (c : Thread nD τ) (ms0_4 (F := F) t) fullShare ((dats m 0 c).after 4 t))

theorem coord_lt (t : Fin (cfg0 (F := F)).N) : (grid0.coords t 1).val < 32 := (grid0.coords t 1).isLt

set_option maxHeartbeats 800000 in
/-- The body at any point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold written
  iintro ⟨⟨⟨HS0, HS1, HS2⟩, Hg⟩, Ho, ⟨%d0, H0⟩, ⟨%d1, H1⟩, ⟨%d2, H2⟩, ⟨%d3, H3⟩, ⟨%d4, H4⟩⟩
  iapply (body_run c (grid0.coords t) (coord_lt t) _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
/-- The program runs to the end, each array of the call at what its points wrote, every counter at zero. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

theorem run_main : θ_run defs (onTc (τ := τ) (main (F := F))) (s₀ m ρ) (Pipeline.FramePost (cfgs (F := F)) (dats m) 0 (V m)) :=
  (θ_run defs _ _).mono (fun _ h => h.1) (run_main_quiescent m ρ)

/-- The program runs to the end with its arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The program runs to the end, its result array at what its points wrote and its arguments unchanged. -/
theorem run_blocks : θ_run defs (onTc (τ := τ) (main (F := F))) ⟨m, fun _ => 0, ρ⟩ fun r => ∀ c : Dev nD,
      r.2.mem ((c : Thread nD τ).loc main_v8) = (dats m 0 c).arrAt 4 (cfg0 (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  have h4 : θ_run defs (onTc (τ := τ) (main (F := F))) ⟨m, fun _ => 0, ρ⟩ (fun r => ∀ c : Dev nD,
      r.2.mem ((c : Thread nD τ).loc main_v8) = (dats m 0 c).arrAt 4 (cfg0 (F := F)).N) :=
    (θ_run defs _ _).mono (fun r h c => (h c).1 4) (run_main m ρ)
  (θ_run defs _ _).mono (fun _ h c => ⟨h.1 c, h.2 c⟩) (θ_run_and h4 (frame_of m ρ (dats m) (A_eq m) (run_main m ρ)))

end Cert.Proof.KI

end
-- ==== Proof.Main.Frames.lean ====
module

public import proofs.«01_k».proof.Defs
public import proofs.«01_k».proof.Proof.KI.Frame
public import proofs.«01_k».proof.Proof.K.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The attention kernel runs to the end, its arguments unchanged, every counter at zero. -/
theorem frame_kernel : Cert.quiescent_Kernel := fun m ρ _ => K.frame_main m ρ

/-- So does the kernel over the extended reals. -/
theorem frame_ideal : Cert.quiescent_KernelIdeal := fun m ρ _ => KI.frame_main m ρ

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants: the query scale is `1 / (8 log 2)` and the other `1 / log 2`. -/
theorem preserves : Cert.preserves_Kernel_KernelIdeal :=
  ⟨IdealRules.named_const.statement Cert.KernelIdeal.κ "qscale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl⟩

end Cert.Proof

end
-- ==== Proof.Val.Ops.lean ====
module

public import proofs.«01_k».proof.Proof.KI.Block
public import Idealize.ShloMosaic.Lib.Pointwise

@[expose] public section

set_option maxRecDepth 16384

noncomputable section

namespace Cert.Proof.Val

open Cert.KernelIdeal Cert.KernelIdeal.Gen Cert.Proof.KI
open Idealize.ShloMosaic

/-! ## The block operations over the extended reals, entry by entry -/

/-- A word of a small number read signed. -/
theorem toInt_ofNat_small (a : ℕ) (ha : a < 2 ^ 31) : (BitVec.ofNat 32 a).toInt = a := by
  rw [BitVec.toInt_ofNat']
  simp only [Int.bmod]
  omega

/-- A select on the signed order of two small numbers. -/
theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  simp only [Scalar.select, IntOp.cmpi, BitVec.slt, toInt_ofNat_small a ha, toInt_ofNat_small b hb]
  by_cases h : a < b <;> simp [h]

/-- A select on the signed order of two small numbers, the other way round. -/
theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  simp only [Scalar.select, IntOp.cmpi, BitVec.sle, toInt_ofNat_small a ha, toInt_ofNat_small b hb]
  by_cases h : b ≤ a <;> simp [h]

/-- A score: the product of a stacked query row and a key row. -/
theorem score_apply (k : Vec Ideal S1x256x128 .bf16) (q : Vec Ideal S1x512x128 .bf16) (r : Fin 512) (j : Fin 256) :
    score k q (ix2 r j) = ∑ d : Fin 128, q (ix3 0 r d) * k (ix3 0 j d) := by
  pointwise [score]

/-- `log₂(1 + 2^z)` as the kernel writes it. -/
theorem soft_apply (z : FVec Ideal S512x256 .f32) (r : Fin 512) (j : Fin 256) :
    soft z (ix2 r j) = max (Ideal.log (1 + Ideal.exp2 (min (z (ix2 r j)) (Ideal.ofBits .f32 0x42C80000#32))) * (((Real.log 2)⁻¹ : ℝ) : EReal)) (z (ix2 r j)) := by
  pointwise [soft]
  rfl

/-- The mask of the diagonal block: key `j` is before row `r`, rows counted within each half. -/
theorem masked_apply (x : FVec Ideal S512x256 .f32) (r : Fin 512) (j : Fin 256) :
    masked x (ix2 r j) = if j.val < r.val % 256 then x (ix2 r j) else 0 := by
  pointwise [masked, before]
  have hr := r.isLt
  have hj := j.isLt
  rw [select_sge _ _ (by omega) (by decide)]
  split
  · next h =>
    have e : IntOp.subi (BitVec.ofNat 32 r.val) 256#32 = BitVec.ofNat 32 (r.val - 256) := by
      show BitVec.ofNat 32 r.val - 256#32 = _
      apply BitVec.eq_of_toNat_eq
      simp only [BitVec.toNat_sub, BitVec.toNat_ofNat]
      omega
    rw [e, select_slt _ _ (by omega) (by omega), show r.val % 256 = r.val - 256 by omega]
  · next h => rw [select_slt _ _ (by omega) (by omega), show r.val % 256 = r.val by omega]

theorem sums_apply (p : FVec Ideal S512x256 .bf16) (tri : Vec Ideal S256x256 .bf16) (r : Fin 512) (j : Fin 256) :
    sums p tri (ix2 r j) = ∑ t : Fin 256, p (ix2 r t) * tri (ix2 t j) := by
  pointwise [sums, VecWindow.window]
  refine Finset.sum_congr rfl fun t _ => ?_
  congr 2
  funext a; apply Fin.ext; fin_cases a <;> exact Nat.zero_add _ |>.trans (Nat.one_mul _)

theorem mix_apply (w : FVec Ideal S512x256 .bf16) (v : Vec Ideal S1x256x128 .bf16) (r : Fin 512) (l : Fin 128) :
    mix w v (ix2 r l) = ∑ j : Fin 256, w (ix2 r j) * v (ix3 0 j l) := by
  pointwise [mix]

theorem spread_total_apply (b : FVec Ideal S512x256 .f32) (r : Fin 512) (l : Fin 128) :
    spread (total b) (ix2 r l) = b (ix2 r 0) := by
  pointwise [spread, total]

theorem run1_apply (k : Vec Ideal S1x256x128 .bf16) (q : Vec Ideal S1x512x128 .bf16) (tri : Vec Ideal S256x256 .bf16) (r : Fin 512) (l : Fin 128) :
    run1 k q tri (ix2 r l) = diagSums k q tri (ix2 r 0) := by
  pointwise [run1, spread, total]

theorem boxed_apply (x : FVec Ideal S512x128 .f32) (r : Fin 512) (l : Fin 128) : boxed x (ix3 0 r l) = x (ix2 r l) := by
  pointwise [boxed]

theorem unboxed_apply (x : Vec Ideal S1x512x128 .f32) (r : Fin 512) (l : Fin 128) :
    shapeCast S512x128 x shapeCasts_S1x512x128_S512x128 (ix2 r l) = x (ix3 0 r l) := by
  pointwise

theorem scaled_apply (x : Vec Ideal S1x256x128 .bf16) (r : Fin 256) (l : Fin 128) :
    scaled x (ix2 r l) = x (ix3 0 r l) * (((1 / 8) * (Real.log 2)⁻¹ : ℝ) : EReal) := by
  pointwise [scaled]
  rfl

theorem qLow_apply (x : Vec Ideal S1x256x128 .bf16) (r : Fin 256) (l : Fin 128) :
    qLow x (ix3 0 r l) = if l.val < 64 then scaled x (ix2 r l) else 0 := by
  pointwise [qLow, firstHead, zeroHalf]
  exact select_slt _ 64 (by omega) (by decide) _ _

theorem qHigh_apply (x : Vec Ideal S1x256x128 .bf16) (r : Fin 256) (l : Fin 128) :
    qHigh x (ix3 0 r l) = if l.val < 64 then 0 else scaled x (ix2 r l) := by
  pointwise [qHigh, firstHead, zeroHalf]
  exact select_slt _ 64 (by omega) (by decide) _ _

theorem unstack_apply (a : Vec Ideal S1x512x128 .f32) (r : Fin 256) (l : Fin 128) :
    unstack a (ix3 0 r l) = if l.val < 64 then a (ix3 0 ⟨r.val, by omega⟩ l) else a (ix3 0 ⟨256 + r.val, by omega⟩ l) := by
  pointwise [unstack, firstHead]
  refine (select_slt _ 64 (by omega) (by decide) _ _).trans ?_
  split <;> pointwise <;> simp

/-- Some of the stick is left as soon as one row has some left. -/
theorem alive_of_pos (r0 r1 r2 r3 : FVec Ideal S512x128 .f32) (h : 0 < Ideal.exp2 (r0 (ix2 0 0))) : alive r0 r1 r2 r3 = 1#1 := by
  pointwise [alive]
  rw [decide_eq_true]
  · rfl
  · refine (Finset.lt_fold_max _).2 (Or.inr ⟨(0, 0), Finset.mem_univ _, ?_⟩)
    exact lt_max_of_lt_left (lt_max_of_lt_left (lt_max_of_lt_left h))

/-- A window of whole strides, read at an entry. -/
theorem window_at {α : Type} {s : Shape} (x : s.Idx → α) (off size : Fin s.rank → ℕ) (inb : ∀ a, off a + size a ≤ s.size a)
    (y : (Rect.unit off size inb).shape.Idx) (z : s.Idx) (h : ∀ a, off a + (y a).val = (z a).val) :
    VecWindow.window x off size inb y = x z := by
  unfold VecWindow.window
  congr 1
  funext a; apply Fin.ext
  refine Eq.trans ?_ (h a)
  show off a + 1 * (y a).val = _
  rw [one_mul]

theorem pair_apply {e : EltTy} (x : Vec Ideal S4x512x128 e) (p : Fin 4) (r : Fin 512) (l : Fin 128) : pair x p (ix3 0 r l) = x (ix3 p r l) := by
  fin_cases p
  all_goals
    refine window_at _ _ _ _ _ _ fun a => ?_
    fin_cases a <;> simp [ix3]

theorem pair_stack {e : EltTy} (w : Fin 4 → Vec Ideal S1x512x128 e) (p : Fin 4) (r : Fin 512) (l : Fin 128) :
    pair (stack w) p (ix3 0 r l) = w p (ix3 0 r l) := pair_apply _ _ _ _

theorem off_diag : ∀ i : grid0.Coords, k0_off1 i = ![0, 256 * (i 1).val, 0] ∧ k0_off2 i = ![0, 256 * (i 1).val, 128]
    ∧ k0_off3 i = ![0, 256 * (i 1).val, 256] ∧ k0_off4 i = ![0, 256 * (i 1).val, 384] := by decide +kernel

theorem off_prev : ∀ i : grid0.Coords, k0_off5 i = ![0, 256 * ((i 1).val - 1), 0] ∧ k0_off6 i = ![0, 256 * ((i 1).val - 1), 128]
    ∧ k0_off7 i = ![0, 256 * ((i 1).val - 1), 256] ∧ k0_off8 i = ![0, 256 * ((i 1).val - 1), 384] := by decide +kernel

theorem off_trip : ∀ n : Fin 32, k0_off9 (BitVec.ofNat 32 n.val) = ![0, 256 * n.val, 0] ∧ k0_off10 (BitVec.ofNat 32 n.val) = ![0, 256 * n.val, 128]
    ∧ k0_off11 (BitVec.ofNat 32 n.val) = ![0, 256 * n.val, 256] ∧ k0_off12 (BitVec.ofNat 32 n.val) = ![0, 256 * n.val, 384] := by decide +kernel

/-- A window of 256 rows at one lane pair, read at an entry. -/
theorem rows_at (x : Vec Ideal S1x8192x512 .bf16) (off : Fin 3 → ℕ) (inb : ∀ a, off a + S1x256x128.size a ≤ S1x8192x512.size a) (m : ℕ) (p : Fin 4)
    (ho : off = ![0, 256 * m, 128 * p.val]) (j : Fin 256) (l : Fin 128) (hm : 256 * m + j.val < 8192) :
    VecWindow.window x off S1x256x128.size inb (ix3 0 j l) = x (ix3 0 ⟨256 * m + j.val, hm⟩ ⟨128 * p.val + l.val, by omega⟩) := by
  subst ho
  refine window_at _ _ _ _ _ _ fun a => ?_
  fin_cases a <;> simp [ix3]

theorem diagRows_apply (x : Vec Ideal S1x8192x512 .bf16) (i : grid0.Coords) (p : Fin 4) (j : Fin 256) (l : Fin 128) :
    diagRows x i p (ix3 0 j l) = x (ix3 0 ⟨256 * (i 1).val + j.val, by have h : (i 1).val < 32 := (i 1).isLt; omega⟩ ⟨128 * p.val + l.val, by omega⟩) := by
  obtain ⟨h1, h2, h3, h4⟩ := off_diag i
  fin_cases p
  exacts [rows_at x _ _ _ 0 h1 j l _, rows_at x _ _ _ 1 h2 j l _, rows_at x _ _ _ 2 h3 j l _, rows_at x _ _ _ 3 h4 j l _]

theorem prevRows_apply (x : Vec Ideal S1x8192x512 .bf16) (i : grid0.Coords) (p : Fin 4) (j : Fin 256) (l : Fin 128) :
    prevRows x i p (ix3 0 j l) = x (ix3 0 ⟨256 * ((i 1).val - 1) + j.val, by have h : (i 1).val < 32 := (i 1).isLt; omega⟩ ⟨128 * p.val + l.val, by omega⟩) := by
  obtain ⟨h1, h2, h3, h4⟩ := off_prev i
  fin_cases p
  exacts [rows_at x _ _ _ 0 h1 j l _, rows_at x _ _ _ 1 h2 j l _, rows_at x _ _ _ 2 h3 j l _, rows_at x _ _ _ 3 h4 j l _]

theorem tripRows_apply (x : Vec Ideal S1x8192x512 .bf16) (n : Fin 32) (hk : k0_chk1 (BitVec.ofNat 32 n.val)) (p : Fin 4) (j : Fin 256) (l : Fin 128) :
    tripRows x (BitVec.ofNat 32 n.val) hk p (ix3 0 j l) = x (ix3 0 ⟨256 * n.val + j.val, by omega⟩ ⟨128 * p.val + l.val, by omega⟩) := by
  obtain ⟨h1, h2, h3, h4⟩ := off_trip n
  fin_cases p
  exacts [rows_at x _ _ _ 0 h1 j l _, rows_at x _ _ _ 1 h2 j l _, rows_at x _ _ _ 2 h3 j l _, rows_at x _ _ _ 3 h4 j l _]

theorem queryRows_apply (x : Vec Ideal S1x256x512 .bf16) (p : Fin 4) (r : Fin 256) (l : Fin 128) :
    queryRows x p (ix3 0 r l) = x (ix3 0 r ⟨128 * p.val + l.val, by omega⟩) := by
  fin_cases p
  all_goals
    refine window_at _ _ _ _ _ _ fun a => ?_
    fin_cases a <;> simp [ix3]

/-- A stacked query row: the upper rows hold the first head's lanes, the lower rows the second's. -/
theorem stacked_apply (x : Vec Ideal S1x256x512 .bf16) (p : Fin 4) (r : Fin 512) (l : Fin 128) :
    stacked x (ix3 p r l) = if (r.val < 256) = (l.val < 64) then
      x (ix3 0 ⟨r.val % 256, Nat.mod_lt _ (by decide)⟩ ⟨128 * p.val + l.val, by omega⟩) * (((1 / 8) * (Real.log 2)⁻¹ : ℝ) : EReal) else 0 := by
  have hr := r.isLt
  by_cases h : r.val < 256
  · refine (dif_pos h).trans ?_
    refine (qLow_apply (queryRows x p) ⟨r.val, h⟩ l).trans ?_
    rw [scaled_apply, queryRows_apply]
    have e : (⟨r.val, h⟩ : Fin 256) = ⟨r.val % 256, Nat.mod_lt _ (by decide)⟩ := Fin.ext (Nat.mod_eq_of_lt h).symm
    rw [e]
    simp [h]
  · refine (dif_neg h).trans ?_
    refine (qHigh_apply (queryRows x p) ⟨r.val - 256, by omega⟩ l).trans ?_
    rw [scaled_apply, queryRows_apply]
    have e : (⟨r.val - 256, by omega⟩ : Fin 256) = ⟨r.val % 256, Nat.mod_lt _ (by decide)⟩ := Fin.ext (by show r.val - 256 = r.val % 256; omega)
    rw [e]
    by_cases hl : l.val < 64 <;> simp [h, hl]

end Cert.Proof.Val

end
-- ==== Proof.Val.Row.lean ====
module

public import proofs.«01_k».proof.Proof.Val.Ops

@[expose] public section

set_option maxRecDepth 16384

noncomputable section

namespace Cert.Proof.Val

open Cert.KernelIdeal Cert.KernelIdeal.Gen Cert.Proof.KI
open Idealize.ShloMosaic

/-! ## The real mathematics of one row -/

/-- A key's break, as a logarithm to base two: `log₂(1 + 2^z)`. -/
def brk (Z : ℕ → ℝ) (j : ℕ) : ℝ := Real.log (1 + Real.rpow 2 (Z j)) * (Real.log 2)⁻¹

/-- The breaks from key `a` up to the query `s`, added up. -/
def gone (Z : ℕ → ℝ) (s a : ℕ) : ℝ := ∑ j ∈ Finset.Ico a s, brk Z j

/-- The weight of key `j` at the query `s`. -/
def weight (Z : ℕ → ℝ) (s j : ℕ) : ℝ := Real.rpow 2 (Z j - gone Z s j)

theorem gone_split (Z : ℕ → ℝ) (s a b : ℕ) (hab : a ≤ b) (hb : b ≤ s) : gone Z s a = ∑ j ∈ Finset.Ico a b, brk Z j + gone Z s b :=
  (Finset.sum_Ico_consecutive _ hab hb).symm

theorem rpow_add' (a b : ℝ) : Real.rpow 2 (a + b) = Real.rpow 2 a * Real.rpow 2 b := Real.rpow_add (by norm_num) a b
theorem rpow_pos' (a : ℝ) : 0 < Real.rpow 2 a := Real.rpow_pos_of_pos (by norm_num) a

/-! ## Sums over a block -/

/-- A sum over a block's keys from `j` on and before `e`, as a sum over an interval. -/
theorem sum_block {M : Type} [AddCommMonoid M] (f : ℕ → M) (b j e : ℕ) (he : e ≤ 256) :
    (∑ t : Fin 256, if j ≤ t.val ∧ t.val < e then f (b + t.val) else 0) = ∑ t ∈ Finset.Ico (b + j) (b + e), f t := by
  rw [Fin.sum_univ_eq_sum_range (fun t => if j ≤ t ∧ t < e then f (b + t) else 0) 256, ← Finset.sum_filter]
  have h : (Finset.range 256).filter (fun t => j ≤ t ∧ t < e) = Finset.Ico j e := by
    ext t; simp only [Finset.mem_filter, Finset.mem_range, Finset.mem_Ico]; omega
  rw [h, Finset.sum_Ico_add f j e b]
  congr 2 <;> exact Nat.add_comm _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a sum of extended reals. -/
theorem coe_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

/-- The kernel's cap of the exponent is a hundred. -/
theorem cap_eq : Ideal.ofBits .f32 0x42C80000#32 = ((100 : ℝ) : EReal) := by
  simp [Ideal.ofBits, Ideal.ieee, -EReal.coe_mul]; norm_num

/-- Under the cap, the kernel's break is the break. -/
theorem soft_coe (z : FVec Ideal S512x256 .f32) (r : Fin 512) (j : Fin 256) (x : ℝ) (hx : z (ix2 r j) = (x : EReal)) (h : x ≤ 100) :
    soft z (ix2 r j) = ((Real.log (1 + Real.rpow 2 x) * (Real.log 2)⁻¹ : ℝ) : EReal) := by
  have hp := rpow_pos' x
  rw [soft_apply, hx, cap_eq, min_eq_left (EReal.coe_le_coe_iff.2 h), Ideal.exp2_coe, ← EReal.coe_one, ← EReal.coe_add, Ideal.log_coe,
    if_neg (by linarith), ← EReal.coe_mul]
  refine max_eq_left (EReal.coe_le_coe_iff.2 ?_)
  have hl : 0 < Real.log 2 := Real.log_pos (by norm_num)
  rw [← div_eq_mul_inv, le_div_iff₀ hl]
  refine (Real.le_log_iff_exp_le (by linarith)).2 ?_
  have e : Real.exp (x * Real.log 2) = Real.rpow 2 x := by
    rw [mul_comm]; exact (Real.rpow_def_of_pos (by norm_num) x).symm
  linarith

section Row
variable {k v : Vec Ideal S1x256x128 .bf16} {q : Vec Ideal S1x512x128 .bf16} {tri : Vec Ideal S256x256 .bf16}
  {Z : ℕ → ℝ} {vn : ℕ → EReal} {b : ℕ} {r : Fin 512} {l : Fin 128}
  (hz : ∀ j : Fin 256, score k q (ix2 r j) = (Z (b + j.val) : EReal)) (hb : ∀ j, Z j ≤ 100)
  (ht : ∀ t j : Fin 256, tri (ix2 t j) = if j.val ≤ t.val then ((-1 : ℝ) : EReal) else 0)
  (hv : ∀ j : Fin 256, v (ix3 0 j l) = vn (b + j.val))
include hz hb

theorem soft_row (j : Fin 256) : soft (score k q) (ix2 r j) = (brk Z (b + j.val) : EReal) := soft_coe _ r j _ (hz j) (hb _)

include ht

/-- The diagonal block's triangle product at a row: minus the breaks from a key up to the row. -/
theorem diagSums_row (j : Fin 256) : diagSums k q tri (ix2 r j) = ((-gone Z (b + r.val % 256) (b + j.val) : ℝ) : EReal) := by
  have h : ∀ t : Fin 256, masked (soft (score k q)) (ix2 r t) * tri (ix2 t j)
      = ((if j.val ≤ t.val ∧ t.val < r.val % 256 then -brk Z (b + t.val) else 0 : ℝ) : EReal) := fun t => by
    rw [masked_apply, soft_row hz hb, ht]
    by_cases h1 : t.val < r.val % 256 <;> by_cases h2 : j.val ≤ t.val <;> simp only [h1, h2, if_true, if_false, and_true, and_false, true_and, false_and, zero_mul, mul_zero, EReal.coe_zero]
    rw [← EReal.coe_mul, mul_neg_one]
  refine (sums_apply _ _ r j).trans ((Finset.sum_congr rfl fun t _ => h t).trans ?_)
  rw [← coe_sum, sum_block (fun t => -brk Z t) b j.val (r.val % 256) (Nat.mod_lt _ (by decide)).le, Finset.sum_neg_distrib]
  rfl

/-- A whole block's triangle product at a row: minus the breaks from a key to the block's end. -/
theorem fullSums_row (j : Fin 256) : fullSums k q tri (ix2 r j) = ((-gone Z (b + 256) (b + j.val) : ℝ) : EReal) := by
  have h : ∀ t : Fin 256, soft (score k q) (ix2 r t) * tri (ix2 t j)
      = ((if j.val ≤ t.val ∧ t.val < 256 then -brk Z (b + t.val) else 0 : ℝ) : EReal) := fun t => by
    rw [soft_row hz hb, ht]
    have h1 := t.isLt
    by_cases h2 : j.val ≤ t.val <;> simp only [h1, h2, if_true, if_false, and_true, and_false, true_and, false_and, zero_mul, mul_zero, EReal.coe_zero]
    rw [← EReal.coe_mul, mul_neg_one]
  refine (sums_apply _ _ r j).trans ((Finset.sum_congr rfl fun t _ => h t).trans ?_)
  rw [← coe_sum, sum_block (fun t => -brk Z t) b j.val 256 le_rfl, Finset.sum_neg_distrib]
  rfl

/-- What the diagonal block leaves of a row's stick. -/
theorem run1_row : run1 k q tri (ix2 r l) = ((-gone Z (b + r.val % 256) b : ℝ) : EReal) :=
  (run1_apply k q tri r l).trans (diagSums_row hz hb ht 0)

/-- What a whole block takes of a row's stick. -/
theorem full_row : spread (total (fullSums k q tri)) (ix2 r l) = ((-gone Z (b + 256) b : ℝ) : EReal) :=
  (spread_total_apply _ r l).trans (fullSums_row hz hb ht 0)

include hv

/-- The diagonal block's weighted values at a row. -/
theorem diagMix_row : diagMix k v q tri (ix2 r l) = ∑ t ∈ Finset.Ico b (b + r.val % 256), (weight Z (b + r.val % 256) t : EReal) * vn t := by
  have h : ∀ t : Fin 256, masked (exp2 (addf (score k q) (diagSums k q tri))) (ix2 r t) * v (ix3 0 t l)
      = if 0 ≤ t.val ∧ t.val < r.val % 256 then (weight Z (b + r.val % 256) (b + t.val) : EReal) * vn (b + t.val) else 0 := fun t => by
    rw [masked_apply, hv]
    have e : exp2 (addf (score k q) (diagSums k q tri)) (ix2 r t) = Ideal.exp2 (score k q (ix2 r t) + diagSums k q tri (ix2 r t)) := rfl
    rw [e, hz, diagSums_row hz hb ht, ← EReal.coe_add, Ideal.exp2_coe, ← sub_eq_add_neg]
    by_cases h1 : t.val < r.val % 256 <;> simp only [h1, Nat.zero_le, if_true, if_false, and_true, and_false, zero_mul]
    rfl
  refine (mix_apply _ _ r l).trans ((Finset.sum_congr rfl fun t _ => h t).trans ?_)
  exact sum_block (fun t => (weight Z (b + r.val % 256) t : EReal) * vn t) b 0 (r.val % 256) (Nat.mod_lt _ (by decide)).le

/-- A whole block's weighted values at a row, as if the stick were whole at the block's end. -/
theorem fullMix_row : fullMix k v q tri (ix2 r l) = ∑ t ∈ Finset.Ico b (b + 256), (weight Z (b + 256) t : EReal) * vn t := by
  have h : ∀ t : Fin 256, exp2 (addf (score k q) (fullSums k q tri)) (ix2 r t) * v (ix3 0 t l)
      = if 0 ≤ t.val ∧ t.val < 256 then (weight Z (b + 256) (b + t.val) : EReal) * vn (b + t.val) else 0 := fun t => by
    rw [hv]
    have e : exp2 (addf (score k q) (fullSums k q tri)) (ix2 r t) = Ideal.exp2 (score k q (ix2 r t) + fullSums k q tri (ix2 r t)) := rfl
    rw [e, hz, fullSums_row hz hb ht, ← EReal.coe_add, Ideal.exp2_coe, ← sub_eq_add_neg, if_pos ⟨Nat.zero_le _, t.isLt⟩]
    rfl
  refine (mix_apply _ _ r l).trans ((Finset.sum_congr rfl fun t _ => h t).trans ?_)
  exact sum_block (fun t => (weight Z (b + 256) t : EReal) * vn t) b 0 256 le_rfl

/-- A whole block's weighted values at a row, scaled by what is left of the stick there. -/
theorem fullMix_scaled (s : ℕ) (hs : b + 256 ≤ s) :
    Ideal.exp2 ((-gone Z s (b + 256) : ℝ) : EReal) * fullMix k v q tri (ix2 r l) = ∑ t ∈ Finset.Ico b (b + 256), (weight Z s t : EReal) * vn t := by
  rw [fullMix_row hz hb ht hv, Ideal.exp2_coe, coe_mul_sum _ _ (rpow_pos' _).le]
  refine Finset.sum_congr rfl fun t hm => ?_
  rw [← mul_assoc, ← EReal.coe_mul]
  congr 2
  have hm' := Finset.mem_Ico.1 hm
  unfold weight
  rw [← rpow_add', gone_split Z s t (b + 256) hm'.2.le hs]
  congr 1
  unfold gone
  ring

end Row

end Cert.Proof.Val

end
-- ==== Proof.Val.Loop.lean ====
module

public import proofs.«01_k».proof.Proof.Val.Row

@[expose] public section

set_option maxRecDepth 16384

noncomputable section

namespace Cert.Proof.Val

open Cert.KernelIdeal Cert.KernelIdeal.Gen Cert.Proof.KI
open Idealize.ShloMosaic

/-! ## One grid point: the rows of its four pairs -/

/-- The triangle's entries: minus one at and below the diagonal. -/
def IsTri (tri : Vec Ideal S256x256 .bf16) : Prop := ∀ t j : Fin 256, tri (ix2 t j) = if j.val ≤ t.val then ((-1 : ℝ) : EReal) else 0

/-- A row's logits: the products of its stacked query with the keys of its lane pair are the reals `Z p r`, none above a hundred. -/
def Logits (xk : Vec Ideal S1x8192x512 .bf16) (q2 : Vec Ideal S4x512x128 .bf16) (Z : Fin 4 → Fin 512 → ℕ → ℝ) : Prop :=
  (∀ p r j, Z p r j ≤ 100) ∧ ∀ (p : Fin 4) (r : Fin 512) (j : Fin 8192),
    ∑ d : Fin 128, q2 (ix3 p r d) * xk (ix3 0 j ⟨128 * p.val + d.val, by omega⟩) = (Z p r j.val : EReal)

/-- The values of a batch at one lane, over all naturals. -/
def vals (xv : Vec Ideal S1x8192x512 .bf16) (c : Fin 512) (j : ℕ) : EReal := xv (ix3 0 ⟨j % 8192, Nat.mod_lt _ (by decide)⟩ c)

/-- The lane of a pair. -/
def lane (p : Fin 4) (l : Fin 128) : Fin 512 := ⟨128 * p.val + l.val, by omega⟩

/-- The weighted values of the keys from `a` on before the query `s`. -/
def part (xv : Vec Ideal S1x8192x512 .bf16) (Z : Fin 4 → Fin 512 → ℕ → ℝ) (s a : ℕ) (p : Fin 4) (r : Fin 512) (l : Fin 128) : EReal :=
  ∑ t ∈ Finset.Ico a s, (weight (Z p r) s t : EReal) * vals xv (lane p l) t

section Point
variable {i : grid0.Coords} {xk xv : Vec Ideal S1x8192x512 .bf16} {tri : Vec Ideal S256x256 .bf16} {q2 : Vec Ideal S4x512x128 .bf16}
  {Z : Fin 4 → Fin 512 → ℕ → ℝ}

/-- The query a row of the point belongs to. -/
def query (i : grid0.Coords) (r : Fin 512) : ℕ := 256 * (i 1).val + r.val % 256

theorem score_rows (hL : Logits xk q2 Z) (k : Vec Ideal S1x256x128 .bf16) (m : ℕ) (hm : m < 32) (p : Fin 4)
    (hk : ∀ (j : Fin 256) (l : Fin 128), k (ix3 0 j l) = xk (ix3 0 ⟨256 * m + j.val, by omega⟩ ⟨128 * p.val + l.val, by omega⟩)) (r : Fin 512) (j : Fin 256) :
    score k (pair q2 p) (ix2 r j) = (Z p r (256 * m + j.val) : EReal) := by
  rw [score_apply, ← hL.2 p r ⟨256 * m + j.val, by omega⟩]
  exact Finset.sum_congr rfl fun d _ => by rw [pair_apply, hk]

theorem vals_rows (v : Vec Ideal S1x256x128 .bf16) (m : ℕ) (hm : m < 32) (p : Fin 4)
    (hk : ∀ (j : Fin 256) (l : Fin 128), v (ix3 0 j l) = xv (ix3 0 ⟨256 * m + j.val, by omega⟩ ⟨128 * p.val + l.val, by omega⟩)) (l : Fin 128) (j : Fin 256) :
    v (ix3 0 j l) = vals xv (lane p l) (256 * m + j.val) := by
  rw [hk, vals]
  congr 2
  exact Fin.ext (Nat.mod_eq_of_lt (by omega)).symm

/-- The state before a trip: with the blocks from `m` on done, each row's remainder and accumulated values. -/
def Inv (i : grid0.Coords) (xv : Vec Ideal S1x8192x512 .bf16) (Z : Fin 4 → Fin 512 → ℕ → ℝ) (m : ℕ) (a r : Vec Ideal S4x512x128 .f32) : Prop :=
  ∀ (p : Fin 4) (x : Fin 512) (l : Fin 128), r (ix3 p x l) = ((-gone (Z p x) (query i x) (256 * m) : ℝ) : EReal)
    ∧ a (ix3 p x l) = part xv Z (query i x) (256 * m) p x l

theorem exp2_pos (x : ℝ) : 0 < Ideal.exp2 (x : EReal) := by
  rw [Ideal.exp2_coe]; exact_mod_cast rpow_pos' x

/-- One trip's remainder. -/
theorem tripRun_apply (hL : Logits xk q2 Z) (ht : IsTri tri) (m : Fin 32) (hm : m.val < (i 1).val) (hk : k0_chk1 (BitVec.ofNat 32 m.val))
    (a r : Vec Ideal S4x512x128 .f32) (hI : Inv i xv Z (m.val + 1) a r) (p : Fin 4) (x : Fin 512) (l : Fin 128) :
    tripRun xk tri q2 (BitVec.ofNat 32 m.val) hk r p (ix2 x l) = ((-gone (Z p x) (query i x) (256 * m.val) : ℝ) : EReal) := by
  have e : tripRun xk tri q2 (BitVec.ofNat 32 m.val) hk r p (ix2 x l)
      = shapeCast S512x128 (pair r p) shapeCasts_S1x512x128_S512x128 (ix2 x l)
        + spread (total (fullSums (tripRows xk (BitVec.ofNat 32 m.val) hk p) (pair q2 p) tri)) (ix2 x l) := rfl
  rw [e, unboxed_apply, pair_apply, (hI p x l).1,
    full_row (score_rows hL _ m.val m.isLt p (fun j l => tripRows_apply xk m hk p j l) x) (hL.1 p x) ht, ← EReal.coe_add,
    gone_split (Z p x) (query i x) (256 * m.val) (256 * m.val + 256) (by omega) (by unfold query; omega)]
  congr 1
  rw [show 256 * (m.val + 1) = 256 * m.val + 256 by ring]
  unfold gone
  ring

/-- One trip's accumulated values. -/
theorem tripAcc_apply (hL : Logits xk q2 Z) (ht : IsTri tri) (m : Fin 32) (hm : m.val < (i 1).val) (hk : k0_chk1 (BitVec.ofNat 32 m.val))
    (a r : Vec Ideal S4x512x128 .f32) (hI : Inv i xv Z (m.val + 1) a r) (p : Fin 4) (x : Fin 512) (l : Fin 128) :
    tripAcc xk xv tri q2 (BitVec.ofNat 32 m.val) hk a r p (ix2 x l) = part xv Z (query i x) (256 * m.val) p x l := by
  have e : tripAcc xk xv tri q2 (BitVec.ofNat 32 m.val) hk a r p (ix2 x l)
      = shapeCast S512x128 (pair a p) shapeCasts_S1x512x128_S512x128 (ix2 x l)
        + Ideal.exp2 (shapeCast S512x128 (pair r p) shapeCasts_S1x512x128_S512x128 (ix2 x l))
          * fullMix (tripRows xk (BitVec.ofNat 32 m.val) hk p) (tripRows xv (BitVec.ofNat 32 m.val) hk p) (pair q2 p) tri (ix2 x l) := rfl
  have hs : 256 * m.val + 256 ≤ query i x := by unfold query; omega
  rw [e, unboxed_apply, unboxed_apply, pair_apply, pair_apply, (hI p x l).1, (hI p x l).2, show 256 * (m.val + 1) = 256 * m.val + 256 by ring,
    fullMix_scaled (score_rows hL _ m.val m.isLt p (fun j l => tripRows_apply xk m hk p j l) x) (hL.1 p x) ht
      (vals_rows (xv := xv) _ m.val m.isLt p (fun j l => tripRows_apply xv m hk p j l) l) _ hs, add_comm]
  exact Finset.sum_Ico_consecutive _ (by omega) hs

/-- The loop, entered with the blocks from `n` on done, ends with every block done. -/
theorem loop_apply (hL : Logits xk q2 Z) (ht : IsTri tri) : ∀ (n : ℕ), n ≤ (i 1).val → ∀ (a r : Vec Ideal S4x512x128 .f32), Inv i xv Z n a r →
    ∀ (p : Fin 4) (x : Fin 512) (l : Fin 128), (loop xk xv tri q2 n 1#1 a r).1 (ix3 p x l) = part xv Z (query i x) 0 p x l := by
  intro n
  induction n with
  | zero => intro _ a r hI p x l; exact (hI p x l).2
  | succ n ih =>
    intro hn a r hI p x l
    have hn32 : n < 32 := by have h : (i 1).val < 32 := (i 1).isLt; omega
    have hk := chk_of_lt ⟨n, hn32⟩
    rw [loop, dif_pos ⟨rfl, hk⟩]
    have hr := fun p x l => tripRun_apply hL ht ⟨n, hn32⟩ hn hk a r hI p x l
    have hal : tripAlive xk tri q2 (BitVec.ofNat 32 n) hk r = 1#1 := by
      refine alive_of_pos _ _ _ _ ?_
      rw [hr]; exact exp2_pos _
    rw [hal]
    refine ih (by omega) _ _ (fun p x l => ⟨?_, ?_⟩) p x l
    · exact (boxed_apply _ x l).trans (hr p x l)
    · exact (boxed_apply _ x l).trans (tripAcc_apply hL ht ⟨n, hn32⟩ hn hk a r hI p x l)

/-- The remainders when the loop begins. -/
theorem startRun_apply (hL : Logits xk q2 Z) (ht : IsTri tri) (p : Fin 4) (x : Fin 512) (l : Fin 128) :
    startRun i xk tri q2 p (ix2 x l) = ((-gone (Z p x) (query i x) (256 * (i 1).val) + -gone (Z p x) (256 * ((i 1).val - 1) + 256) (256 * ((i 1).val - 1)) : ℝ) : EReal) := by
  have e : startRun i xk tri q2 p (ix2 x l) = run1 (diagRows xk i p) (pair q2 p) tri (ix2 x l)
      + spread (total (fullSums (prevRows xk i p) (pair q2 p) tri)) (ix2 x l) := rfl
  have hi : (i 1).val < 32 := (i 1).isLt
  rw [e, run1_row (score_rows hL _ (i 1).val hi p (fun j l => diagRows_apply xk i p j l) x) (hL.1 p x) ht,
    full_row (score_rows hL _ ((i 1).val - 1) (by omega) p (fun j l => prevRows_apply xk i p j l) x) (hL.1 p x) ht, ← EReal.coe_add]
  rfl

/-- The accumulated values when the loop begins. -/
theorem startAcc_apply (hL : Logits xk q2 Z) (ht : IsTri tri) (p : Fin 4) (x : Fin 512) (l : Fin 128) :
    startAcc i xk xv tri q2 p (ix2 x l) = part xv Z (query i x) (256 * ((i 1).val - 1)) p x l := by
  have e : startAcc i xk xv tri q2 p (ix2 x l) = diagMix (diagRows xk i p) (diagRows xv i p) (pair q2 p) tri (ix2 x l)
      + (Scalar.select (Scalar.cmpi .sgt (BitVec.ofNat 32 (i 1).val) 0#32) (exp2 (run1 (diagRows xk i p) (pair q2 p) tri))
          (broadcast S512x128 (Scalar.ofBits .f32 0x00000000#32 : Ideal .f32))) (ix2 x l)
        * fullMix (prevRows xk i p) (prevRows xv i p) (pair q2 p) tri (ix2 x l) := rfl
  have hi : (i 1).val < 32 := (i 1).isLt
  have hz := score_rows hL _ (i 1).val hi p (fun j l => diagRows_apply xk i p j l) x
  have hc : ∀ a b : FVec Ideal S512x128 .f32, Scalar.select (Scalar.cmpi .sgt (BitVec.ofNat 32 (i 1).val) 0#32) a b = if 0 < (i 1).val then a else b := fun a b =>
    select_slt 0 (i 1).val (by decide) (by omega) a b
  rw [e, hc, diagMix_row hz (hL.1 p x) ht (vals_rows (xv := xv) _ (i 1).val hi p (fun j l => diagRows_apply xv i p j l) l)]
  split
  · next h0 =>
    have e2 : exp2 (run1 (diagRows xk i p) (pair q2 p) tri) (ix2 x l) = Ideal.exp2 (run1 (diagRows xk i p) (pair q2 p) tri (ix2 x l)) := rfl
    have hb : 256 * (i 1).val = 256 * ((i 1).val - 1) + 256 := by omega
    have hs : 256 * ((i 1).val - 1) + 256 ≤ 256 * (i 1).val + x.val % 256 := by omega
    rw [e2, run1_row hz (hL.1 p x) ht]
    have hf := fullMix_scaled (score_rows hL _ ((i 1).val - 1) (by omega) p (fun j l => prevRows_apply xk i p j l) x) (hL.1 p x) ht
      (vals_rows (xv := xv) _ ((i 1).val - 1) (by omega) p (fun j l => prevRows_apply xv i p j l) l) _ hs
    rw [← hb] at hf
    rw [hf, add_comm]
    exact Finset.sum_Ico_consecutive _ (by omega) (by omega)
  · next h0 =>
    have hb : 256 * ((i 1).val - 1) = 256 * (i 1).val := by omega
    have e0 : broadcast S512x128 (Scalar.ofBits .f32 0x00000000#32 : Ideal .f32) (ix2 x l) = (0 : EReal) := Ideal.ofBits_zero_f32
    rw [e0, zero_mul, add_zero, hb]
    rfl

/-- A grid point's accumulated values when the loop ends: every key before the query, weighted. -/
theorem finalAcc_apply (hL : Logits xk q2 Z) (ht : IsTri tri) (p : Fin 4) (x : Fin 512) (l : Fin 128) :
    finalAcc i xk xv tri q2 (ix3 p x l) = part xv Z (query i x) 0 p x l := by
  have hr := fun p x l => startRun_apply (i := i) hL ht p x l
  have hal : startAlive i xk tri q2 = 1#1 := by
    refine alive_of_pos _ _ _ _ ?_
    rw [hr]; exact exp2_pos _
  unfold finalAcc
  rw [hal]
  by_cases h0 : 0 < (i 1).val
  · refine loop_apply hL ht _ (Nat.sub_le _ _) _ _ (fun p x l => ⟨?_, ?_⟩) p x l
    · refine ((boxed_apply _ x l).trans (hr p x l)).trans ?_
      refine EReal.coe_eq_coe_iff.2 ?_
      have hb : 256 * (i 1).val = 256 * ((i 1).val - 1) + 256 := by omega
      rw [gone_split (Z p x) (query i x) (256 * ((i 1).val - 1)) (256 * ((i 1).val - 1) + 256) (by omega) (by unfold query; omega), hb]
      unfold gone
      ring
    · refine (boxed_apply (startAcc i xk xv tri q2 p) x l).trans ?_
      exact startAcc_apply hL ht p x l
  · have hz : (i 1).val - 1 = 0 := by omega
    rw [hz, loop]
    refine (boxed_apply (startAcc i xk xv tri q2 p) x l).trans ?_
    have h := startAcc_apply (i := i) (xv := xv) hL ht p x l
    rw [hz] at h
    exact h

end Point

end Cert.Proof.Val

end
-- ==== Proof.Val.Array.lean ====
module

public import proofs.«01_k».proof.Proof.Val.Loop
public import proofs.«01_k».proof.Proof.KI.Frame
public import Idealize.ShloMosaic.Lib.Pipeline.ValueKit
public import Idealize.ShloMosaic.Lib.StableHlo.Run

@[expose] public section

set_option maxRecDepth 16384

noncomputable section

namespace Cert.Proof.Val

open Cert.KernelIdeal Cert.KernelIdeal.Gen Cert.Proof.KI
open Idealize.ShloMosaic Idealize.ShloMosaic.TcCoe

/-! ## The attention, as one function of queries, keys and values -/

/-- A head's lane. -/
def headLane (h : Fin 8) (d : Fin 64) : Fin 512 := ⟨64 * h.val + d.val, by omega⟩

/-- The head of a lane. -/
def headOf (c : Fin 512) : Fin 8 := ⟨c.val / 64, by omega⟩

/-- A key's row. -/
def key (t : ℕ) : Fin 8192 := ⟨t % 8192, Nat.mod_lt _ (by decide)⟩

/-- The logit of a query and a key: their product over a head's lanes, an eighth of it. -/
def logit (q k : Vec Ideal S8x8192x512 .f32) (b : Fin 8) (h : Fin 8) (s : Fin 8192) (t : ℕ) : ℝ :=
  (∑ d : Fin 64, (q (ix3 b s (headLane h d)) : EReal).toReal * (k (ix3 b (key t) (headLane h d)) : EReal).toReal) * (1 / 8)

/-- The same in base two. -/
def logit2 (q k : Vec Ideal S8x8192x512 .f32) (b : Fin 8) (h : Fin 8) (s : Fin 8192) (t : ℕ) : ℝ := logit q k b h s t * (Real.log 2)⁻¹

/-- Queries and keys are finite, and no logit in base two is above a hundred. -/
structure Tame (q k : Vec Ideal S8x8192x512 .f32) : Prop where
  q_real : ∀ i, (q i : EReal) = ((q i : EReal).toReal : EReal)
  k_real : ∀ i, (k i : EReal) = ((k i : EReal).toReal : EReal)
  le : ∀ b h s t, logit2 q k b h s t ≤ 100

/-- The attention's result: at a query, the keys before it weighted. -/
def attention (q k v : Vec Ideal S8x8192x512 .f32) : Vec Ideal S8x8192x512 .bf16 := fun y =>
  ∑ t ∈ Finset.Ico 0 (y 1).val, (weight (logit2 q k (y 0) (headOf (y 2)) (y 1)) (y 1).val t : EReal) * v (ix3 (y 0) (key t) (y 2))

/-! ## One block -/

section Block
variable {q k v : Vec Ideal S8x8192x512 .f32} (i : grid0.Coords) {x0 : Vec Ideal S1x256x512 .bf16} {xk xv : Vec Ideal S1x8192x512 .bf16} {tri : Vec Ideal S256x256 .bf16}

/-- The grid's batch and a block row's query. -/
def batch (i : grid0.Coords) : Fin 8 := ⟨(i 0).val, (i 0).isLt⟩
def rowOf (i : grid0.Coords) (r : ℕ) : Fin 8192 := ⟨256 * (i 1).val + r % 256, by have h : (i 1).val < 32 := (i 1).isLt; omega⟩

/-- The head a stacked row belongs to. -/
def rowHead (p : Fin 4) (r : Fin 512) : Fin 8 := ⟨2 * p.val + r.val / 256, by omega⟩

theorem logits_block (hT : Tame q k) (hq : ∀ (r : Fin 256) (c : Fin 512), x0 (ix3 0 r c) = q (ix3 (batch i) (rowOf i r.val) c))
    (hk : ∀ (j : Fin 8192) (c : Fin 512), xk (ix3 0 j c) = k (ix3 (batch i) j c)) :
    Logits xk (stacked x0) (fun p r => logit2 q k (batch i) (rowHead p r) (rowOf i r.val)) := by
  refine ⟨fun p r j => hT.le _ _ _ _, fun p r j => ?_⟩
  have hr := r.isLt
  have hterm : ∀ d : Fin 128, stacked x0 (ix3 p r d) * xk (ix3 0 j ⟨128 * p.val + d.val, by omega⟩)
      = ((if (r.val < 256) = (d.val < 64) then (q (ix3 (batch i) (rowOf i r.val) (lane p d)) : EReal).toReal * ((1 / 8) * (Real.log 2)⁻¹)
          * (k (ix3 (batch i) j (lane p d)) : EReal).toReal else 0 : ℝ) : EReal) := fun d => by
    rw [stacked_apply, hk, hq]
    have e : rowOf i (r.val % 256) = rowOf i r.val := Fin.ext (by simp [rowOf])
    rw [e, hT.q_real, hT.k_real]
    split
    · rw [EReal.coe_mul, EReal.coe_mul]; rfl
    · rw [zero_mul, EReal.coe_zero]
  rw [Finset.sum_congr rfl fun d _ => hterm d, ← coe_sum]
  refine EReal.coe_eq_coe_iff.2 ?_
  change _ = logit2 q k (batch i) (rowHead p r) (rowOf i r.val) j.val
  have hj : key j.val = j := Fin.ext (Nat.mod_eq_of_lt j.isLt)
  unfold logit2 logit
  rw [hj, Fin.sum_univ_add (a := 64) (b := 64), Finset.sum_mul, Finset.sum_mul]
  by_cases h : r.val < 256
  · refine (congrArg₂ (· + ·) (Finset.sum_congr rfl fun d _ => ?_) (Finset.sum_eq_zero fun d _ => ?_)).trans (add_zero _)
    · have hd := d.isLt
      have e : lane p (Fin.castAdd 64 d) = headLane (rowHead p r) d := Fin.ext (by simp [lane, headLane, rowHead]; omega)
      rw [e, if_pos (by simp [h])]
      ring
    · rw [if_neg (by simp [h])]
  · refine (congrArg₂ (· + ·) (Finset.sum_eq_zero fun d _ => ?_) (Finset.sum_congr rfl fun d _ => ?_)).trans (zero_add _)
    · rw [if_neg (by simp [h])]
    · have hd := d.isLt
      have e : lane p (Fin.natAdd 64 d) = headLane (rowHead p r) d := Fin.ext (by simp [lane, headLane, rowHead]; omega)
      rw [e, if_pos (by simp [h])]
      ring

/-- The block a grid point writes, at an entry. -/
theorem blockOut_apply (hT : Tame q k) (hq : ∀ (r : Fin 256) (c : Fin 512), x0 (ix3 0 r c) = q (ix3 (batch i) (rowOf i r.val) c))
    (hk : ∀ (j : Fin 8192) (c : Fin 512), xk (ix3 0 j c) = k (ix3 (batch i) j c)) (hv : ∀ (j : Fin 8192) (c : Fin 512), xv (ix3 0 j c) = v (ix3 (batch i) j c))
    (ht : IsTri tri) (r : Fin 256) (c : Fin 512) :
    blockOut i x0 xk xv tri (ix3 0 r c) = attention q k v (ix3 (batch i) (rowOf i r.val) c) := by
  have hL := logits_block i hT hq hk
  have hr := r.isLt
  have hc := c.isLt
  have step : ∀ (p : Fin 4) (l : Fin 128) (x : Fin 512), p.val = c.val / 128 → l.val = c.val % 128 → x.val % 256 = r.val → x.val / 256 = l.val / 64 →
      pair (finalAcc i xk xv tri (stacked x0)) p (ix3 0 x l) = attention q k v (ix3 (batch i) (rowOf i r.val) c) := by
    intro p l x hp hl hx hh
    rw [pair_apply, finalAcc_apply hL ht]
    have e1 : rowOf i x.val = rowOf i r.val := Fin.ext (by simp [rowOf]; omega)
    have e2 : rowHead p x = headOf c := Fin.ext (by simp [rowHead, headOf]; omega)
    have e3 : lane p l = c := Fin.ext (by simp [lane]; omega)
    have e4 : query i x = (rowOf i r.val).val := by simp [query, rowOf]; omega
    unfold part
    beta_reduce
    rw [e1, e2, e3, e4]
    refine Finset.sum_congr rfl fun t _ => ?_
    rw [vals, hv]
    rfl
  refine (unstack_apply _ r _).trans ?_
  have hl : c.val % 128 < 128 := Nat.mod_lt _ (by decide)
  split
  · next h =>
    have h' : c.val % 128 < 64 := h
    exact step _ _ _ rfl rfl (Nat.mod_eq_of_lt hr) (by show r.val / 256 = c.val % 128 / 64; omega)
  · next h =>
    have h' : ¬c.val % 128 < 64 := h
    exact step _ _ _ rfl rfl (by show (256 + r.val) % 256 = _; omega) (by show (256 + r.val) / 256 = c.val % 128 / 64; omega)

end Block

/-! ## The arrays as the host leaves them -/

section Host
variable (m : (ℓ : Loc nD τ sig) → Buf (Elt Ideal) ℓ) (c : Dev nD)

/-- The arguments, as vectors. -/
abbrev argQ : Vec Ideal S8x8192x512 .f32 := m ((c : Thread nD τ).loc main_arg0)
abbrev argK : Vec Ideal S8x8192x512 .f32 := m ((c : Thread nD τ).loc main_arg1)
abbrev argV : Vec Ideal S8x8192x512 .f32 := m ((c : Thread nD τ).loc main_arg2)

theorem V_v0 (y : S8x8192x512.Idx) : (V m c main_v0 : Vec Ideal S8x8192x512 .bf16) y = argQ m c y := by
  show (StableHlo.after hostOps0 (fun b => m (c, b)) main_v0 : Vec Ideal S8x8192x512 .bf16) y = _
  simp only [hostOps0]
  after_results_simp
  rfl

theorem V_v1 (y : S8x8192x512.Idx) : (V m c main_v1 : Vec Ideal S8x8192x512 .bf16) y = argK m c y := by
  show (StableHlo.after hostOps0 (fun b => m (c, b)) main_v1 : Vec Ideal S8x8192x512 .bf16) y = _
  simp only [hostOps0]
  after_results_simp
  rfl

theorem V_v2 (y : S8x8192x512.Idx) : (V m c main_v2 : Vec Ideal S8x8192x512 .bf16) y = argV m c y := by
  show (StableHlo.after hostOps0 (fun b => m (c, b)) main_v2 : Vec Ideal S8x8192x512 .bf16) y = _
  simp only [hostOps0]
  after_results_simp
  rfl

theorem V_v7 (t j : Fin 256) : (V m c main_v7 : Vec Ideal S256x256 .bf16) (ix2 t j) = if j.val ≤ t.val then ((-1 : ℝ) : EReal) else 0 := by
  show (StableHlo.after hostOps0 (fun b => m (c, b)) main_v7 : Vec Ideal S256x256 .bf16) (ix2 t j) = _
  simp only [hostOps0]
  after_results_simp
  pointwise
  have hc : IntOp.cmpi .sge (BitVec.ofNat 32 t.val) (BitVec.ofNat 32 j.val) = if j.val ≤ t.val then 1#1 else 0#1 := by
    have h := select_sge t.val j.val (by omega) (by omega) (1#1) (0#1)
    unfold Scalar.select at h
    rw [← h]
    rcases BitVec.eq_zero_or_eq_one (IntOp.cmpi .sge (BitVec.ofNat 32 t.val) (BitVec.ofNat 32 j.val)) with e | e <;> rw [e] <;> rfl
  rw [hc]
  split
  · show -(((1#1 : BitVec 1).toNat : ℝ) : EReal) = _
    norm_num
  · show -(((0#1 : BitVec 1).toNat : ℝ) : EReal) = _
    norm_num

end Host

/-! ## The blocks the grid points stage -/

section Blocks
variable (m : (ℓ : Loc nD τ sig) → Buf (Elt Ideal) ℓ) (c : Dev nD)

theorem index0 : ∀ t : Fin (cfg0 (F := Ideal)).N, win0_0.index t = ![(grid0.coords t 0).val, (grid0.coords t 1).val, 0] := (by decide +kernel : ∀ t : Fin grid0.N, _)
theorem index1 : ∀ t : Fin (cfg0 (F := Ideal)).N, win0_1.index t = ![(grid0.coords t 0).val, 0, 0] := (by decide +kernel : ∀ t : Fin grid0.N, _)
theorem index2 : ∀ t : Fin (cfg0 (F := Ideal)).N, win0_2.index t = ![(grid0.coords t 0).val, 0, 0] := (by decide +kernel : ∀ t : Fin grid0.N, _)
theorem index3 : ∀ t : Fin (cfg0 (F := Ideal)).N, win0_3.index t = ![0, 0] := (by decide +kernel : ∀ t : Fin grid0.N, _)
theorem index4 : ∀ t : Fin (cfg0 (F := Ideal)).N, win0_4.index t = ![(grid0.coords t 0).val, (grid0.coords t 1).val, 0] := (by decide +kernel : ∀ t : Fin grid0.N, _)

theorem block0 (t : Fin (cfg0 (F := Ideal)).N) (r : Fin 256) (l : Fin 512) :
    (iblk m c 0 t : Vec Ideal S1x256x512 .bf16) (ix3 0 r l) = argQ m c (ix3 (batch (grid0.coords t)) (rowOf (grid0.coords t) r.val) l) := by
  rw [← V_v0 m c]
  blk_simp [iblk]
  congr 1
  blk_ext [index0 t]
  · exact Nat.add_zero _
  · show _ = 256 * (grid0.coords t 1).val + r.val % 256
    rw [Nat.mod_eq_of_lt r.isLt, mul_comm]

theorem block1 (t : Fin (cfg0 (F := Ideal)).N) (j : Fin 8192) (l : Fin 512) :
    (iblk m c 1 t : Vec Ideal S1x8192x512 .bf16) (ix3 0 j l) = argK m c (ix3 (batch (grid0.coords t)) j l) := by
  rw [← V_v1 m c]
  blk_simp [iblk]
  congr 1
  blk_ext [index1 t]
  exact Nat.add_zero _

theorem block2 (t : Fin (cfg0 (F := Ideal)).N) (j : Fin 8192) (l : Fin 512) :
    (iblk m c 2 t : Vec Ideal S1x8192x512 .bf16) (ix3 0 j l) = argV m c (ix3 (batch (grid0.coords t)) j l) := by
  rw [← V_v2 m c]
  blk_simp [iblk]
  congr 1
  blk_ext [index2 t]
  exact Nat.add_zero _

theorem block3 (t : Fin (cfg0 (F := Ideal)).N) : IsTri (iblk m c 3 t : Vec Ideal S256x256 .bf16) := fun a j => by
  rw [← V_v7 m c a j]
  blk_simp [iblk]
  congr 1
  blk_ext [index3 t]

theorem block_idx (y : S1x256x512.Idx) : ∃ (r : Fin 256) (l : Fin 512), y = ix3 0 r l :=
  ⟨y 1, y 2, by funext a; fin_cases a <;> first | rfl | exact Subsingleton.elim (α := Fin 1) _ _⟩

/-- The kernel's result array is the attention of its arguments. -/
theorem array_eq (hT : Tame (argQ m c) (argK m c)) : (dats m 0 c).arrAt 4 (cfg0 (F := Ideal)).N = attention (argQ m c) (argK m c) (argV m c) := by
  refine (dats m 0 c).arrAt_eq_of_covers 4 _ (by decide +kernel) fun t hf y => ?_
  blk_simp
  rw [after0_4]
  obtain ⟨r, l, rfl⟩ := block_idx y
  refine (blockOut_apply (v := argV m c) (grid0.coords t) hT (block0 m c t) (block1 m c t) (block2 m c t) (block3 m c t) r l).trans ?_
  congr 1
  symm
  blk_ext [index4 t]
  · exact Nat.add_zero _
  · show _ = 256 * (grid0.coords t 1).val + r.val % 256
    rw [Nat.mod_eq_of_lt r.isLt, mul_comm]

end Blocks

end Cert.Proof.Val

end
-- ==== Proof.Val.Bounded.lean ====
module

public import proofs.«01_k».proof.Pre_bounded
public import proofs.«01_k».proof.Proof.Val.Array
public import Idealize.ShloMosaic.Lib.ReduceAll

@[expose] public section

set_option maxRecDepth 16384

noncomputable section

namespace Cert.Proof.Val

open Idealize.ShloMosaic
open Cert.KernelIdeal (S8x8192x512)

/-! ## What the precondition gives -/

/-- The side conditions of the precondition's operations. -/
theorem facts_bounded : Cert.Pre_bounded.Facts where
  shapeCasts_S8x8192x512_S8x8192x8x64 := by decide
  reducesTo_S8x8192x8x64_S8x8192x8_d3 := by decide
  h_S_ := by decide
  bcast_S_S8x8192x8 := by decide
  reducesTo_S8x8192x8_S_d0_1_2 := by decide

/-- The squares of a head's lanes add up to at most 552. -/
def Short (x : Vec Ideal S8x8192x512 .f32) : Prop :=
  ∀ (b : Fin 8) (s : Fin 8192) (h : Fin 8), ∑ d : Fin 64, (x (ix3 b s (headLane h d)) : EReal) * (x (ix3 b s (headLane h d)) : EReal) ≤ ((552 : ℝ) : EReal)

theorem bound_eq : Ideal.ofBits .f32 0x440A0000#32 = ((552 : ℝ) : EReal) := by
  simp [Ideal.ofBits, Ideal.ieee, -EReal.coe_mul]; norm_num

/-- The precondition, read at a row and a head. -/
theorem short_of_bounded (q k v : Vec Ideal S8x8192x512 .f32) [hF : Cert.Pre_bounded.Facts] (hp : Cert.Pre_bounded.fn (F := Ideal) q k v = fun _ => 1#1) :
    Short q ∧ Short k := by
  have h0 := congrFun hp ix0
  dsimp only [Cert.Pre_bounded.fn] at h0
  have hs : Subsingleton (Cert.Pre_bounded.S_ : Shape).Idx := ⟨fun a b => funext fun x => x.elim0⟩
  have h1 := IntOp.andi_eq_one.1 h0
  have key : ∀ x : Vec Ideal S8x8192x512 .f32, (∀ y, cmpf (F := Ideal) .ole (Host.reduceAdd (mulf (shapeCast Cert.Pre_bounded.S8x8192x8x64 x hF.shapeCasts_S8x8192x512_S8x8192x8x64) (shapeCast Cert.Pre_bounded.S8x8192x8x64 x hF.shapeCasts_S8x8192x512_S8x8192x8x64))
      (constant Cert.Pre_bounded.S_ .f32 0x00000000#32) hF.reducesTo_S8x8192x8x64_S8x8192x8_d3 hF.h_S_)
      (broadcastInDim Cert.Pre_bounded.S8x8192x8 ![] hF.bcast_S_S8x8192x8 (constant Cert.Pre_bounded.S_ .f32 0x440A0000#32)) y = 1#1) → Short x := by
    intro x hx b s h
    have e := hx (ix3 b s h)
    pointwise at e
    rw [bound_eq] at e
    have of1 : ∀ d : Bool, BitVec.ofBool d = 1#1 → d = true := by decide
    have h2 := of_decide_eq_true (of1 _ e)
    refine le_of_eq_of_le (Finset.sum_congr rfl fun d _ => ?_) h2
    have el : (⟨h.val * 64 + d.val, by omega⟩ : Fin 512) = headLane h d := Fin.ext (by show h.val * 64 + d.val = 64 * h.val + d.val; omega)
    rw [el]
  exact ⟨key q fun y => Host.reduce_andi_all _ _ _ _ _ h1.1 y, key k fun y => Host.reduce_andi_all _ _ _ _ _ h1.2 y⟩

/-- A sum of squares below a real has real terms. -/
theorem real_of_short {x : Vec Ideal S8x8192x512 .f32} (hx : Short x) (i : S8x8192x512.Idx) : (x i : EReal) = ((x i : EReal).toReal : EReal) := by
  obtain ⟨b, s, c, rfl⟩ : ∃ (b : Fin 8) (s : Fin 8192) (c : Fin 512), i = ix3 b s c := ⟨i 0, i 1, i 2, by funext a; fin_cases a <;> rfl⟩
  have hsq : ∀ y : EReal, 0 ≤ y * y := fun y => by
    rcases le_total 0 y with h | h
    · exact mul_nonneg h h
    · rw [← neg_mul_neg]; exact mul_nonneg (EReal.neg_nonneg.2 h) (EReal.neg_nonneg.2 h)
  have h1 := (Finset.single_le_sum (f := fun d : Fin 64 => (x (ix3 b s (headLane (headOf c) d)) : EReal) * (x (ix3 b s (headLane (headOf c) d)) : EReal))
    (fun d _ => hsq _) (Finset.mem_univ (⟨c.val % 64, Nat.mod_lt _ (by decide)⟩ : Fin 64))).trans (hx b s (headOf c))
  have ec : headLane (headOf c) ⟨c.val % 64, Nat.mod_lt _ (by decide)⟩ = c := Fin.ext (Nat.div_add_mod c.val 64)
  rw [ec] at h1
  refine (EReal.coe_toReal ?_ ?_).symm
  · intro h; rw [h, EReal.top_mul_top] at h1; exact absurd h1 (not_le.2 (EReal.coe_lt_top _))
  · intro h; rw [h, EReal.bot_mul_bot] at h1; exact absurd h1 (not_le.2 (EReal.coe_lt_top _))

theorem sum_real {x : Vec Ideal S8x8192x512 .f32} (hx : Short x) (b : Fin 8) (s : Fin 8192) (h : Fin 8) :
    ∑ d : Fin 64, (x (ix3 b s (headLane h d)) : EReal).toReal ^ 2 ≤ 552 := by
  have h1 := hx b s h
  have e : ∀ d : Fin 64, (x (ix3 b s (headLane h d)) : EReal) * (x (ix3 b s (headLane h d)) : EReal) = (((x (ix3 b s (headLane h d)) : EReal).toReal ^ 2 : ℝ) : EReal) := fun d => by
    rw [sq, EReal.coe_mul, ← real_of_short hx]
  rw [Finset.sum_congr rfl fun d _ => e d, ← coe_sum] at h1
  exact EReal.coe_le_coe_iff.1 h1

/-- The logarithm of two is at least 0.69. -/
theorem le_log_two : (69 / 100 : ℝ) ≤ Real.log 2 := by
  rw [Real.le_log_iff_exp_le (by norm_num)]
  refine (Real.exp_bound' (x := 69 / 100) (by norm_num) (by norm_num) (n := 7) (by norm_num)).trans ?_
  norm_num [Finset.sum_range_succ, Nat.factorial]

/-- Queries and keys within the precondition are tame. -/
theorem tame_of_short {q k : Vec Ideal S8x8192x512 .f32} (hq : Short q) (hk : Short k) : Tame q k where
  q_real := real_of_short hq
  k_real := real_of_short hk
  le b h s t := by
    unfold logit2 logit
    have hc := Finset.sum_mul_sq_le_sq_mul_sq Finset.univ (fun d : Fin 64 => (q (ix3 b s (headLane h d)) : EReal).toReal) (fun d : Fin 64 => (k (ix3 b (key t) (headLane h d)) : EReal).toReal)
    have h1 := sum_real hq b s h
    have h2 := sum_real hk b (key t) h
    have h0 : (0 : ℝ) ≤ ∑ d : Fin 64, (q (ix3 b s (headLane h d)) : EReal).toReal ^ 2 := Finset.sum_nonneg fun d _ => sq_nonneg _
    have hS : ∑ d : Fin 64, (q (ix3 b s (headLane h d)) : EReal).toReal * (k (ix3 b (key t) (headLane h d)) : EReal).toReal ≤ 552 := by
      have h3 := hc.trans (mul_le_mul h1 h2 (Finset.sum_nonneg fun d _ => sq_nonneg _) (by norm_num))
      exact (abs_le_of_sq_le_sq' (h3.trans_eq (by norm_num)) (by norm_num)).2
    have hl := le_log_two
    rw [← div_eq_mul_inv, div_le_iff₀ (by linarith)]
    linarith

end Cert.Proof.Val

end
-- ==== Proof.Val.Ref.lean ====
module

public import proofs.«01_k».proof.Proof.Gen.ReferenceIdeal.Run
public import proofs.«01_k».proof.Proof.Val.Array

@[expose] public section

set_option maxRecDepth 16384

noncomputable section

namespace Cert.Proof.Ref

open Cert.ReferenceIdeal Cert.ReferenceIdeal.Gen
open Idealize.ShloMosaic Idealize.ShloMosaic.TcCoe

/-! ## The reference, stage by stage -/

/-- An argument by heads. -/
def heads (x : Vec Ideal S8x8192x512 .f32) : FVec Ideal S8x8x8192x64 .f32 :=
  transpose S8x8x8192x64 [0, 2, 1, 3] (shapeCast _ x shapeCasts_S8x8192x512_S8x8192x8x64) transposes_S8x8192x8x64_S8x8x8192x64_0_2_1_3

/-- The logits. -/
def logits (q k : Vec Ideal S8x8192x512 .f32) : FVec Ideal S8x8x8192x8192 .f32 :=
  mulf (Host.dotGeneral dot_S8x8x8192x64_S8x8x8192x64_S8x8x8192x8192_3_3_2_2_01_01 none (heads q) (heads k))
    (broadcastInDim S8x8x8192x8192 ![] bcast_S_S8x8x8192x8192 (constant S_ .f32 0x3E000000#32))

/-- Zeros. -/
def zeros : FVec Ideal S8x8x8192x8192 .f32 := broadcastInDim S8x8x8192x8192 ![] bcast_S_S8x8x8192x8192 (constant S_ .f32 0x00000000#32)
def zeros' : FVec Ideal S8x8x8192x8192 .f32 := broadcastInDim S8x8x8192x8192 ![] bcast_S_S8x8x8192x8192 (id (constant S_ .f32 0x00000000#32))

/-- The logarithm of the logistic of each logit. -/
def logBeta (z : FVec Ideal S8x8x8192x8192 .f32) : FVec Ideal S8x8x8192x8192 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

/-- Which keys are before which queries. -/
def causal : IVec S8x8x8192x8192 1 :=
  broadcastInDim S8x8x8192x8192 ![2, 3] bcast_S8192x8192_S8x8x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The logarithm of what each key leaves of the stick. -/
def logLeft (z : FVec Ideal S8x8x8192x8192 .f32) : FVec Ideal S8x8x8192x8192 .f32 := select causal (subf (logBeta z) z) zeros'

/-- The sums from each key on. -/
def sumsFrom (x : FVec Ideal S8x8x8192x8192 .f32) : FVec Ideal S8x8x8192x8192 .f32 :=
  Host.reduceWindowAdd ![1, 1, 1, 8192] ![1, 1, 1, 1] ![0, 0, 0, 0] ![0, 0, 0, 8191] x (broadcastInDim S_ ![] bcast_S_S_ (constant S_ .f32 0x00000000#32)) reduceWindows_S8x8x8192x8192_S8x8x8192x8192_w1s1p0_0_w1s1p0_0_w1s1p0_0_w8192s1p0_8191 h_S_

/-- The weights. -/
def weights (z : FVec Ideal S8x8x8192x8192 .f32) : FVec Ideal S8x8x8192x8192 .f32 :=
  select causal (Host.exp (addf (logBeta z) (subf (sumsFrom (logLeft z)) (logLeft z)))) zeros'

/-- The reference's result. -/
def out (q k v : Vec Ideal S8x8192x512 .f32) : Vec Ideal S8x8192x512 .bf16 :=
  truncf .bf16 (shapeCast _ (transpose S8x8192x8x64 [0, 2, 1, 3] (Host.dotGeneral dot_S8x8x8192x8192_S8x8x8192x64_S8x8x8192x64_3_2_2_3_01_01 none (weights (logits q k)) (heads v)) transposes_S8x8x8192x64_S8x8192x8x64_0_2_1_3) shapeCasts_S8x8192x8x64_S8x8192x512) bitsLt_bf16_f32

theorem res_eq (m : (ℓ : Loc nD τ sig) → Buf (Elt Ideal) ℓ) (c : Dev nD) :
    Value.res_main_v27 (F := Ideal) m c = out (m ((c.tc : Thread nD τ).loc main_arg0)) (m ((c.tc : Thread nD τ).loc main_arg1)) (m ((c.tc : Thread nD τ).loc main_arg2)) := rfl

/-! ## The stages at an entry -/

theorem heads_apply (x : Vec Ideal S8x8192x512 .f32) (b h : Fin 8) (s : Fin 8192) (d : Fin 64) :
    heads x (ix4 b h s d) = x (ix3 b s ⟨64 * h.val + d.val, by omega⟩) := by
  pointwise [heads]
  congr 2
  exact Fin.ext (by show h.val * 64 + d.val = 64 * h.val + d.val; omega)

theorem logits_apply (q k : Vec Ideal S8x8192x512 .f32) (b h : Fin 8) (s t : Fin 8192) :
    logits q k (ix4 b h s t) = (∑ d : Fin 64, heads q (ix4 b h s d) * heads k (ix4 b h t d)) * Ideal.ofBits .f32 0x3E000000#32 := by
  pointwise [logits]

theorem logBeta_apply (z : FVec Ideal S8x8x8192x8192 .f32) (y : S8x8x8192x8192.Idx) (x : ℝ) (hx : z y = (x : EReal)) :
    logBeta z y = ((x - Real.log (1 + Real.exp x) : ℝ) : EReal) := by
  pointwise [logBeta, zeros]
  have e : FloatOps.absf (F := Ideal) (φ := .f32) (-z y) = ((|x| : ℝ) : EReal) := by
    rw [hx]
    show max (-(x : EReal)) (- -(x : EReal)) = _
    rw [neg_neg, max_comm, ← EReal.coe_neg]
    rcases le_total (-x) x with h | h
    · rw [max_eq_left (EReal.coe_le_coe_iff.2 h), abs_of_nonneg (by linarith)]
    · rw [max_eq_right (EReal.coe_le_coe_iff.2 h), abs_of_nonpos (by linarith)]
  rw [if_neg (by simp), e, hx, ← EReal.coe_neg, ← EReal.coe_neg, Ideal.exp_coe]
  have e1 : Ideal.log1p ((Real.exp (-|x|) : ℝ) : EReal) = ((Real.log (1 + Real.exp (-|x|)) : ℝ) : EReal) := by
    have hp := Real.exp_pos (-|x|)
    rw [Ideal.log1p, ← EReal.coe_one, ← EReal.coe_add, Ideal.log_coe, if_neg (by linarith)]
  have e2 : max ((-x : ℝ) : EReal) 0 = ((max (-x) 0 : ℝ) : EReal) := by
    rcases le_total (-x) 0 with h | h
    · rw [max_eq_right h, max_eq_right (by exact_mod_cast h)]; rfl
    · rw [max_eq_left h, max_eq_left (by exact_mod_cast h)]
  rw [e1, e2, ← EReal.coe_add, ← EReal.coe_neg]
  refine EReal.coe_eq_coe_iff.2 ?_
  rcases le_total x 0 with h | h
  · rw [abs_of_nonpos h, max_eq_left (by linarith), neg_neg]; ring
  · rw [abs_of_nonneg h, max_eq_right (by linarith)]
    have e3 : 1 + Real.exp x = Real.exp x * (1 + Real.exp (-x)) := by
      rw [mul_add, ← Real.exp_add]; simp [add_comm]
    have hp := Real.exp_pos (-x)
    rw [e3, Real.log_mul (Real.exp_pos x).ne' (by linarith), Real.log_exp]
    ring

theorem causal_select (a c : FVec Ideal S8x8x8192x8192 .f32) (b h : Fin 8) (s t : Fin 8192) :
    select causal a c (ix4 b h s t) = if t.val < s.val then a (ix4 b h s t) else c (ix4 b h s t) := by
  pointwise [causal]
  exact Val.select_slt _ _ (by omega) (by omega) _ _

theorem zeros'_apply (y : S8x8x8192x8192.Idx) : zeros' y = (0 : EReal) := by
  pointwise [zeros']
  exact Ideal.ofBits_zero_f32

theorem foldl_add {α : Type} (g : α → EReal) : ∀ (l : List α) (a : EReal), l.foldl (fun r n => r + g n) a = a + (l.map g).sum
  | [], a => by simp
  | n :: l, a => by rw [List.foldl_cons, foldl_add g l, List.map_cons, List.sum_cons, add_assoc]

/-- The sums from each key on, of a row of reals. -/
theorem sumsFrom_apply (x : FVec Ideal S8x8x8192x8192 .f32) (b h : Fin 8) (s j : Fin 8192) (f : ℕ → ℝ) (hx : ∀ t : Fin 8192, x (ix4 b h s t) = (f t.val : EReal)) :
    sumsFrom x (ix4 b h s j) = ((∑ t ∈ Finset.Ico j.val 8192, f t : ℝ) : EReal) := by
  unfold sumsFrom Host.reduceWindowAdd
  rw [Ideal.hostReduceWindowAdd_def]
  unfold Ideal.hostReduceWindowAdd Host.reduceWindow
  dsimp only
  rw [foldl_add]
  have e0 : broadcastInDim S_ ![] bcast_S_S_ (constant (F := Ideal) S_ .f32 0x00000000#32) (Shape.Idx.first h_S_) = (0 : EReal) := Ideal.ofBits_zero_f32
  rw [e0, zero_add, ← Fin.sum_univ_def]
  refine (Finset.sum_congr rfl fun n _ => ?_).trans ((Equiv.sum_comp (⟨4, ![1, 1, 1, 8192]⟩ : Shape).rowMajor.symm (fun y : (⟨4, ![1, 1, 1, 8192]⟩ : Shape).Idx =>
    ((if j.val + (y 3).val < 8192 then f (j.val + (y 3).val) else 0 : ℝ) : EReal))).trans ?_)
  · have h0 : ((⟨4, ![1, 1, 1, 8192]⟩ : Shape).rowMajor.symm n 0).val < 1 := ((⟨4, ![1, 1, 1, 8192]⟩ : Shape).rowMajor.symm n 0).isLt
    have h1 : ((⟨4, ![1, 1, 1, 8192]⟩ : Shape).rowMajor.symm n 1).val < 1 := ((⟨4, ![1, 1, 1, 8192]⟩ : Shape).rowMajor.symm n 1).isLt
    have h2 : ((⟨4, ![1, 1, 1, 8192]⟩ : Shape).rowMajor.symm n 2).val < 1 := ((⟨4, ![1, 1, 1, 8192]⟩ : Shape).rowMajor.symm n 2).isLt
    by_cases hw : j.val + ((⟨4, ![1, 1, 1, 8192]⟩ : Shape).rowMajor.symm n 3).val < 8192
    · refine (dif_pos ?_).trans ?_
      · intro a; fin_cases a
        · exact ⟨Nat.zero_le _, by show b.val * 1 + ((⟨4, ![1, 1, 1, 8192]⟩ : Shape).rowMajor.symm n 0).val - 0 < 8; omega⟩
        · exact ⟨Nat.zero_le _, by show h.val * 1 + ((⟨4, ![1, 1, 1, 8192]⟩ : Shape).rowMajor.symm n 1).val - 0 < 8; omega⟩
        · exact ⟨Nat.zero_le _, by show s.val * 1 + ((⟨4, ![1, 1, 1, 8192]⟩ : Shape).rowMajor.symm n 2).val - 0 < 8192; omega⟩
        · exact ⟨Nat.zero_le _, by show j.val * 1 + ((⟨4, ![1, 1, 1, 8192]⟩ : Shape).rowMajor.symm n 3).val - 0 < 8192; omega⟩
      · refine Eq.trans ?_ ((hx ⟨_, hw⟩).trans (congrArg _ (if_pos hw).symm))
        congr 1
        funext a; apply Fin.ext; fin_cases a
        · show b.val * 1 + ((⟨4, ![1, 1, 1, 8192]⟩ : Shape).rowMajor.symm n 0).val - 0 = b.val; omega
        · show h.val * 1 + ((⟨4, ![1, 1, 1, 8192]⟩ : Shape).rowMajor.symm n 1).val - 0 = h.val; omega
        · show s.val * 1 + ((⟨4, ![1, 1, 1, 8192]⟩ : Shape).rowMajor.symm n 2).val - 0 = s.val; omega
        · show j.val * 1 + ((⟨4, ![1, 1, 1, 8192]⟩ : Shape).rowMajor.symm n 3).val - 0 = j.val + ((⟨4, ![1, 1, 1, 8192]⟩ : Shape).rowMajor.symm n 3).val; omega
    · refine (dif_neg ?_).trans (by rw [if_neg hw]; rfl)
      intro hin
      have h3 : j.val * 1 + ((⟨4, ![1, 1, 1, 8192]⟩ : Shape).rowMajor.symm n 3).val - 0 < 8192 := (hin 3).2
      omega
  rw [sum_idx4, Fin.sum_univ_one, Fin.sum_univ_one, Fin.sum_univ_one]
  show ∑ w : Fin 8192, ((if j.val + w.val < 8192 then f (j.val + w.val) else 0 : ℝ) : EReal) = _
  rw [← Val.coe_sum, Fin.sum_univ_eq_sum_range (fun w => if j.val + w < 8192 then f (j.val + w) else 0) 8192, ← Finset.sum_filter, Finset.sum_Ico_eq_sum_range]
  congr 2
  ext w; simp only [Finset.mem_filter, Finset.mem_range]; omega

/-- A weight of the reference, of a row of real logits. -/
theorem weights_apply (z : FVec Ideal S8x8x8192x8192 .f32) (b h : Fin 8) (s t : Fin 8192) (f : ℕ → ℝ) (hz : ∀ t : Fin 8192, z (ix4 b h s t) = (f t.val : EReal)) :
    weights z (ix4 b h s t) = if t.val < s.val then (Val.weight (fun t => f t * (Real.log 2)⁻¹) s.val t.val : EReal) else 0 := by
  have hl : 0 < Real.log 2 := Real.log_pos (by norm_num)
  have hleft : ∀ t : Fin 8192, logLeft z (ix4 b h s t) = ((if t.val < s.val then -Real.log (1 + Real.exp (f t.val)) else 0 : ℝ) : EReal) := fun t => by
    unfold logLeft
    rw [causal_select, zeros'_apply]
    split
    · show logBeta z (ix4 b h s t) - z (ix4 b h s t) = _
      rw [logBeta_apply z _ _ (hz t), hz, ← EReal.coe_sub]
      refine EReal.coe_eq_coe_iff.2 ?_
      ring
    · rfl
  unfold weights
  rw [causal_select, zeros'_apply]
  split
  · next hts =>
    show Ideal.exp (logBeta z (ix4 b h s t) + (sumsFrom (logLeft z) (ix4 b h s t) - logLeft z (ix4 b h s t))) = _
    rw [logBeta_apply z _ _ (hz t), sumsFrom_apply (logLeft z) b h s t (fun t => if t < s.val then -Real.log (1 + Real.exp (f t)) else 0) hleft, hleft t,
      ← EReal.coe_sub, ← EReal.coe_add, Ideal.exp_coe, if_pos hts]
    refine EReal.coe_eq_coe_iff.2 ?_
    have h2 : ∀ x : ℝ, Real.rpow 2 (x * (Real.log 2)⁻¹) = Real.exp x := fun x => by
      refine (Real.rpow_def_of_pos (by norm_num) _).trans ?_
      congr 1
      field_simp
    have hgone : Val.gone (fun t => f t * (Real.log 2)⁻¹) s.val t.val = (∑ j ∈ Finset.Ico t.val s.val, Real.log (1 + Real.exp (f j))) * (Real.log 2)⁻¹ := by
      unfold Val.gone Val.brk
      rw [Finset.sum_mul]
      exact Finset.sum_congr rfl fun j _ => by rw [h2]
    have hsum : ∑ j ∈ Finset.Ico t.val 8192, (if j < s.val then -Real.log (1 + Real.exp (f j)) else 0) = -∑ j ∈ Finset.Ico t.val s.val, Real.log (1 + Real.exp (f j)) := by
      rw [← Finset.sum_filter, ← Finset.sum_neg_distrib]
      congr 1
      ext j; simp only [Finset.mem_filter, Finset.mem_Ico]; omega
    unfold Val.weight
    rw [hgone, ← sub_mul, h2, hsum]
    congr 1
    ring
  · rfl

theorem out_apply (q k v : Vec Ideal S8x8192x512 .f32) (b : Fin 8) (s : Fin 8192) (c : Fin 512) :
    out q k v (ix3 b s c) = ∑ t : Fin 8192, weights (logits q k) (ix4 b ⟨c.val / 64, by omega⟩ s t) * heads v (ix4 b ⟨c.val / 64, by omega⟩ t ⟨c.val % 64, Nat.mod_lt _ (by decide)⟩) := by
  pointwise [out]

/-- The reference's result is the attention of its arguments. -/
theorem out_eq (q k v : Vec Ideal S8x8192x512 .f32) (hT : Val.Tame q k) : out q k v = Val.attention q k v := by
  funext y
  obtain ⟨b, s, c, rfl⟩ : ∃ (b : Fin 8) (s : Fin 8192) (c : Fin 512), y = ix3 b s c := ⟨y 0, y 1, y 2, by funext a; fin_cases a <;> rfl⟩
  have hz : ∀ t : Fin 8192, logits q k (ix4 b (Val.headOf c) s t) = (Val.logit q k b (Val.headOf c) s t.val : EReal) := fun t => by
    have hd : ∀ d : Fin 64, heads q (ix4 b (Val.headOf c) s d) * heads k (ix4 b (Val.headOf c) t d)
        = (((q (ix3 b s (Val.headLane (Val.headOf c) d)) : EReal).toReal * (k (ix3 b (Val.key t.val) (Val.headLane (Val.headOf c) d)) : EReal).toReal : ℝ) : EReal) := fun d => by
      have ek : Val.key t.val = t := Fin.ext (Nat.mod_eq_of_lt t.isLt)
      rw [heads_apply, heads_apply, EReal.coe_mul, ek, ← hT.q_real, ← hT.k_real]
      rfl
    have e8 : Ideal.ofBits .f32 0x3E000000#32 = ((1 / 8 : ℝ) : EReal) := by
      simp [Ideal.ofBits, Ideal.ieee, -EReal.coe_mul]; norm_num
    rw [logits_apply, Finset.sum_congr rfl fun d _ => hd d, ← Val.coe_sum, e8, ← EReal.coe_mul]
    rfl
  rw [out_apply]
  have ht : ∀ t : Fin 8192, weights (logits q k) (ix4 b (Val.headOf c) s t) * heads v (ix4 b (Val.headOf c) t ⟨c.val % 64, Nat.mod_lt _ (by decide)⟩)
      = if t.val < s.val then (Val.weight (Val.logit2 q k b (Val.headOf c) s) s.val t.val : EReal) * v (ix3 b (Val.key t.val) c) else 0 := fun t => by
    have ek : Val.key t.val = t := Fin.ext (Nat.mod_eq_of_lt t.isLt)
    have ec : (⟨64 * (Val.headOf c).val + c.val % 64, by have := c.isLt; simp only [Val.headOf]; omega⟩ : Fin 512) = c := Fin.ext (Nat.div_add_mod c.val 64)
    rw [weights_apply (logits q k) b (Val.headOf c) s t _ hz, heads_apply, ek]
    split
    · congr 2
      exact congrArg (ix3 b t) ec
    · rw [zero_mul]
  refine (Finset.sum_congr rfl fun t _ => ht t).trans ?_
  rw [Fin.sum_univ_eq_sum_range (fun t => if t < s.val then (Val.weight (Val.logit2 q k b (Val.headOf c) s) s.val t : EReal) * v (ix3 b (Val.key t) c) else 0) 8192, ← Finset.sum_filter]
  have hr : (Finset.range 8192).filter (fun t => t < s.val) = Finset.Ico 0 s.val := by
    ext t; simp only [Finset.mem_filter, Finset.mem_range, Finset.mem_Ico]; have := s.isLt; omega
  rw [hr]
  rfl

end Cert.Proof.Ref

end
-- ==== Proof.Main.Algebraic.lean ====
module

public import proofs.«01_k».proof.Defs
public import proofs.«01_k».proof.Proof.KI.Frame
public import proofs.«01_k».proof.Proof.Val.Bounded
public import proofs.«01_k».proof.Proof.Val.Ref
public import proofs.«01_k».proof.Proof.Gen.KernelIdeal
public import proofs.«01_k».proof.Proof.Gen.ReferenceIdeal

@[expose] public section

noncomputable section

namespace Cert.Proof

open Idealize.ShloMosaic Idealize.SL.Sem

/-- The precondition keeps the logits below 100. -/
theorem tame (m : (ℓ : Loc Cert.KernelIdeal.nD Cert.KernelIdeal.τ Cert.KernelIdeal.sig) → Buf (Elt Ideal) ℓ)
    (hp : Cert.Pre_KernelIdeal_bounded (hPre_bounded := Val.facts_bounded) m) (c : Dev Cert.KernelIdeal.nD) : Val.Tame (Val.argQ m c) (Val.argK m c) :=
  have h := Val.short_of_bounded (hF := Val.facts_bounded) _ _ _ (hp c)
  Val.tame_of_short h.1 h.2

/-- On bounded queries and keys the kernel's run and the reference's run leave the same result, the stick-breaking attention of the arguments. -/
theorem algebraic : Cert.algebraic_KernelIdeal_ReferenceIdeal_pre_bounded (hPre_bounded := Val.facts_bounded) := by
  intro m g m' g' hp ha
  refine ⟨fun c => Val.attention (Val.argQ m c) (Val.argK m c) (Val.argV m c), ?_, ?_⟩
  · refine (θ_run _ _ _).mono (fun r h c => ⟨((h c).1).trans (Val.array_eq m c (tame m hp c)), (h c).2⟩) (KI.run_blocks (F := Ideal) m g)
  · refine (θ_run _ _ _).mono (fun r h c => ⟨((h c).1).trans ?_, (h c).2⟩) (Cert.ReferenceIdeal.Value.run (F := Ideal) m' g')
    rw [Ref.res_eq, (ha c).1, (ha c).2.1, (ha c).2.2]
    exact Ref.out_eq _ _ _ (tame m hp c)

end Cert.Proof

end
-- ==== Proof.Out.Block.lean ====
module

public import proofs.«01_k».proof.Proof.Gen.Kernel2Ideal.Frame
public import Idealize.ShloMosaic.Lib.Pipeline.Value
public import Idealize.ShloMosaic.Lib.Affine
public import Idealize.ShloMosaic.Lib.WritesUnit
public import Idealize.ShloMosaic.Lib.Pointwise

@[expose] public section

set_option maxRecDepth 16384
set_option pp.maxSteps 3000
set_option pp.deepTerms false
set_option pp.deepTerms.threshold 9

noncomputable section

namespace Cert.Proof.Out

open Idealize.ShloMosaic Idealize.SL.Sem Cert.Kernel2Ideal
open Cert.Kernel2Ideal.Gen Idealize.ShloMosaic.TcCoe

variable {F : FTy → Type} [FloatOps F] [Named F]

/-! ## What a grid point computes from its blocks -/

section Stages

variable (x0 : Vec F S1x512x1024 .f32) (x1 x2 : Vec F S1x512x512 .bf16) (x3 : Vec F S1x512x256 .f32) (x4 : Vec F S1024x1024 .bf16)
  (x5 : Vec F S1x1024 .f32) (x6 : Vec F S1024x5632 .bf16) (x7 : Vec F S3x2816 .f32) (x8 : Vec F S1x2816 .f32) (x9 : Vec F S2816x1024 .bf16)
  (x10 : Vec F S1x1024 .f32) (x11 : Vec F S1024x1024 .bf16) (x12 : Vec F S256x1024 .bf16)

/-- The residual stream after the mixers. -/
def hid : FVec F S512x1024 .f32 :=
  k0_pay1 x0 x1 (View.ld x4 (Rect.unit ![0, 0] S512x1024.size inb_S1024x1024_S512x1024_0_0)) x2 (View.ld x4 (Rect.unit ![512, 0] S512x1024.size inb_S1024x1024_S512x1024_512_0))

/-- … normalised. -/
def mid : FVec F S512x1024 .bf16 :=
  k0_pay3 x0 x1 (View.ld x4 (Rect.unit ![0, 0] S512x1024.size inb_S1024x1024_S512x1024_0_0)) x2 (View.ld x4 (Rect.unit ![512, 0] S512x1024.size inb_S1024x1024_S512x1024_512_0)) x5

/-- The columns of the up projection that make the gate. -/
def gateCols : Vec F S1024x2816 .bf16 := View.ld x6 (Rect.unit ![0, 0] S1024x2816.size inb_S1024x5632_S1024x2816_0_0)

/-- The gate. -/
def gate : FVec F S512x2816 .f32 := k0_pay6 (mid x0 x1 x2 x4 x5) (gateCols x6)

/-- The block that the point leaves, from the gate two rows (`g6`) and one row (`g7`) earlier. -/
def left (g6 g7 : Vec F S512x2816 .f32) : FVec F S1x512x1024 .f32 :=
  k0_pay12 (hid x0 x1 x2 x4) (k0_pay5 (mid x0 x1 x2 x4 x5) (View.ld x6 (Rect.unit ![0, 2816] S1024x2816.size inb_S1024x5632_S1024x2816_0_2816)))
    (k0_pay9 (mid x0 x1 x2 x4 x5) (gateCols x6) x8 (View.ld x7 (Rect.unit ![0, 0] S1x2816.size inb_S3x2816_S1x2816_0_0)) g6 (View.ld x7 (Rect.unit ![1, 0] S1x2816.size inb_S3x2816_S1x2816_1_0)) g7 (View.ld x7 (Rect.unit ![2, 0] S1x2816.size inb_S3x2816_S1x2816_2_0)))
    (k0_pay10 (mid x0 x1 x2 x4 x5) (gateCols x6) x8 (View.ld x7 (Rect.unit ![0, 0] S1x2816.size inb_S3x2816_S1x2816_0_0)) g6 (View.ld x7 (Rect.unit ![1, 0] S1x2816.size inb_S3x2816_S1x2816_1_0)) g7 (View.ld x7 (Rect.unit ![2, 0] S1x2816.size inb_S3x2816_S1x2816_2_0)))
    k0_pay11 x9 x10 x11 x3 x12

end Stages

/-- The gate some rows earlier: `8 - o` rows, the first of them from the eight rows `tail` before the block. -/
def earlier (tail : Fin 8 → Fin 2816 → F .f32) (g : FVec F S512x2816 .f32) (o : ℕ) (ho : o ≤ 8) : Vec F S512x2816 .f32 := fun y =>
  if h : o + (y 0).val < 8 then tail ⟨o + (y 0).val, h⟩ (y 1) else g (ix2 ⟨o + (y 0).val - 8, by have := (y 0).isLt; simp only [Shape.size] at this; change _ < 512 at this; omega⟩ (y 1))

theorem zero2 : (![0, 0] : Fin 2 → Nat) = fun _ => 0 := funext fun a => by fin_cases a <;> rfl
theorem zero3 : (![0, 0, 0] : Fin 3 → Nat) = fun _ => 0 := funext fun a => by fin_cases a <;> rfl

/-- The scratch after the gate is stored: below row 8 what was there, from row 8 on the gate. -/
theorem read_gate {sig : RefSig} {κ : Kind} {sp : Space} (v : View sig κ sp S520x2816 .f32) (f : v.ty.Contents (Elt F)) (g : FVec F S512x2816 .f32)
    (L : List (View.Piece (Elt F) S520x2816 .f32)) (tail : Fin 8 → Fin 2816 → F .f32)
    (ht : ∀ (r : Fin 8) (d : Fin 2816), v.read (Elt F) (v.writes (Elt F) f L) (ix2 ⟨r.val, by omega⟩ d) = tail r d) (o : ℕ) (ho : o ≤ 8) (inb) :
    v.readAt (Elt F) (Rect.unit (s := S520x2816) ![o, 0] S512x2816.size inb).toLoadRect
      (v.writes (Elt F) f (⟨Rect.unit ![8, 0] S512x2816.size inb_S520x2816_S512x2816_8_0, g⟩ :: L)) = earlier tail g o ho := by
  funext y
  obtain ⟨r, d, rfl⟩ : ∃ (r : Fin 512) (d : Fin 2816), y = ix2 r d := ⟨y 0, y 1, (ix2_eta y).symm⟩
  rw [View.readAt_apply]
  have e : (Rect.unit (s := S520x2816) ![o, 0] S512x2816.size inb).toLoadRect.idx (ix2 r d) = ix2 ⟨o + r.val, by omega⟩ d := by
    funext a; fin_cases a <;> exact Fin.ext (by simp [Rect.unit, LoadRect.idx, Rect.toLoadRect])
  rw [e]
  unfold earlier
  by_cases h : o + r.val < 8
  · rw [dif_pos (show o + ((ix2 r d : S512x2816.Idx) 0).val < 8 from h)]
    rw [View.read_writes_cons_rows_of_not_mem (o := 8) (W := 512) v f _ _ _ _ rfl rfl (.inl h)]
    exact ht ⟨o + r.val, h⟩ d
  · rw [dif_neg (show ¬ o + ((ix2 r d : S512x2816.Idx) 0).val < 8 from h)]
    exact View.read_writes_cons_rows_of_mem (o := 8) v f _ _ _ _ (ix2 ⟨o + r.val - 8, by omega⟩ d) rfl (by show o + r.val = 8 + (o + r.val - 8); omega) rfl

variable (m : (ℓ : Loc nD τ sig) → Buf (Elt F) ℓ)

/-- The gate of a grid point. -/
abbrev gateAt (c : Dev nD) (t : Fin cfg0.N) : FVec F S512x2816 .f32 :=
  gate (iblk m c 0 t) (iblk m c 1 t) (iblk m c 2 t) (iblk m c 4 t) (iblk m c 5 t) (iblk m c 6 t)

/-- What a grid point leaves, over the eight rows of the gate before it. -/
abbrev leftAt (c : Dev nD) (t : Fin cfg0.N) (tail : Fin 8 → Fin 2816 → F .f32) : FVec F S1x512x1024 .f32 :=
  left (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (earlier tail (gateAt m c t) 6 (by decide)) (earlier tail (gateAt m c t) 7 (by decide))

/-- The zeros that stand before a sequence's first row. -/
theorem read_zero {sig : RefSig} {κ : Kind} {sp : Space} (v : View sig κ sp S520x2816 .f32) (f : v.ty.Contents (Elt F)) (r : Fin 8) (d : Fin 2816) :
    v.read (Elt F) (v.writes (Elt F) f [⟨Rect.unit ![0, 0] S8x2816.size inb_S520x2816_S8x2816_0_0, k0_pay2⟩]) (ix2 ⟨r.val, by omega⟩ d)
      = FloatOps.ofBits .f32 0x00000000#32 :=
  (View.read_writes_cons_rows_of_mem (o := 0) v f _ _ _ _ (ix2 r d) rfl (by show r.val = 0 + r.val; omega) rfl).trans rfl

/-- The first point of a sequence takes zeros for the rows before it. -/
theorem out_first (c : Dev nD) (t : Fin cfg0.N) (h0 : t.val % 16 = 0) :
    (outsAt0 m c t.val t.isLt).1 = leftAt m c t fun _ _ => FloatOps.ofBits .f32 0x00000000#32 := by
  rw [outsAt0_A m c t h0]
  dsimp only
  unfold out0_A_13
  rw [View.read_writes_junk_eq_canon]
  unfold kernelRun0_A
  dsimp only
  rw [View.canon_unit_zero zero3]
  sl_unfold_words
  simp only [View.readAt_eq_ld, Memref.IsWhole.read_unread, View.ld_unit_zero (S := S1x512x1024) zero3, View.ld_unit_zero (S := S1x512x512) zero3, View.ld_unit_zero (S := S1x512x256) zero3,
    View.ld_unit_zero (S := S1x1024) zero2, View.ld_unit_zero (S := S1x2816) zero2, View.ld_unit_zero (S := S2816x1024) zero2, View.ld_unit_zero (S := S1024x1024) zero2,
    View.ld_unit_zero (S := S256x1024) zero2]
  exact congrArg₂ (left (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t))
    (read_gate (View.whole cc0_scratch0) _ (gateAt m c t) _ _ (read_zero _ _) 6 (by decide) _) (read_gate (View.whole cc0_scratch0) _ (gateAt m c t) _ _ (read_zero _ _) 7 (by decide) _)

/-- Every other point takes the eight rows that the point before it carried. -/
theorem out_next (c : Dev nD) (t : Fin cfg0.N) (h0 : ¬ t.val % 16 = 0) :
    (outsAt0 m c t.val t.isLt).1 = leftAt m c t fun r d => (outsAt0 m c (t.val - 1) (by omega)).2 (ix2 ⟨r.val, by omega⟩ d) := by
  rw [outsAt0_B m c t h0]
  dsimp only
  unfold out0_B_13
  rw [View.read_writes_junk_eq_canon]
  unfold kernelRun0_B
  dsimp only
  rw [View.canon_unit_zero zero3]
  sl_unfold_words
  simp only [View.readAt_eq_ld, Memref.IsWhole.read_unread, View.ld_unit_zero (S := S1x512x1024) zero3, View.ld_unit_zero (S := S1x512x512) zero3, View.ld_unit_zero (S := S1x512x256) zero3,
    View.ld_unit_zero (S := S1x1024) zero2, View.ld_unit_zero (S := S1x2816) zero2, View.ld_unit_zero (S := S2816x1024) zero2, View.ld_unit_zero (S := S1024x1024) zero2,
    View.ld_unit_zero (S := S256x1024) zero2]
  exact congrArg₂ (left (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t))
    (read_gate (View.whole cc0_scratch0) _ (gateAt m c t) [] _ (fun r d => by rw [View.writes_nil]; exact congrFun (Memref.IsWhole.read_unread _ _) _) 6 (by decide) _)
    (read_gate (View.whole cc0_scratch0) _ (gateAt m c t) [] _ (fun r d => by rw [View.writes_nil]; exact congrFun (Memref.IsWhole.read_unread _ _) _) 7 (by decide) _)

/-- A store of the first eight rows is what is read there. -/
theorem read_head {sig : RefSig} {κ : Kind} {sp : Space} (v : View sig κ sp S520x2816 .f32) (f : v.ty.Contents (Elt F)) (p : FVec F S8x2816 .f32)
    (L : List (View.Piece (Elt F) S520x2816 .f32)) (r : Fin 8) (d : Fin 2816) :
    v.read (Elt F) (v.writes (Elt F) f (⟨Rect.unit ![0, 0] S8x2816.size inb_S520x2816_S8x2816_0_0, p⟩ :: L)) (ix2 ⟨r.val, by omega⟩ d) = p (ix2 r d) :=
  View.read_writes_cons_rows_of_mem (o := 0) v f _ _ _ _ (ix2 r d) rfl (by show r.val = 0 + r.val; omega) rfl

/-- The last eight rows of the gate. -/
theorem last_rows (u : FVec F S512x1024 .bf16) (w : Vec F S1024x2816 .bf16) (r : Fin 8) (d : Fin 2816) :
    k0_pay8 u w (ix2 r d) = k0_pay6 u w (ix2 ⟨504 + r.val, by omega⟩ d) := by
  unfold k0_pay8 k0_pay6
  rw [shapeCast_self, shapeCast_self]
  pointwise []

/-- The rows that a point carries: the last eight of its gate. -/
theorem carried (c : Dev nD) (t : Fin cfg0.N) (r : Fin 8) (d : Fin 2816) :
    (outsAt0 m c t.val t.isLt).2 (ix2 ⟨r.val, by omega⟩ d) = gateAt m c t (ix2 ⟨504 + r.val, by omega⟩ d) := by
  by_cases h0 : t.val % 16 = 0
  · rw [outsAt0_A m c t h0]
    dsimp only
    unfold sout0_A_0
    unfold kernelRun0_A
    dsimp only
    sl_unfold_words
    simp only [View.readAt_eq_ld, Memref.IsWhole.read_unread, View.ld_unit_zero (S := S1x512x1024) zero3, View.ld_unit_zero (S := S1x512x512) zero3,
      View.ld_unit_zero (S := S1x1024) zero2]
    exact (read_head VS0_0 _ (k0_pay8 (mid (iblk m c 0 t) (iblk m c 1 t) (iblk m c 2 t) (iblk m c 4 t) (iblk m c 5 t)) (gateCols (iblk m c 6 t))) _ r d).trans (last_rows _ _ r d)
  · rw [outsAt0_B m c t h0]
    dsimp only
    unfold sout0_B_0
    unfold kernelRun0_B
    dsimp only
    sl_unfold_words
    simp only [View.readAt_eq_ld, Memref.IsWhole.read_unread, View.ld_unit_zero (S := S1x512x1024) zero3, View.ld_unit_zero (S := S1x512x512) zero3,
      View.ld_unit_zero (S := S1x1024) zero2]
    exact (read_head VS0_0 _ (k0_pay8 (mid (iblk m c 0 t) (iblk m c 1 t) (iblk m c 2 t) (iblk m c 4 t) (iblk m c 5 t)) (gateCols (iblk m c 6 t))) _ r d).trans (last_rows _ _ r d)

end Cert.Proof.Out

end
-- ==== Proof.Out.Spec.lean ====
module

public import Idealize.ShloMosaic.Lib.Pointwise

@[expose] public section

noncomputable section

namespace Cert.Proof.Out

open Idealize.ShloMosaic

/-! ## A layer from its mixers' outputs on, row by row -/

/-- A layer's arrays, at their entries. -/
structure Layer where
  x : Fin 8 → Fin 8192 → Fin 1024 → EReal
  attn : Fin 8 → Fin 8192 → Fin 512 → EReal
  mix : Fin 8 → Fin 8192 → Fin 512 → EReal
  p : Fin 8 → Fin 8192 → Fin 256 → EReal
  wo : Fin 1024 → Fin 1024 → EReal
  gf : Fin 1024 → EReal
  wu : Fin 1024 → Fin 5632 → EReal
  fw : Fin 3 → Fin 2816 → EReal
  fb : Fin 2816 → EReal
  wd : Fin 2816 → Fin 1024 → EReal
  gp : Fin 1024 → EReal
  wg : Fin 1024 → Fin 1024 → EReal
  wp : Fin 256 → Fin 1024 → EReal

/-- A row's inverse root mean square. -/
def root (h : Fin 1024 → EReal) : EReal :=
  Ideal.rsqrt (Ideal.div (∑ j, h j * h j) (Ideal.ofBits .f32 0x44800000#32) + Ideal.ofBits .f32 0x358637BD#32)

/-- A row normalised and scaled. -/
def normed (h g : Fin 1024 → EReal) (j : Fin 1024) : EReal := h j * root h * g j

/-- The error function. -/
def erfOf (x : EReal) : EReal := FloatOps.erf (F := Ideal) (φ := .f32) x

/-- The Gaussian error linear unit. -/
def gelu (c : EReal) : EReal :=
  Ideal.ofBits .f32 0x3F000000#32 * c * (1 + erfOf (c * (((Real.sqrt 2)⁻¹ : ℝ) : EReal)))

namespace Layer

variable (A : Layer) (b : Fin 8)

/-- The residual stream after the mixers. -/
def hid (s : Fin 8192) (j : Fin 1024) : EReal :=
  A.x b s j + ∑ i : Fin 512, A.attn b s i * A.wo ⟨i.val, by omega⟩ j + ∑ i : Fin 512, A.mix b s i * A.wo ⟨512 + i.val, by omega⟩ j

/-- The up projection. -/
def up (s : Fin 8192) (f : Fin 5632) : EReal := ∑ j, normed (A.hid b s) A.gf j * A.wu j f

/-- Its gate half. -/
def gate (s : Fin 8192) (f : Fin 2816) : EReal := A.up b s ⟨f.val, by omega⟩

/-- The gate `k` rows earlier: zero before the first row. -/
def before (s : Fin 8192) (k : ℕ) (f : Fin 2816) : EReal := if k ≤ s.val then A.gate b ⟨s.val - k, by omega⟩ f else 0

/-- The gate convolved with the two rows before it. -/
def conv (s : Fin 8192) (f : Fin 2816) : EReal :=
  A.fb f + A.fw 0 f * A.before b s 2 f + A.fw 1 f * A.before b s 1 f + A.fw 2 f * A.gate b s f

/-- The network's inner activation. -/
def act (s : Fin 8192) (f : Fin 2816) : EReal := gelu (A.conv b s f) * A.up b s ⟨2816 + f.val, by omega⟩

/-- The residual stream after the network. -/
def hid2 (s : Fin 8192) (j : Fin 1024) : EReal := A.hid b s j + ∑ f, A.act b s f * A.wd f j

/-- The layer's output: the gated embeddings added. -/
def out (s : Fin 8192) (j : Fin 1024) : EReal :=
  A.hid2 b s j + Ideal.logistic (∑ i, normed (A.hid2 b s) A.gp i * A.wg i j) * ∑ i, A.p b s i * A.wp i j

end Layer

end Cert.Proof.Out

end
-- ==== Proof.Out.Entry.lean ====
module

public import proofs.«01_k».proof.Proof.Out.Block
public import proofs.«01_k».proof.Proof.Out.Spec
public import Idealize.ShloMosaic.Lib.Pipeline.ValueKit

@[expose] public section

set_option maxRecDepth 16384

noncomputable section

namespace Cert.Proof.Out

open Idealize.ShloMosaic Cert.Kernel2Ideal
open Cert.Kernel2Ideal.Gen Idealize.ShloMosaic.TcCoe

/-! ## A grid point's block at its entries -/

/-- A block row's row. -/
def row (i : Fin 16) (r : Fin 512) : Fin 8192 := ⟨512 * i.val + r.val, by omega⟩

/-- The blocks of a layer at a grid point. -/
structure Blocks (A : Layer) (b : Fin 8) (i : Fin 16) (x0 : Vec Ideal S1x512x1024 .f32) (x1 x2 : Vec Ideal S1x512x512 .bf16) (x3 : Vec Ideal S1x512x256 .f32)
    (x4 : Vec Ideal S1024x1024 .bf16) (x5 : Vec Ideal S1x1024 .f32) (x6 : Vec Ideal S1024x5632 .bf16) (x7 : Vec Ideal S3x2816 .f32) (x8 : Vec Ideal S1x2816 .f32)
    (x9 : Vec Ideal S2816x1024 .bf16) (x10 : Vec Ideal S1x1024 .f32) (x11 : Vec Ideal S1024x1024 .bf16) (x12 : Vec Ideal S256x1024 .bf16) : Prop where
  x : ∀ r j, x0 (ix3 0 r j) = A.x b (row i r) j
  attn : ∀ r j, x1 (ix3 0 r j) = A.attn b (row i r) j
  mix : ∀ r j, x2 (ix3 0 r j) = A.mix b (row i r) j
  p : ∀ r j, x3 (ix3 0 r j) = A.p b (row i r) j
  wo : ∀ r j, x4 (ix2 r j) = A.wo r j
  gf : ∀ j, x5 (ix2 0 j) = A.gf j
  wu : ∀ r j, x6 (ix2 r j) = A.wu r j
  fw : ∀ r j, x7 (ix2 r j) = A.fw r j
  fb : ∀ j, x8 (ix2 0 j) = A.fb j
  wd : ∀ r j, x9 (ix2 r j) = A.wd r j
  gp : ∀ j, x10 (ix2 0 j) = A.gp j
  wg : ∀ r j, x11 (ix2 r j) = A.wg r j
  wp : ∀ r j, x12 (ix2 r j) = A.wp r j

theorem ld_top (x : Vec Ideal S1024x1024 .bf16) (r : Fin 512) (j : Fin 1024) :
    View.ld x (Rect.unit ![0, 0] S512x1024.size inb_S1024x1024_S512x1024_0_0) (ix2 r j) = x (ix2 ⟨r.val, by omega⟩ j) :=
  View.ld_unit_apply_of x _ _ _ _ _ fun a => by fin_cases a <;> simp
theorem ld_bottom (x : Vec Ideal S1024x1024 .bf16) (r : Fin 512) (j : Fin 1024) :
    View.ld x (Rect.unit ![512, 0] S512x1024.size inb_S1024x1024_S512x1024_512_0) (ix2 r j) = x (ix2 ⟨512 + r.val, by omega⟩ j) :=
  View.ld_unit_apply_of x _ _ _ _ _ fun a => by fin_cases a <;> simp
theorem ld_left (x : Vec Ideal S1024x5632 .bf16) (r : Fin 1024) (j : Fin 2816) : gateCols x (ix2 r j) = x (ix2 r ⟨j.val, by omega⟩) :=
  View.ld_unit_apply_of x _ _ _ _ _ fun a => by fin_cases a <;> simp
theorem ld_right (x : Vec Ideal S1024x5632 .bf16) (r : Fin 1024) (j : Fin 2816) :
    View.ld x (Rect.unit ![0, 2816] S1024x2816.size inb_S1024x5632_S1024x2816_0_2816) (ix2 r j) = x (ix2 r ⟨2816 + j.val, by omega⟩) :=
  View.ld_unit_apply_of x _ _ _ _ _ fun a => by fin_cases a <;> simp
theorem ld_tap0 (x : Vec Ideal S3x2816 .f32) (j : Fin 2816) : View.ld x (Rect.unit ![0, 0] S1x2816.size inb_S3x2816_S1x2816_0_0) (ix2 0 j) = x (ix2 0 j) :=
  View.ld_unit_apply_of x _ _ _ _ _ fun a => by fin_cases a <;> simp
theorem ld_tap1 (x : Vec Ideal S3x2816 .f32) (j : Fin 2816) : View.ld x (Rect.unit ![1, 0] S1x2816.size inb_S3x2816_S1x2816_1_0) (ix2 0 j) = x (ix2 1 j) :=
  View.ld_unit_apply_of x _ _ _ _ _ fun a => by fin_cases a <;> simp
theorem ld_tap2 (x : Vec Ideal S3x2816 .f32) (j : Fin 2816) : View.ld x (Rect.unit ![2, 0] S1x2816.size inb_S3x2816_S1x2816_2_0) (ix2 0 j) = x (ix2 2 j) :=
  View.ld_unit_apply_of x _ _ _ _ _ fun a => by fin_cases a <;> simp

/-- The named constant. -/
theorem named_rsqrt2 : (Named.named κ "rsqrt2" 0x3F3504F3#32 : Ideal .f32) = (((Real.sqrt 2)⁻¹ : ℝ) : EReal) := rfl

section Entries

variable {A : Layer} {b : Fin 8} {i : Fin 16} {x0 : Vec Ideal S1x512x1024 .f32} {x1 x2 : Vec Ideal S1x512x512 .bf16} {x3 : Vec Ideal S1x512x256 .f32}
    {x4 : Vec Ideal S1024x1024 .bf16} {x5 : Vec Ideal S1x1024 .f32} {x6 : Vec Ideal S1024x5632 .bf16} {x7 : Vec Ideal S3x2816 .f32} {x8 : Vec Ideal S1x2816 .f32}
    {x9 : Vec Ideal S2816x1024 .bf16} {x10 : Vec Ideal S1x1024 .f32} {x11 : Vec Ideal S1024x1024 .bf16} {x12 : Vec Ideal S256x1024 .bf16}
    (B : Blocks A b i x0 x1 x2 x3 x4 x5 x6 x7 x8 x9 x10 x11 x12)
include B

theorem hid_apply (r : Fin 512) (j : Fin 1024) : hid x0 x1 x2 x4 (ix2 r j) = A.hid b (row i r) j := by
  unfold hid
  pointwise [k0_pay1]
  simp only [ld_top, ld_bottom, B.x, B.attn, B.mix, B.wo]
  rfl

/-- The normalisation, over the rows before it. -/
theorem mid_eq (r : Fin 512) (j : Fin 1024) : mid x0 x1 x2 x4 x5 (ix2 r j) = normed (fun j => hid x0 x1 x2 x4 (ix2 r j)) (fun j => x5 (ix2 0 j)) j := by
  unfold mid k0_pay3 hid
  generalize k0_pay1 x0 x1 _ x2 _ = h
  pointwise []
  rfl

theorem mid_apply (r : Fin 512) (j : Fin 1024) : mid x0 x1 x2 x4 x5 (ix2 r j) = normed (A.hid b (row i r)) A.gf j := by
  rw [mid_eq B]
  exact congrArg₂ (normed · · j) (funext (hid_apply B r)) (funext B.gf)

theorem gate_apply (r : Fin 512) (f : Fin 2816) : gate x0 x1 x2 x4 x5 x6 (ix2 r f) = A.gate b (row i r) f := by
  unfold gate
  pointwise [k0_pay6, k0_pay4]
  simp only [mid_apply B, ld_left, B.wu]
  rfl

theorem val_apply (r : Fin 512) (f : Fin 2816) :
    k0_pay5 (mid x0 x1 x2 x4 x5) (View.ld x6 (Rect.unit ![0, 2816] S1024x2816.size inb_S1024x5632_S1024x2816_0_2816)) (ix2 r f)
      = A.up b (row i r) ⟨2816 + f.val, by omega⟩ := by
  pointwise [k0_pay5]
  simp only [mid_apply B, ld_right, B.wu]
  rfl

theorem left_apply {g6 g7 : Vec Ideal S512x2816 .f32} (h6 : ∀ r f, g6 (ix2 r f) = A.before b (row i r) 2 f) (h7 : ∀ r f, g7 (ix2 r f) = A.before b (row i r) 1 f)
    (r : Fin 512) (j : Fin 1024) : left x0 x1 x2 x3 x4 x5 x6 x7 x8 x9 x10 x11 x12 g6 g7 (ix3 0 r j) = A.out b (row i r) j := by
  have hc : ∀ f, k0_pay7 (mid x0 x1 x2 x4 x5) (gateCols x6) x8 (View.ld x7 (Rect.unit ![0, 0] S1x2816.size inb_S3x2816_S1x2816_0_0)) g6
      (View.ld x7 (Rect.unit ![1, 0] S1x2816.size inb_S3x2816_S1x2816_1_0)) g7 (View.ld x7 (Rect.unit ![2, 0] S1x2816.size inb_S3x2816_S1x2816_2_0)) (ix2 r f)
      = A.conv b (row i r) f := fun f => by
    pointwise [k0_pay7, k0_pay4]
    simp only [mid_apply B, ld_left, ld_tap0, ld_tap1, ld_tap2, B.wu, B.fw, B.fb, h6, h7]
    rfl
  unfold left k0_pay9 k0_pay10
  generalize k0_pay7 (F := Ideal) _ _ _ _ _ _ _ _ = cv at *
  have hv := val_apply B r
  generalize k0_pay5 (F := Ideal) _ _ = v at *
  have hh := hid_apply B r
  generalize hid (F := Ideal) _ _ _ _ = h at *
  pointwise [k0_pay12, k0_pay11]
  simp only [hc, hv, hh, named_rsqrt2, B.wd, B.gp, B.wg, B.p, B.wp]
  rfl

end Entries

/-- The earlier gate at its entries. -/
theorem earlier_apply {A : Layer} {b : Fin 8} {i : Fin 16} {g : FVec Ideal S512x2816 .f32} (hg : ∀ r f, g (ix2 r f) = A.gate b (row i r) f)
    {tail : Fin 8 → Fin 2816 → Ideal .f32} (h0 : i.val = 0 → ∀ r f, tail r f = (0 : EReal))
    (h1 : ∀ h : i.val ≠ 0, ∀ (r : Fin 8) f, tail r f = A.gate b (row ⟨i.val - 1, by omega⟩ ⟨504 + r.val, by omega⟩) f)
    (o k : ℕ) (ho : o ≤ 8) (hk : o + k = 8) (r : Fin 512) (f : Fin 2816) : earlier tail g o ho (ix2 r f) = A.before b (row i r) k f := by
  unfold earlier Layer.before
  have hr : (row i r).val = 512 * i.val + r.val := rfl
  by_cases h : o + r.val < 8
  · rw [dif_pos (show o + ((ix2 r f : S512x2816.Idx) 0).val < 8 from h)]
    by_cases hi : i.val = 0
    · rw [if_neg (by omega)]
      exact h0 hi _ _
    · rw [if_pos (by omega)]
      refine (h1 hi _ _).trans (congrArg (A.gate b · f) (Fin.ext ?_))
      show 512 * (i.val - 1) + (504 + (o + r.val)) = 512 * i.val + r.val - k
      omega
  · rw [dif_neg (show ¬ o + ((ix2 r f : S512x2816.Idx) 0).val < 8 from h), if_pos (by omega)]
    refine (hg _ _).trans (congrArg (A.gate b · f) (Fin.ext ?_))
    show 512 * i.val + (o + r.val - 8) = 512 * i.val + r.val - k
    omega

end Cert.Proof.Out

end
-- ==== Proof.Out.Array.lean ====
module

public import proofs.«01_k».proof.Proof.Out.Entry
public import Idealize.ShloMosaic.Lib.StableHlo.Run

@[expose] public section

set_option maxRecDepth 16384

noncomputable section

namespace Cert.Proof.Out

open Cert.Kernel2Ideal Cert.Kernel2Ideal.Gen
open Idealize.ShloMosaic Idealize.ShloMosaic.TcCoe

variable (m : (ℓ : Loc nD τ sig) → Buf (Elt Ideal) ℓ) (c : Dev nD)

/-! ## The kernel's arguments as a layer's arrays -/

/-- The arrays that the kernel's program is called with. -/
def layerOf : Layer where
  x b s j := (m ((c : Thread nD τ).loc main_arg0) : Vec Ideal S8x8192x1024 .f32) (ix3 b s j)
  attn b s j := (m ((c : Thread nD τ).loc main_arg1) : Vec Ideal S8x8192x512 .f32) (ix3 b s j)
  mix b s j := (m ((c : Thread nD τ).loc main_arg2) : Vec Ideal S8x8192x512 .f32) (ix3 b s j)
  p b s j := (m ((c : Thread nD τ).loc main_arg3) : Vec Ideal S8x8192x256 .f32) (ix3 b s j)
  wo i j := (m ((c : Thread nD τ).loc main_arg4) : Vec Ideal S1024x1024 .f32) (ix2 i j)
  gf j := (m ((c : Thread nD τ).loc main_arg5) : Vec Ideal S1024 .f32) (ix1 j)
  wu i j := (m ((c : Thread nD τ).loc main_arg6) : Vec Ideal S1024x5632 .f32) (ix2 i j)
  fw i j := (m ((c : Thread nD τ).loc main_arg7) : Vec Ideal S3x2816 .f32) (ix2 i j)
  fb j := (m ((c : Thread nD τ).loc main_arg8) : Vec Ideal S2816 .f32) (ix1 j)
  wd i j := (m ((c : Thread nD τ).loc main_arg9) : Vec Ideal S2816x1024 .f32) (ix2 i j)
  gp j := (m ((c : Thread nD τ).loc main_arg10) : Vec Ideal S1024 .f32) (ix1 j)
  wg i j := (m ((c : Thread nD τ).loc main_arg11) : Vec Ideal S1024x1024 .f32) (ix2 i j)
  wp i j := (m ((c : Thread nD τ).loc main_arg12) : Vec Ideal S256x1024 .f32) (ix2 i j)

/-! ## The arrays as the host leaves them -/

theorem row_1024 (v : S1024.Idx → EReal) (h) (j : Fin 1024) : shapeCast S1x1024 v h (ix2 0 j) = v (ix1 j) := by pointwise []
theorem row_2816 (v : S2816.Idx → EReal) (h) (j : Fin 2816) : shapeCast S1x2816 v h (ix2 0 j) = v (ix1 j) := by pointwise []

theorem V_arg0 (b : Fin 8) (s : Fin 8192) (j : Fin 1024) : (V m c main_arg0 : Vec Ideal S8x8192x1024 .f32) (ix3 b s j) = (layerOf m c).x b s j := by
  show (StableHlo.after hostOps0 (fun b => m (c, b)) main_arg0 : Vec Ideal S8x8192x1024 .f32) (ix3 b s j) = _
  simp only [hostOps0]
  after_results_simp
  rfl

theorem V_v0 (b : Fin 8) (s : Fin 8192) (j : Fin 512) : (V m c main_v0 : Vec Ideal S8x8192x512 .bf16) (ix3 b s j) = (layerOf m c).attn b s j := by
  show (StableHlo.after hostOps0 (fun b => m (c, b)) main_v0 : Vec Ideal S8x8192x512 .bf16) (ix3 b s j) = _
  simp only [hostOps0]
  after_results_simp
  rfl

theorem V_v1 (b : Fin 8) (s : Fin 8192) (j : Fin 512) : (V m c main_v1 : Vec Ideal S8x8192x512 .bf16) (ix3 b s j) = (layerOf m c).mix b s j := by
  show (StableHlo.after hostOps0 (fun b => m (c, b)) main_v1 : Vec Ideal S8x8192x512 .bf16) (ix3 b s j) = _
  simp only [hostOps0]
  after_results_simp
  rfl

theorem V_arg3 (b : Fin 8) (s : Fin 8192) (j : Fin 256) : (V m c main_arg3 : Vec Ideal S8x8192x256 .f32) (ix3 b s j) = (layerOf m c).p b s j := by
  show (StableHlo.after hostOps0 (fun b => m (c, b)) main_arg3 : Vec Ideal S8x8192x256 .f32) (ix3 b s j) = _
  simp only [hostOps0]
  after_results_simp
  rfl

theorem V_v2 (b : Fin 1024) (j : Fin 1024) : (V m c main_v2 : Vec Ideal S1024x1024 .bf16) (ix2 b j) = (layerOf m c).wo b j := by
  show (StableHlo.after hostOps0 (fun b => m (c, b)) main_v2 : Vec Ideal S1024x1024 .bf16) (ix2 b j) = _
  simp only [hostOps0]
  after_results_simp
  rfl

theorem V_v3 (j : Fin 1024) : (V m c main_v3 : Vec Ideal S1x1024 .f32) (ix2 0 j) = (layerOf m c).gf j := by
  show (StableHlo.after hostOps0 (fun b => m (c, b)) main_v3 : Vec Ideal S1x1024 .f32) (ix2 0 j) = _
  simp only [hostOps0]
  after_results_simp
  exact row_1024 _ _ j

theorem V_v4 (b : Fin 1024) (j : Fin 5632) : (V m c main_v4 : Vec Ideal S1024x5632 .bf16) (ix2 b j) = (layerOf m c).wu b j := by
  show (StableHlo.after hostOps0 (fun b => m (c, b)) main_v4 : Vec Ideal S1024x5632 .bf16) (ix2 b j) = _
  simp only [hostOps0]
  after_results_simp
  rfl

theorem V_arg7 (b : Fin 3) (j : Fin 2816) : (V m c main_arg7 : Vec Ideal S3x2816 .f32) (ix2 b j) = (layerOf m c).fw b j := by
  show (StableHlo.after hostOps0 (fun b => m (c, b)) main_arg7 : Vec Ideal S3x2816 .f32) (ix2 b j) = _
  simp only [hostOps0]
  after_results_simp
  rfl

theorem V_v5 (j : Fin 2816) : (V m c main_v5 : Vec Ideal S1x2816 .f32) (ix2 0 j) = (layerOf m c).fb j := by
  show (StableHlo.after hostOps0 (fun b => m (c, b)) main_v5 : Vec Ideal S1x2816 .f32) (ix2 0 j) = _
  simp only [hostOps0]
  after_results_simp
  exact row_2816 _ _ j

theorem V_v6 (b : Fin 2816) (j : Fin 1024) : (V m c main_v6 : Vec Ideal S2816x1024 .bf16) (ix2 b j) = (layerOf m c).wd b j := by
  show (StableHlo.after hostOps0 (fun b => m (c, b)) main_v6 : Vec Ideal S2816x1024 .bf16) (ix2 b j) = _
  simp only [hostOps0]
  after_results_simp
  rfl

theorem V_v7 (j : Fin 1024) : (V m c main_v7 : Vec Ideal S1x1024 .f32) (ix2 0 j) = (layerOf m c).gp j := by
  show (StableHlo.after hostOps0 (fun b => m (c, b)) main_v7 : Vec Ideal S1x1024 .f32) (ix2 0 j) = _
  simp only [hostOps0]
  after_results_simp
  exact row_1024 _ _ j

theorem V_v8 (b : Fin 1024) (j : Fin 1024) : (V m c main_v8 : Vec Ideal S1024x1024 .bf16) (ix2 b j) = (layerOf m c).wg b j := by
  show (StableHlo.after hostOps0 (fun b => m (c, b)) main_v8 : Vec Ideal S1024x1024 .bf16) (ix2 b j) = _
  simp only [hostOps0]
  after_results_simp
  rfl

theorem V_v9 (b : Fin 256) (j : Fin 1024) : (V m c main_v9 : Vec Ideal S256x1024 .bf16) (ix2 b j) = (layerOf m c).wp b j := by
  show (StableHlo.after hostOps0 (fun b => m (c, b)) main_v9 : Vec Ideal S256x1024 .bf16) (ix2 b j) = _
  simp only [hostOps0]
  after_results_simp
  rfl

/-! ## The blocks the grid points stage -/

/-- A grid point's sequence and its block of rows. -/
def seqOf (t : Fin cfg0.N) : Fin 8 := ⟨(grid0.coords t 0).val, (grid0.coords t 0).isLt⟩
def blkOf (t : Fin cfg0.N) : Fin 16 := ⟨(grid0.coords t 1).val, (grid0.coords t 1).isLt⟩

theorem index0 : ∀ t : Fin cfg0.N, win0_0.index t = ![(grid0.coords t 0).val, (grid0.coords t 1).val, 0] := (by decide +kernel : ∀ t : Fin grid0.N, _)
theorem index1 : ∀ t : Fin cfg0.N, win0_1.index t = ![(grid0.coords t 0).val, (grid0.coords t 1).val, 0] := (by decide +kernel : ∀ t : Fin grid0.N, _)
theorem index2 : ∀ t : Fin cfg0.N, win0_2.index t = ![(grid0.coords t 0).val, (grid0.coords t 1).val, 0] := (by decide +kernel : ∀ t : Fin grid0.N, _)
theorem index3 : ∀ t : Fin cfg0.N, win0_3.index t = ![(grid0.coords t 0).val, (grid0.coords t 1).val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![(grid0.coords t 0).val, (grid0.coords t 1).val, 0] := (by decide +kernel : ∀ t : Fin grid0.N, _)

theorem block0 (t : Fin cfg0.N) (r : Fin 512) (j : Fin 1024) : (iblk m c 0 t : Vec Ideal S1x512x1024 .f32) (ix3 0 r j) = (layerOf m c).x (seqOf t) (row (blkOf t) r) j := by
  rw [← V_arg0 m c]
  blk_simp [iblk]
  congr 1
  blk_ext [index0 t]
  · exact Nat.add_zero _
  · show _ = 512 * (grid0.coords t 1).val + r.val
    rw [mul_comm]

theorem block1 (t : Fin cfg0.N) (r : Fin 512) (j : Fin 512) : (iblk m c 1 t : Vec Ideal S1x512x512 .bf16) (ix3 0 r j) = (layerOf m c).attn (seqOf t) (row (blkOf t) r) j := by
  rw [← V_v0 m c]
  blk_simp [iblk]
  congr 1
  blk_ext [index1 t]
  · exact Nat.add_zero _
  · show _ = 512 * (grid0.coords t 1).val + r.val
    rw [mul_comm]

theorem block2 (t : Fin cfg0.N) (r : Fin 512) (j : Fin 512) : (iblk m c 2 t : Vec Ideal S1x512x512 .bf16) (ix3 0 r j) = (layerOf m c).mix (seqOf t) (row (blkOf t) r) j := by
  rw [← V_v1 m c]
  blk_simp [iblk]
  congr 1
  blk_ext [index2 t]
  · exact Nat.add_zero _
  · show _ = 512 * (grid0.coords t 1).val + r.val
    rw [mul_comm]

theorem block3 (t : Fin cfg0.N) (r : Fin 512) (j : Fin 256) : (iblk m c 3 t : Vec Ideal S1x512x256 .f32) (ix3 0 r j) = (layerOf m c).p (seqOf t) (row (blkOf t) r) j := by
  rw [← V_arg3 m c]
  blk_simp [iblk]
  congr 1
  blk_ext [index3 t]
  · exact Nat.add_zero _
  · show _ = 512 * (grid0.coords t 1).val + r.val
    rw [mul_comm]

theorem block4 (t : Fin cfg0.N) (r : Fin 1024) (j : Fin 1024) : (iblk m c 4 t : Vec Ideal S1024x1024 .bf16) (ix2 r j) = (layerOf m c).wo r j := by
  rw [← V_v2 m c]
  blk_simp [iblk]
  congr 1
  blk_ext [index4 t]

theorem block5 (t : Fin cfg0.N) (j : Fin 1024) : (iblk m c 5 t : Vec Ideal S1x1024 .f32) (ix2 0 j) = (layerOf m c).gf j := by
  rw [← V_v3 m c]
  blk_simp [iblk]
  congr 1
  blk_ext [index5 t]

theorem block6 (t : Fin cfg0.N) (r : Fin 1024) (j : Fin 5632) : (iblk m c 6 t : Vec Ideal S1024x5632 .bf16) (ix2 r j) = (layerOf m c).wu r j := by
  rw [← V_v4 m c]
  blk_simp [iblk]
  congr 1
  blk_ext [index6 t]

theorem block7 (t : Fin cfg0.N) (r : Fin 3) (j : Fin 2816) : (iblk m c 7 t : Vec Ideal S3x2816 .f32) (ix2 r j) = (layerOf m c).fw r j := by
  rw [← V_arg7 m c]
  blk_simp [iblk]
  congr 1
  blk_ext [index7 t]

theorem block8 (t : Fin cfg0.N) (j : Fin 2816) : (iblk m c 8 t : Vec Ideal S1x2816 .f32) (ix2 0 j) = (layerOf m c).fb j := by
  rw [← V_v5 m c]
  blk_simp [iblk]
  congr 1
  blk_ext [index8 t]

theorem block9 (t : Fin cfg0.N) (r : Fin 2816) (j : Fin 1024) : (iblk m c 9 t : Vec Ideal S2816x1024 .bf16) (ix2 r j) = (layerOf m c).wd r j := by
  rw [← V_v6 m c]
  blk_simp [iblk]
  congr 1
  blk_ext [index9 t]

theorem block10 (t : Fin cfg0.N) (j : Fin 1024) : (iblk m c 10 t : Vec Ideal S1x1024 .f32) (ix2 0 j) = (layerOf m c).gp j := by
  rw [← V_v7 m c]
  blk_simp [iblk]
  congr 1
  blk_ext [index10 t]

theorem block11 (t : Fin cfg0.N) (r : Fin 1024) (j : Fin 1024) : (iblk m c 11 t : Vec Ideal S1024x1024 .bf16) (ix2 r j) = (layerOf m c).wg r j := by
  rw [← V_v8 m c]
  blk_simp [iblk]
  congr 1
  blk_ext [index11 t]

theorem block12 (t : Fin cfg0.N) (r : Fin 256) (j : Fin 1024) : (iblk m c 12 t : Vec Ideal S256x1024 .bf16) (ix2 r j) = (layerOf m c).wp r j := by
  rw [← V_v9 m c]
  blk_simp [iblk]
  congr 1
  blk_ext [index12 t]

/-- A grid point's blocks are its layer's. -/
theorem blocks (t : Fin cfg0.N) : Blocks (layerOf m c) (seqOf t) (blkOf t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t) :=
  ⟨block0 m c t, block1 m c t, block2 m c t, block3 m c t, block4 m c t, block5 m c t, block6 m c t, block7 m c t, block8 m c t, block9 m c t, block10 m c t, block11 m c t, block12 m c t⟩

/-- The points' order: sequence by sequence, block by block. -/
theorem seqOf_val (t : Fin cfg0.N) : (seqOf t).val = t.val / 16 := (by decide +kernel : ∀ t : Fin grid0.N, (grid0.coords t 0).val = t.val / 16) t
theorem blkOf_val (t : Fin cfg0.N) : (blkOf t).val = t.val % 16 := (by decide +kernel : ∀ t : Fin grid0.N, (grid0.coords t 1).val = t.val % 16) t

/-- The gate of a point, at its entries. -/
theorem gateAt_apply (t : Fin cfg0.N) (r : Fin 512) (f : Fin 2816) : gateAt m c t (ix2 r f) = (layerOf m c).gate (seqOf t) (row (blkOf t) r) f :=
  gate_apply (blocks m c t) r f

/-- The block that a point leaves, at its entries. -/
theorem leftAt_apply (t : Fin cfg0.N) {tail : Fin 8 → Fin 2816 → Ideal .f32} (h0 : (blkOf t).val = 0 → ∀ r f, tail r f = (0 : EReal))
    (h1 : ∀ h : (blkOf t).val ≠ 0, ∀ (r : Fin 8) f, tail r f = (layerOf m c).gate (seqOf t) (row ⟨(blkOf t).val - 1, by omega⟩ ⟨504 + r.val, by omega⟩) f)
    (r : Fin 512) (j : Fin 1024) : leftAt m c t tail (ix3 0 r j) = (layerOf m c).out (seqOf t) (row (blkOf t) r) j :=
  left_apply (blocks m c t) (earlier_apply (gateAt_apply m c t) h0 h1 6 2 _ rfl) (earlier_apply (gateAt_apply m c t) h0 h1 7 1 _ rfl) r j

theorem outsAt_apply (t : Fin cfg0.N) (r : Fin 512) (j : Fin 1024) :
    (outsAt0 m c t.val t.isLt).1 (ix3 0 r j) = (layerOf m c).out (seqOf t) (row (blkOf t) r) j := by
  by_cases h : t.val % 16 = 0
  · rw [out_first m c t h]
    exact leftAt_apply m c t (fun _ _ _ => Ideal.ofBits_zero_f32) (fun hn => absurd (blkOf_val t ▸ h) hn) r j
  · rw [out_next m c t h]
    refine leftAt_apply m c t (fun h' => absurd (blkOf_val t ▸ h') h) (fun hn r f => ?_) r j
    have ht := t.isLt
    refine (carried m c ⟨t.val - 1, by omega⟩ r f).trans ((gateAt_apply m c _ _ _).trans ?_)
    have e1 : seqOf ⟨t.val - 1, by omega⟩ = seqOf t := Fin.ext (by rw [seqOf_val, seqOf_val]; show (t.val - 1) / 16 = t.val / 16; omega)
    have e2 : (blkOf ⟨t.val - 1, by omega⟩).val = (blkOf t).val - 1 := by rw [blkOf_val, blkOf_val]; show (t.val - 1) % 16 = t.val % 16 - 1; omega
    rw [e1]
    exact congrArg (fun i => (layerOf m c).gate (seqOf t) (row i _) f) (Fin.ext e2)

theorem block_idx (y : S1x512x1024.Idx) : ∃ (r : Fin 512) (l : Fin 1024), y = ix3 0 r l :=
  ⟨y 1, y 2, by funext a; fin_cases a <;> first | rfl | exact Subsingleton.elim (α := Fin 1) _ _⟩

/-- The kernel's result array is its layer's output. -/
theorem array_eq : (dats m 0 c).arrAt 13 cfg0.N = (fun y => (layerOf m c).out (y 0) (y 1) (y 2) : Vec Ideal S8x8192x1024 .f32) := by
  refine (dats m 0 c).arrAt_eq_of_covers 13 _ (by decide +kernel) fun t hf y => ?_
  blk_simp
  rw [after0_13]
  obtain ⟨r, l, rfl⟩ := block_idx y
  refine (outsAt_apply m c t r l).trans ?_
  symm
  refine congr (congr (congrArg (layerOf m c).out (Fin.ext ?_)) (Fin.ext ?_)) (Fin.ext ?_)
  · blk_simp [index13 t]
    exact Nat.add_zero _
  · blk_simp [index13 t]
    show _ = 512 * (grid0.coords t 1).val + r.val
    rw [mul_comm]
  · blk_simp [index13 t]

end Cert.Proof.Out

end
-- ==== Proof.Out.Ref.lean ====
module

public import proofs.«01_k».proof.Proof.Gen.Reference2Ideal.Run
public import proofs.«01_k».proof.Proof.Out.Spec

@[expose] public section

set_option maxRecDepth 16384

noncomputable section

namespace Cert.Proof.OutRef

open Cert.Reference2Ideal Cert.Reference2Ideal.Gen Cert.Proof.Out
open Idealize.ShloMosaic Idealize.ShloMosaic.TcCoe

/-! ## The reference, stage by stage -/

/-- The residual stream after the mixers. -/
def hid (x : FVec Ideal S8x8192x1024 .f32) (a c : FVec Ideal S8x8192x512 .f32) (wo : FVec Ideal S1024x1024 .f32) : FVec Ideal S8x8192x1024 .f32 :=
  addf x (Host.dotGeneral dot_S8x8192x1024_S1024x1024_S8x8192x1024_2_0_01_1_n_n none
    (concatenate S8x8192x1024 2 [⟨S8x8192x512, a⟩, ⟨S8x8192x512, c⟩] concatenates_S8x8192x512_S8x8192x512_S8x8192x1024_d2) wo)

/-- The rows normalised. -/
def norm (h : FVec Ideal S8x8192x1024 .f32) (g : FVec Ideal S1024 .f32) : FVec Ideal S8x8192x1024 .f32 :=
  mulf (mulf h (broadcastInDim S8x8192x1024 ![0, 1, 2] bcast_S8x8192x1_S8x8192x1024_0_1_2 (Host.rsqrt (addf
    (Host.divf (broadcastInDim S8x8192x1 ![0, 1] bcast_S8x8192_S8x8192x1_0_1 (Host.reduceAdd (mulf h h) (constant S_ .f32 0x00000000#32) reducesTo_S8x8192x1024_S8x8192_d2 h_S_))
      (broadcastInDim S8x8192x1 ![] bcast_S_S8x8192x1 (constant S_ .f32 0x44800000#32)))
    (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- The up projection and its halves. -/
def up (u : FVec Ideal S8x8192x1024 .f32) (wu : FVec Ideal S1024x5632 .f32) : FVec Ideal S8x8192x5632 .f32 :=
  Host.dotGeneral dot_S8x8192x1024_S1024x5632_S8x8192x5632_2_0_01_1_n_n none u wu
def gateOf (z : FVec Ideal S8x8192x5632 .f32) : FVec Ideal S8x8192x2816 .f32 := extractStridedSlice S8x8192x2816 ![0, 0, 0] z slices_S8x8192x5632_S8x8192x2816_0_0_0
def valOf (z : FVec Ideal S8x8192x5632 .f32) : FVec Ideal S8x8192x2816 .f32 := extractStridedSlice S8x8192x2816 ![0, 0, 2816] z slices_S8x8192x5632_S8x8192x2816_0_0_2816

/-- The gate after two rows of zeros. -/
def padded (g : FVec Ideal S8x8192x2816 .f32) : FVec Ideal S8x8194x2816 .f32 :=
  pad S8x8194x2816 ![0, 2, 0] ![0, 0, 0] ![0, 0, 0] g (sitofp .f32 (constantI S_ 32 0#32)) pads_S8x8192x2816_S8x8194x2816_000_200_000 h_S_

/-- A tap's weights, along every row. -/
def spread (w : FVec Ideal S2816 .f32) : FVec Ideal S8x8192x2816 .f32 :=
  broadcastInDim S8x8192x2816 ![0, 1, 2] bcast_S1x1x2816_S8x8192x2816_0_1_2 (broadcastInDim S1x1x2816 ![2] bcast_S2816_S1x1x2816_2 w)
def tap0 (fw : FVec Ideal S3x2816 .f32) : FVec Ideal S8x8192x2816 .f32 :=
  spread (shapeCast _ (extractStridedSlice S1x2816 ![0, 0] fw slices_S3x2816_S1x2816_0_0) shapeCasts_S1x2816_S2816)
def tap1 (fw : FVec Ideal S3x2816 .f32) : FVec Ideal S8x8192x2816 .f32 :=
  spread (shapeCast _ (extractStridedSlice S1x2816 ![1, 0] fw slices_S3x2816_S1x2816_1_0) shapeCasts_S1x2816_S2816)
def tap2 (fw : FVec Ideal S3x2816 .f32) : FVec Ideal S8x8192x2816 .f32 :=
  spread (shapeCast _ (extractStridedSlice S1x2816 ![2, 0] fw slices_S3x2816_S1x2816_2_0) shapeCasts_S1x2816_S2816)

/-- A number everywhere. -/
def all (w : BitVec 32) : FVec Ideal S8x8192x2816 .f32 := broadcastInDim S8x8192x2816 ![] bcast_S_S8x8192x2816 (constant S_ .f32 w)

/-- The convolution. -/
def conv (q : FVec Ideal S8x8194x2816 .f32) (fw : FVec Ideal S3x2816 .f32) (fb : FVec Ideal S2816 .f32) : FVec Ideal S8x8192x2816 .f32 :=
  addf (addf (addf (addf (all 0x00000000#32) (mulf (tap0 fw) (extractStridedSlice S8x8192x2816 ![0, 0, 0] q slices_S8x8194x2816_S8x8192x2816_0_0_0)))
    (mulf (tap1 fw) (extractStridedSlice S8x8192x2816 ![0, 1, 0] q slices_S8x8194x2816_S8x8192x2816_0_1_0)))
    (mulf (tap2 fw) (extractStridedSlice S8x8192x2816 ![0, 2, 0] q slices_S8x8194x2816_S8x8192x2816_0_2_0))) (spread fb)

/-- The inner activation. -/
def act (k v : FVec Ideal S8x8192x2816 .f32) : FVec Ideal S8x8192x2816 .f32 :=
  mulf (mulf (mulf (all 0x3F000000#32) k) (addf (all 0x3F800000#32)
    (Host.erf (Host.divf k (broadcastInDim S8x8192x2816 ![] bcast_S_S8x8192x2816 (id (Host.sqrt (constant S_ .f32 0x40000000#32)))))))) v

/-- The residual stream after the network. -/
def hid2 (h : FVec Ideal S8x8192x1024 .f32) (a : FVec Ideal S8x8192x2816 .f32) (wd : FVec Ideal S2816x1024 .f32) : FVec Ideal S8x8192x1024 .f32 :=
  addf h (Host.dotGeneral dot_S8x8192x2816_S2816x1024_S8x8192x1024_2_0_01_1_n_n none a wd)

/-- The gated embeddings added. -/
def last (h u : FVec Ideal S8x8192x1024 .f32) (p : FVec Ideal S8x8192x256 .f32) (wg : FVec Ideal S1024x1024 .f32) (wp : FVec Ideal S256x1024 .f32) : FVec Ideal S8x8192x1024 .f32 :=
  addf h (mulf (Host.divf (broadcastInDim S8x8192x1024 ![] bcast_S_S8x8192x1024 (constant S_ .f32 0x3F800000#32))
    (addf (broadcastInDim S8x8192x1024 ![] bcast_S_S8x8192x1024 (constant S_ .f32 0x3F800000#32))
      (Host.exp (Host.negf (Host.dotGeneral dot_S8x8192x1024_S1024x1024_S8x8192x1024_2_0_01_1_n_n none u wg)))))
    (Host.dotGeneral dot_S8x8192x256_S256x1024_S8x8192x1024_2_0_01_1_n_n none p wp))

/-- The reference's result. -/
def out (x : Vec Ideal S8x8192x1024 .f32) (a c : Vec Ideal S8x8192x512 .f32) (p : Vec Ideal S8x8192x256 .f32) (wo : Vec Ideal S1024x1024 .f32) (gf : Vec Ideal S1024 .f32)
    (wu : Vec Ideal S1024x5632 .f32) (fw : Vec Ideal S3x2816 .f32) (fb : Vec Ideal S2816 .f32) (wd : Vec Ideal S2816x1024 .f32) (gp : Vec Ideal S1024 .f32)
    (wg : Vec Ideal S1024x1024 .f32) (wp : Vec Ideal S256x1024 .f32) : FVec Ideal S8x8192x1024 .f32 :=
  last (hid2 (hid x a c wo) (act (conv (padded (gateOf (up (norm (hid x a c wo) gf) wu))) fw fb) (valOf (up (norm (hid x a c wo) gf) wu))) wd)
    (norm (hid2 (hid x a c wo) (act (conv (padded (gateOf (up (norm (hid x a c wo) gf) wu))) fw fb) (valOf (up (norm (hid x a c wo) gf) wu))) wd) gp) p wg wp

theorem res_eq (m : (ℓ : Loc nD τ sig) → Buf (Elt Ideal) ℓ) (c : Dev nD) :
    Value.res_out0 (F := Ideal) m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) := rfl

/-! ## The stages at an entry -/

theorem norm_apply (h : FVec Ideal S8x8192x1024 .f32) (g : Vec Ideal S1024 .f32) (b : Fin 8) (s : Fin 8192) (j : Fin 1024) :
    norm h g (ix3 b s j) = normed (fun j => h (ix3 b s j)) (fun j => g (ix1 j)) j := by
  pointwise [norm]
  rfl

theorem hid_apply (x : Vec Ideal S8x8192x1024 .f32) (a c : Vec Ideal S8x8192x512 .f32) (wo : Vec Ideal S1024x1024 .f32) (b : Fin 8) (s : Fin 8192) (j : Fin 1024) :
    hid x a c wo (ix3 b s j) = x (ix3 b s j) + ∑ i : Fin 512, a (ix3 b s i) * wo (ix2 ⟨i.val, by omega⟩ j) + ∑ i : Fin 512, c (ix3 b s i) * wo (ix2 ⟨512 + i.val, by omega⟩ j) := by
  pointwise [hid]
  exact (add_assoc _ _ _).symm

theorem padded_apply (g : FVec Ideal S8x8192x2816 .f32) (b : Fin 8) (s : Fin 8194) (f : Fin 2816) :
    padded g (ix3 b s f) = if h : 2 ≤ s.val then g (ix3 b ⟨s.val - 2, by omega⟩ f) else (0 : EReal) := by
  pointwise [padded]
  by_cases h : 2 ≤ s.val
  · rw [dif_pos h, dif_pos ⟨h, by omega⟩]
  · rw [dif_neg h, dif_neg fun h' => h h'.1]
    show (((0#32 : BitVec 32).toInt : ℝ) : EReal) = 0
    simp

theorem conv_apply (q : FVec Ideal S8x8194x2816 .f32) (fw : Vec Ideal S3x2816 .f32) (fb : Vec Ideal S2816 .f32) (b : Fin 8) (s : Fin 8192) (f : Fin 2816) :
    conv q fw fb (ix3 b s f) = fb (ix1 f) + fw (ix2 0 f) * q (ix3 b ⟨s.val, by omega⟩ f) + fw (ix2 1 f) * q (ix3 b ⟨1 + s.val, by omega⟩ f) + fw (ix2 2 f) * q (ix3 b ⟨2 + s.val, by omega⟩ f) := by
  pointwise [conv, all, tap0, tap1, tap2, spread]
  rw [add_comm, ← add_assoc, ← add_assoc]

/-- A number over the root of two. -/
theorem div_root (k : EReal) : Ideal.div k (id (Host.sqrt (constant S_ .f32 0x40000000#32 : FVec Ideal S_ .f32)) ix0) = k * (((Real.sqrt 2)⁻¹ : ℝ) : EReal) := by
  have h2 : Ideal.ofBits .f32 0x40000000#32 = ((2 : ℝ) : EReal) := by
    simp [Ideal.ofBits, Ideal.ieee, -EReal.coe_mul]
    norm_num
  have hs : id (Host.sqrt (constant S_ .f32 0x40000000#32 : FVec Ideal S_ .f32)) ix0 = ((Real.sqrt 2 : ℝ) : EReal) := by
    show Ideal.sqrt (Ideal.ofBits .f32 0x40000000#32) = _
    rw [h2]
    show (if (2 : ℝ) < 0 then (⊥ : EReal) else (Real.sqrt 2 : EReal)) = _
    rw [if_neg (by norm_num)]
  have hn : Real.sqrt 2 ≠ 0 := by positivity
  rw [hs, Ideal.div, if_neg (by exact_mod_cast hn), ← EReal.coe_inv]

theorem act_apply (k v : FVec Ideal S8x8192x2816 .f32) (b : Fin 8) (s : Fin 8192) (f : Fin 2816) :
    act k v (ix3 b s f) = gelu (k (ix3 b s f)) * v (ix3 b s f) := by
  pointwise [act, all]
  rw [div_root]
  rfl

theorem last_apply (h u : FVec Ideal S8x8192x1024 .f32) (p : Vec Ideal S8x8192x256 .f32) (wg : Vec Ideal S1024x1024 .f32) (wp : Vec Ideal S256x1024 .f32) (b : Fin 8) (s : Fin 8192) (j : Fin 1024) :
    last h u p wg wp (ix3 b s j) = h (ix3 b s j) + Ideal.logistic (∑ i, u (ix3 b s i) * wg (ix2 i j)) * ∑ i, p (ix3 b s i) * wp (ix2 i j) := by
  pointwise [last]
  rfl

/-! ## The whole at an entry -/

section Whole

variable (m : (ℓ : Loc nD τ sig) → Buf (Elt Ideal) ℓ) (c : Dev nD)

/-- The arrays that the reference's program is called with. -/
def layerOf : Layer where
  x b s j := (m ((c.tc : Thread nD τ).loc main_arg0) : Vec Ideal S8x8192x1024 .f32) (ix3 b s j)
  attn b s j := (m ((c.tc : Thread nD τ).loc main_arg1) : Vec Ideal S8x8192x512 .f32) (ix3 b s j)
  mix b s j := (m ((c.tc : Thread nD τ).loc main_arg2) : Vec Ideal S8x8192x512 .f32) (ix3 b s j)
  p b s j := (m ((c.tc : Thread nD τ).loc main_arg3) : Vec Ideal S8x8192x256 .f32) (ix3 b s j)
  wo i j := (m ((c.tc : Thread nD τ).loc main_arg4) : Vec Ideal S1024x1024 .f32) (ix2 i j)
  gf j := (m ((c.tc : Thread nD τ).loc main_arg5) : Vec Ideal S1024 .f32) (ix1 j)
  wu i j := (m ((c.tc : Thread nD τ).loc main_arg6) : Vec Ideal S1024x5632 .f32) (ix2 i j)
  fw i j := (m ((c.tc : Thread nD τ).loc main_arg7) : Vec Ideal S3x2816 .f32) (ix2 i j)
  fb j := (m ((c.tc : Thread nD τ).loc main_arg8) : Vec Ideal S2816 .f32) (ix1 j)
  wd i j := (m ((c.tc : Thread nD τ).loc main_arg9) : Vec Ideal S2816x1024 .f32) (ix2 i j)
  gp j := (m ((c.tc : Thread nD τ).loc main_arg10) : Vec Ideal S1024 .f32) (ix1 j)
  wg i j := (m ((c.tc : Thread nD τ).loc main_arg11) : Vec Ideal S1024x1024 .f32) (ix2 i j)
  wp i j := (m ((c.tc : Thread nD τ).loc main_arg12) : Vec Ideal S256x1024 .f32) (ix2 i j)

end Whole

section Rows

variable {A : Layer} {x : Vec Ideal S8x8192x1024 .f32} {a c : Vec Ideal S8x8192x512 .f32} {p : Vec Ideal S8x8192x256 .f32} {wo : Vec Ideal S1024x1024 .f32} {gf : Vec Ideal S1024 .f32}
    {wu : Vec Ideal S1024x5632 .f32} {fw : Vec Ideal S3x2816 .f32} {fb : Vec Ideal S2816 .f32} {wd : Vec Ideal S2816x1024 .f32} {gp : Vec Ideal S1024 .f32}
    {wg : Vec Ideal S1024x1024 .f32} {wp : Vec Ideal S256x1024 .f32}

theorem up_eq {h : FVec Ideal S8x8192x1024 .f32} (hh : ∀ b s j, h (ix3 b s j) = A.hid b s j) (hg : ∀ j, gf (ix1 j) = A.gf j) (hw : ∀ i j, wu (ix2 i j) = A.wu i j)
    (b : Fin 8) (s : Fin 8192) (f : Fin 5632) : up (norm h gf) wu (ix3 b s f) = A.up b s f := by
  pointwise [up]
  simp only [norm_apply, hh, hg, hw]
  rfl

theorem gate_eq {z : FVec Ideal S8x8192x5632 .f32} (hz : ∀ b s f, z (ix3 b s f) = A.up b s f) (b : Fin 8) (s : Fin 8192) (f : Fin 2816) :
    gateOf z (ix3 b s f) = A.gate b s f := by
  pointwise [gateOf]
  exact hz _ _ _

theorem val_eq {z : FVec Ideal S8x8192x5632 .f32} (hz : ∀ b s f, z (ix3 b s f) = A.up b s f) (b : Fin 8) (s : Fin 8192) (f : Fin 2816) :
    valOf z (ix3 b s f) = A.up b s ⟨2816 + f.val, by omega⟩ := by
  pointwise [valOf]
  exact hz _ _ _

theorem conv_eq {g : FVec Ideal S8x8192x2816 .f32} (hg : ∀ b s f, g (ix3 b s f) = A.gate b s f) (hw : ∀ i j, fw (ix2 i j) = A.fw i j) (hb : ∀ j, fb (ix1 j) = A.fb j)
    (b : Fin 8) (s : Fin 8192) (f : Fin 2816) : conv (padded g) fw fb (ix3 b s f) = A.conv b s f := by
  have e : ∀ (o k : ℕ) (_ : o + k = 2), padded g (ix3 b ⟨o + s.val, by omega⟩ f) = A.before b s k f := fun o k hk => by
    rw [padded_apply]
    unfold Layer.before
    by_cases h : k ≤ s.val
    · rw [if_pos h, dif_pos (show 2 ≤ o + s.val by omega), hg]
      exact congrArg (A.gate b · f) (Fin.ext (by show o + s.val - 2 = s.val - k; omega))
    · rw [if_neg h, dif_neg (show ¬ 2 ≤ o + s.val by omega)]
  have e0 := e 0 2 rfl
  have e2 : padded g (ix3 b ⟨2 + s.val, by omega⟩ f) = A.gate b s f := (e 2 0 rfl).trans (if_pos (Nat.zero_le _))
  simp only [Nat.zero_add] at e0
  rw [conv_apply, e0, e 1 1 rfl, e2]
  simp only [hw, hb]
  rfl

theorem act_eq {k v : FVec Ideal S8x8192x2816 .f32} (hk : ∀ b s f, k (ix3 b s f) = A.conv b s f) (hv : ∀ b s (f : Fin 2816), v (ix3 b s f) = A.up b s ⟨2816 + f.val, by omega⟩)
    (b : Fin 8) (s : Fin 8192) (f : Fin 2816) : act k v (ix3 b s f) = A.act b s f := by
  rw [act_apply, hk, hv]
  rfl

theorem hid2_eq {h : FVec Ideal S8x8192x1024 .f32} {t : FVec Ideal S8x8192x2816 .f32} (hh : ∀ b s j, h (ix3 b s j) = A.hid b s j) (ht : ∀ b s f, t (ix3 b s f) = A.act b s f)
    (hw : ∀ i j, wd (ix2 i j) = A.wd i j) (b : Fin 8) (s : Fin 8192) (j : Fin 1024) : hid2 h t wd (ix3 b s j) = A.hid2 b s j := by
  pointwise [hid2]
  simp only [hh, ht, hw]
  rfl

theorem last_eq {h : FVec Ideal S8x8192x1024 .f32} (hh : ∀ b s j, h (ix3 b s j) = A.hid2 b s j) (hp : ∀ b s j, p (ix3 b s j) = A.p b s j) (hg : ∀ j, gp (ix1 j) = A.gp j)
    (hw : ∀ i j, wg (ix2 i j) = A.wg i j) (hv : ∀ i j, wp (ix2 i j) = A.wp i j) (b : Fin 8) (s : Fin 8192) (j : Fin 1024) :
    last h (norm h gp) p wg wp (ix3 b s j) = A.out b s j := by
  rw [last_apply]
  simp only [norm_apply, hh, hp, hg, hw, hv]
  rfl

end Rows

/-- The reference's result is its layer's output. -/
theorem res_apply (m : (ℓ : Loc nD τ sig) → Buf (Elt Ideal) ℓ) (c : Dev nD) (b : Fin 8) (s : Fin 8192) (j : Fin 1024) :
    (Value.res_out0 (F := Ideal) m c : Vec Ideal S8x8192x1024 .f32) (ix3 b s j) = (layerOf m c).out b s j := by
  rw [res_eq]
  have hh : ∀ b s j, hid (m ((c.tc : Thread nD τ).loc main_arg0)) (m ((c.tc : Thread nD τ).loc main_arg1)) (m ((c.tc : Thread nD τ).loc main_arg2))
      (m ((c.tc : Thread nD τ).loc main_arg4)) (ix3 b s j) = (layerOf m c).hid b s j := fun b s j => hid_apply _ _ _ _ b s j
  have hu := up_eq (A := layerOf m c) hh (fun _ => rfl) (fun _ _ => rfl)
  exact last_eq (hid2_eq hh (act_eq (conv_eq (gate_eq hu) (fun _ _ => rfl) (fun _ => rfl)) (val_eq hu)) (fun _ _ => rfl)) (fun _ _ _ => rfl) (fun _ => rfl) (fun _ _ => rfl) (fun _ _ => rfl) b s j

end Cert.Proof.OutRef

end
-- ==== Proof.Main.Layer.lean ====
module

public import proofs.«01_k».proof.Defs
public import proofs.«01_k».proof.Proof.Out.Array
public import proofs.«01_k».proof.Proof.Out.Ref
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal

@[expose] public section

noncomputable section

namespace Cert.Proof

open Idealize.ShloMosaic Idealize.SL.Sem

/-- The layer's second kernel runs to the end, its arguments unchanged, every counter at zero. -/
theorem frame_kernel2 : Cert.quiescent_Kernel2 := fun m ρ _ => Cert.Kernel2.Gen.frame m ρ

/-- So does that kernel over the extended reals. -/
theorem frame_ideal2 : Cert.quiescent_Kernel2Ideal := fun m ρ _ => Cert.Kernel2Ideal.Gen.frame m ρ

/-- So does its reference. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The named constant is one over the root of two. -/
theorem preserves2 : Cert.preserves_Kernel2_Kernel2Ideal :=
  IdealRules.named_const.statement Cert.Kernel2Ideal.κ "rsqrt2" .f32 0x3F3504F3#32 (((Real.sqrt 2)⁻¹ : ℝ) : EReal) rfl

/-- The kernel's run and the reference's run leave the same result, the layer's output. -/
theorem algebraic2 : Cert.algebraic_Kernel2Ideal_Reference2Ideal := by
  intro m g m' g' _ ha
  have hl : ∀ c, OutRef.layerOf m' c = Out.layerOf m c := fun c => by
    obtain ⟨h0, h1, h2, h3, h4, h5, h6, h7, h8, h9, h10, h11, h12⟩ := ha c
    unfold OutRef.layerOf Out.layerOf
    rw [h0, h1, h2, h3, h4, h5, h6, h7, h8, h9, h10, h11, h12]
  refine ⟨fun c => (fun y => (Out.layerOf m c).out (y 0) (y 1) (y 2) : Vec Ideal Cert.Kernel2Ideal.S8x8192x1024 .f32), ?_, ?_⟩
  · refine (θ_run _ _ _).mono (fun r h c => ⟨((h c).1).trans (Out.array_eq m c), (h c).2⟩) (Cert.Kernel2Ideal.Value.run_blocks (F := Ideal) m g)
  · refine (θ_run _ _ _).mono (fun r h c => ⟨((h c).1).trans ?_, (h c).2⟩) (Cert.Reference2Ideal.Value.run (F := Ideal) m' g')
    refine funext fun (y : Cert.Kernel2Ideal.S8x8192x1024.Idx) => ?_
    refine (congrArg (Cert.Reference2Ideal.Value.res_out0 (F := Ideal) m' c : Vec Ideal Cert.Kernel2Ideal.S8x8192x1024 .f32) (ix3_eta y).symm).trans
      ((OutRef.res_apply m' c (y 0) (y 1) (y 2)).trans ?_)
    exact congrArg (fun A : Out.Layer => A.out (y 0) (y 1) (y 2)) (hl c)

end Cert.Proof

end
-- ==== Proof.Mix.Block.lean ====
module

public import proofs.«01_k».proof.Proof.Gen.Kernel3Ideal.Frame
public import Idealize.ShloMosaic.Lib.Pipeline.Value
public import Idealize.ShloMosaic.Lib.Affine
public import Idealize.ShloMosaic.Lib.WritesUnit
public import Idealize.ShloMosaic.Lib.Pointwise
public import Idealize.ShloMosaic.Lib.Pipeline.ValueKit

@[expose] public section

set_option maxRecDepth 16384
set_option pp.maxSteps 6000
set_option pp.deepTerms false
set_option pp.deepTerms.threshold 7

noncomputable section

namespace Cert.Proof.Mix

open Idealize.ShloMosaic Idealize.SL.Sem Cert.Kernel3Ideal
open Cert.Kernel3Ideal.Gen Idealize.ShloMosaic.TcCoe

variable {F : FTy → Type} [FloatOps F]

/-! ## What a grid point computes from its blocks -/

/-- A run of 512 columns of the projection's weights. -/
def cols0 (x2 : Vec F S1024x2560 .bf16) : Vec F S1024x512 .bf16 := View.ld x2 (Rect.unit ![0, 0] S1024x512.size inb_S1024x2560_S1024x512_0_0)
def cols1 (x2 : Vec F S1024x2560 .bf16) : Vec F S1024x512 .bf16 := View.ld x2 (Rect.unit ![0, 512] S1024x512.size inb_S1024x2560_S1024x512_0_512)
def cols2 (x2 : Vec F S1024x2560 .bf16) : Vec F S1024x512 .bf16 := View.ld x2 (Rect.unit ![0, 1024] S1024x512.size inb_S1024x2560_S1024x512_0_1024)
def cols3 (x2 : Vec F S1024x2560 .bf16) : Vec F S1024x512 .bf16 := View.ld x2 (Rect.unit ![0, 1536] S1024x512.size inb_S1024x2560_S1024x512_0_1536)
def cols4 (x2 : Vec F S1024x2560 .bf16) : Vec F S1024x512 .bf16 := View.ld x2 (Rect.unit ![0, 2048] S1024x512.size inb_S1024x2560_S1024x512_0_2048)

/-- The product with such a run. -/
def prod (u : FVec F S512x1024 .bf16) (w : Vec F S1024x512 .bf16) : FVec F S512x512 .f32 :=
  matmul dot_S512x1024_S1024x512_S512x512_1_0_0_1_n_n none u (shapeCast S1024x512 w shapeCasts_S1024x512_S1024x512) (constant S512x512 .f32 0x00000000#32)

/-- The gated linear unit of a block of rows. -/
def unitOf (x0 : Vec F S1x512x1024 .f32) (x1 : Vec F S1x1024 .f32) (x2 : Vec F S1024x2560 .bf16) : FVec F S512x512 .f32 :=
  k0_pay2 (k0_pay11 x0 x1) (prod (k0_pay11 x0 x1) (cols3 x2)) (cols4 x2)

/-- A tap's weights. -/
def tap (x6 : Vec F S31x512 .f32) (k : ℕ) (h : k < 31) : Vec F S1x512 .f32 :=
  View.ld x6 (Rect.unit ![k, 0] S1x512.size (Fin.forall_fin_two.mpr ⟨h, le_refl 512⟩))

/-- Sixty-four rows of the buffer from a row on. -/
def here (C : Vec F S544x512 .f32) (o : ℕ) (h : o + 64 ≤ 544) : FVec F S64x512 .f32 :=
  View.ld C (Rect.unit ![o, 0] S64x512.size (Fin.forall_fin_two.mpr ⟨h, le_refl 512⟩))

theorem inb_there {a o : ℕ} (ha : a < 7) (h : o + 64 ≤ 536) : ∀ i : Fin 3, (![a, o, 0] : Fin 3 → ℕ) i + S1x64x512.size i ≤ S7x536x512.size i := fun i => by
  fin_cases i
  · exact ha
  · exact h
  · exact le_refl 512

/-- Sixty-four rows of one of the buffer's shifted copies from a row on. -/
def there (S : Vec F S7x536x512 .f32) (a o : ℕ) (ha : a < 7) (h : o + 64 ≤ 536) : FVec F S64x512 .f32 :=
  shapeCast S64x512 (View.ld S (Rect.unit ![a, o, 0] S1x64x512.size (inb_there ha h))) shapeCasts_S1x64x512_S64x512

/-- One tap's term added. -/
def step (w : Vec F S1x512 .f32) (x acc : FVec F S64x512 .f32) : FVec F S64x512 .f32 :=
  addf acc (mulf (broadcastTo S64x512 (w : FVec F S1x512 .f32) broadcasts_S1x512_S64x512) x)

/-- The convolution's bias on every row. -/
def bias (x7 : Vec F S1x512 .f32) : FVec F S64x512 .f32 :=
  broadcastTo S64x512 (shapeCast S1x512 (shapeCast S1x512 x7 shapeCasts_S1x512_S1x512) shapeCasts_S1x512_S1x512 : FVec F S1x512 .f32) broadcasts_S1x512_S64x512

/-- The convolution of sixty-four rows. -/
def conv (C : Vec F S544x512 .f32) (S : Vec F S7x536x512 .f32) (x6 : Vec F S31x512 .f32) (x7 : Vec F S1x512 .f32) (r0 : ℕ) (h : r0 ≤ 448) : FVec F S64x512 .f32 :=
  step (tap x6 30 (by decide)) (here C (r0 + 32) (by omega))
    (step (tap x6 29 (by decide)) (there S 6 (r0 + 24) (by decide) (by omega))
    (step (tap x6 28 (by decide)) (there S 5 (r0 + 24) (by decide) (by omega))
    (step (tap x6 27 (by decide)) (there S 4 (r0 + 24) (by decide) (by omega))
    (step (tap x6 26 (by decide)) (there S 3 (r0 + 24) (by decide) (by omega))
    (step (tap x6 25 (by decide)) (there S 2 (r0 + 24) (by decide) (by omega))
    (step (tap x6 24 (by decide)) (there S 1 (r0 + 24) (by decide) (by omega))
    (step (tap x6 23 (by decide)) (there S 0 (r0 + 24) (by decide) (by omega))
    (step (tap x6 22 (by decide)) (here C (r0 + 24) (by omega))
    (step (tap x6 21 (by decide)) (there S 6 (r0 + 16) (by decide) (by omega))
    (step (tap x6 20 (by decide)) (there S 5 (r0 + 16) (by decide) (by omega))
    (step (tap x6 19 (by decide)) (there S 4 (r0 + 16) (by decide) (by omega))
    (step (tap x6 18 (by decide)) (there S 3 (r0 + 16) (by decide) (by omega))
    (step (tap x6 17 (by decide)) (there S 2 (r0 + 16) (by decide) (by omega))
    (step (tap x6 16 (by decide)) (there S 1 (r0 + 16) (by decide) (by omega))
    (step (tap x6 15 (by decide)) (there S 0 (r0 + 16) (by decide) (by omega))
    (step (tap x6 14 (by decide)) (here C (r0 + 16) (by omega))
    (step (tap x6 13 (by decide)) (there S 6 (r0 + 8) (by decide) (by omega))
    (step (tap x6 12 (by decide)) (there S 5 (r0 + 8) (by decide) (by omega))
    (step (tap x6 11 (by decide)) (there S 4 (r0 + 8) (by decide) (by omega))
    (step (tap x6 10 (by decide)) (there S 3 (r0 + 8) (by decide) (by omega))
    (step (tap x6 9 (by decide)) (there S 2 (r0 + 8) (by decide) (by omega))
    (step (tap x6 8 (by decide)) (there S 1 (r0 + 8) (by decide) (by omega))
    (step (tap x6 7 (by decide)) (there S 0 (r0 + 8) (by decide) (by omega))
    (step (tap x6 6 (by decide)) (here C (r0 + 8) (by omega))
    (step (tap x6 5 (by decide)) (there S 6 (r0 + 0) (by decide) (by omega))
    (step (tap x6 4 (by decide)) (there S 5 (r0 + 0) (by decide) (by omega))
    (step (tap x6 3 (by decide)) (there S 4 (r0 + 0) (by decide) (by omega))
    (step (tap x6 2 (by decide)) (there S 3 (r0 + 0) (by decide) (by omega))
    (step (tap x6 1 (by decide)) (there S 2 (r0 + 0) (by decide) (by omega))
    (step (tap x6 0 (by decide)) (there S 1 (r0 + 0) (by decide) (by omega)) (bias x7)))))))))))))))))))))))))))))))

/-- The rows less their means. -/
def lessMean (a : FVec F S64x512 .f32) : FVec F S64x512 .f32 :=
  subf a (broadcastTo S64x512 (divf (shapeCast S64x1 (multiReduction .add [1] S64 a 0x00000000#32 reduces_S64x512_S64 (.inl rfl) rfl) shapeCasts_S64_S64x1)
    (broadcast S64x1 (Scalar.ofBits .f32 0x44000000#32 : F .f32))) broadcasts_S64x1_S64x512)

/-- The rows' layer norm. -/
def layerNorm (a : FVec F S64x512 .f32) (x8 x9 : Vec F S1x512 .f32) : FVec F S64x512 .f32 :=
  addf (mulf (mulf (lessMean a) (broadcastTo S64x512 (rsqrt (addf (divf (shapeCast S64x1 (multiReduction .add [1] S64 (mulf (lessMean a) (lessMean a)) 0x00000000#32
      reduces_S64x512_S64 (.inl rfl) rfl) shapeCasts_S64_S64x1) (broadcast S64x1 (Scalar.ofBits .f32 0x44000000#32 : F .f32)))
      (broadcast S64x1 (Scalar.ofBits .f32 0x358637BD#32 : F .f32)))) broadcasts_S64x1_S64x512))
    (broadcastTo S64x512 (shapeCast S1x512 x8 shapeCasts_S1x512_S1x512 : FVec F S1x512 .f32) broadcasts_S1x512_S64x512))
    (broadcastTo S64x512 (shapeCast S1x512 x9 shapeCasts_S1x512_S1x512 : FVec F S1x512 .f32) broadcasts_S1x512_S64x512)

/-- The sixty-four rows of the convolution's output. -/
def finish (a : FVec F S64x512 .f32) (x8 x9 : Vec F S1x512 .f32) : FVec F S1x64x512 .bf16 :=
  shapeCast S1x64x512 (truncf .bf16 (mulf (layerNorm a x8 x9) (logistic (layerNorm a x8 x9))) bitsLt_bf16_f32) shapeCasts_S64x512_S1x64x512

theorem zero2 : (![0, 0] : Fin 2 → Nat) = fun _ => 0 := funext fun a => by fin_cases a <;> rfl
theorem zero3 : (![0, 0, 0] : Fin 3 → Nat) = fun _ => 0 := funext fun a => by fin_cases a <;> rfl

/-- The buffer's copies, each shifted by one row more. -/
def shifted (C : Vec F S544x512 .f32) : Vec F S7x536x512 .f32 := fun y =>
  C (ix2 ⟨(y 0).val + 1 + (y 1).val, by have h0 : (y 0).val < 7 := (y 0).isLt; have h1 : (y 1).val < 536 := (y 1).isLt; omega⟩ (y 2))

/-- Eight runs of sixty-four rows written to a block are read back run by run. -/
theorem read_runs {sig : RefSig} {κ : Kind} {sp : Space} (v : View sig κ sp S1x512x512 .bf16) (f : v.ty.Contents (Elt F)) (p0 p1 p2 p3 p4 p5 p6 p7 : FVec F S1x64x512 .bf16)
    (j : Fin 8) (r : Fin 64) (d : Fin 512) :
    v.read (Elt F) (v.writes (Elt F) f [⟨Rect.unit ![0, 448, 0] S1x64x512.size inb_S1x512x512_S1x64x512_0_448_0, p7⟩, ⟨Rect.unit ![0, 384, 0] S1x64x512.size inb_S1x512x512_S1x64x512_0_384_0, p6⟩, ⟨Rect.unit ![0, 320, 0] S1x64x512.size inb_S1x512x512_S1x64x512_0_320_0, p5⟩, ⟨Rect.unit ![0, 256, 0] S1x64x512.size inb_S1x512x512_S1x64x512_0_256_0, p4⟩, ⟨Rect.unit ![0, 192, 0] S1x64x512.size inb_S1x512x512_S1x64x512_0_192_0, p3⟩, ⟨Rect.unit ![0, 128, 0] S1x64x512.size inb_S1x512x512_S1x64x512_0_128_0, p2⟩, ⟨Rect.unit ![0, 64, 0] S1x64x512.size inb_S1x512x512_S1x64x512_0_64_0, p1⟩, ⟨Rect.unit ![0, 0, 0] S1x64x512.size inb_S1x512x512_S1x64x512_0_0_0, p0⟩]) (ix3 0 ⟨64 * j.val + r.val, by omega⟩ d) = (![p0, p1, p2, p3, p4, p5, p6, p7] : Fin 8 → FVec F S1x64x512 .bf16) j (ix3 0 r d) := by
  fin_cases j
  · refine (View.read_writes_cons_unit_of_not_mem (off' := ![0, 448, 0]) v f _ _ _ _ rfl (1 : Fin 3) (.inl (by show 64 * 0 + r.val < 448; omega))).trans ?_
    refine (View.read_writes_cons_unit_of_not_mem (off' := ![0, 384, 0]) v f _ _ _ _ rfl (1 : Fin 3) (.inl (by show 64 * 0 + r.val < 384; omega))).trans ?_
    refine (View.read_writes_cons_unit_of_not_mem (off' := ![0, 320, 0]) v f _ _ _ _ rfl (1 : Fin 3) (.inl (by show 64 * 0 + r.val < 320; omega))).trans ?_
    refine (View.read_writes_cons_unit_of_not_mem (off' := ![0, 256, 0]) v f _ _ _ _ rfl (1 : Fin 3) (.inl (by show 64 * 0 + r.val < 256; omega))).trans ?_
    refine (View.read_writes_cons_unit_of_not_mem (off' := ![0, 192, 0]) v f _ _ _ _ rfl (1 : Fin 3) (.inl (by show 64 * 0 + r.val < 192; omega))).trans ?_
    refine (View.read_writes_cons_unit_of_not_mem (off' := ![0, 128, 0]) v f _ _ _ _ rfl (1 : Fin 3) (.inl (by show 64 * 0 + r.val < 128; omega))).trans ?_
    refine (View.read_writes_cons_unit_of_not_mem (off' := ![0, 64, 0]) v f _ _ _ _ rfl (1 : Fin 3) (.inl (by show 64 * 0 + r.val < 64; omega))).trans ?_
    exact View.read_writes_cons_unit_of_mem (off' := ![0, 0, 0]) v f _ _ _ _ (ix3 0 r d) rfl fun a => by fin_cases a <;> simp
  · refine (View.read_writes_cons_unit_of_not_mem (off' := ![0, 448, 0]) v f _ _ _ _ rfl (1 : Fin 3) (.inl (by show 64 * 1 + r.val < 448; omega))).trans ?_
    refine (View.read_writes_cons_unit_of_not_mem (off' := ![0, 384, 0]) v f _ _ _ _ rfl (1 : Fin 3) (.inl (by show 64 * 1 + r.val < 384; omega))).trans ?_
    refine (View.read_writes_cons_unit_of_not_mem (off' := ![0, 320, 0]) v f _ _ _ _ rfl (1 : Fin 3) (.inl (by show 64 * 1 + r.val < 320; omega))).trans ?_
    refine (View.read_writes_cons_unit_of_not_mem (off' := ![0, 256, 0]) v f _ _ _ _ rfl (1 : Fin 3) (.inl (by show 64 * 1 + r.val < 256; omega))).trans ?_
    refine (View.read_writes_cons_unit_of_not_mem (off' := ![0, 192, 0]) v f _ _ _ _ rfl (1 : Fin 3) (.inl (by show 64 * 1 + r.val < 192; omega))).trans ?_
    refine (View.read_writes_cons_unit_of_not_mem (off' := ![0, 128, 0]) v f _ _ _ _ rfl (1 : Fin 3) (.inl (by show 64 * 1 + r.val < 128; omega))).trans ?_
    exact View.read_writes_cons_unit_of_mem (off' := ![0, 64, 0]) v f _ _ _ _ (ix3 0 r d) rfl fun a => by fin_cases a <;> simp
  · refine (View.read_writes_cons_unit_of_not_mem (off' := ![0, 448, 0]) v f _ _ _ _ rfl (1 : Fin 3) (.inl (by show 64 * 2 + r.val < 448; omega))).trans ?_
    refine (View.read_writes_cons_unit_of_not_mem (off' := ![0, 384, 0]) v f _ _ _ _ rfl (1 : Fin 3) (.inl (by show 64 * 2 + r.val < 384; omega))).trans ?_
    refine (View.read_writes_cons_unit_of_not_mem (off' := ![0, 320, 0]) v f _ _ _ _ rfl (1 : Fin 3) (.inl (by show 64 * 2 + r.val < 320; omega))).trans ?_
    refine (View.read_writes_cons_unit_of_not_mem (off' := ![0, 256, 0]) v f _ _ _ _ rfl (1 : Fin 3) (.inl (by show 64 * 2 + r.val < 256; omega))).trans ?_
    refine (View.read_writes_cons_unit_of_not_mem (off' := ![0, 192, 0]) v f _ _ _ _ rfl (1 : Fin 3) (.inl (by show 64 * 2 + r.val < 192; omega))).trans ?_
    exact View.read_writes_cons_unit_of_mem (off' := ![0, 128, 0]) v f _ _ _ _ (ix3 0 r d) rfl fun a => by fin_cases a <;> simp
  · refine (View.read_writes_cons_unit_of_not_mem (off' := ![0, 448, 0]) v f _ _ _ _ rfl (1 : Fin 3) (.inl (by show 64 * 3 + r.val < 448; omega))).trans ?_
    refine (View.read_writes_cons_unit_of_not_mem (off' := ![0, 384, 0]) v f _ _ _ _ rfl (1 : Fin 3) (.inl (by show 64 * 3 + r.val < 384; omega))).trans ?_
    refine (View.read_writes_cons_unit_of_not_mem (off' := ![0, 320, 0]) v f _ _ _ _ rfl (1 : Fin 3) (.inl (by show 64 * 3 + r.val < 320; omega))).trans ?_
    refine (View.read_writes_cons_unit_of_not_mem (off' := ![0, 256, 0]) v f _ _ _ _ rfl (1 : Fin 3) (.inl (by show 64 * 3 + r.val < 256; omega))).trans ?_
    exact View.read_writes_cons_unit_of_mem (off' := ![0, 192, 0]) v f _ _ _ _ (ix3 0 r d) rfl fun a => by fin_cases a <;> simp
  · refine (View.read_writes_cons_unit_of_not_mem (off' := ![0, 448, 0]) v f _ _ _ _ rfl (1 : Fin 3) (.inl (by show 64 * 4 + r.val < 448; omega))).trans ?_
    refine (View.read_writes_cons_unit_of_not_mem (off' := ![0, 384, 0]) v f _ _ _ _ rfl (1 : Fin 3) (.inl (by show 64 * 4 + r.val < 384; omega))).trans ?_
    refine (View.read_writes_cons_unit_of_not_mem (off' := ![0, 320, 0]) v f _ _ _ _ rfl (1 : Fin 3) (.inl (by show 64 * 4 + r.val < 320; omega))).trans ?_
    exact View.read_writes_cons_unit_of_mem (off' := ![0, 256, 0]) v f _ _ _ _ (ix3 0 r d) rfl fun a => by fin_cases a <;> simp
  · refine (View.read_writes_cons_unit_of_not_mem (off' := ![0, 448, 0]) v f _ _ _ _ rfl (1 : Fin 3) (.inl (by show 64 * 5 + r.val < 448; omega))).trans ?_
    refine (View.read_writes_cons_unit_of_not_mem (off' := ![0, 384, 0]) v f _ _ _ _ rfl (1 : Fin 3) (.inl (by show 64 * 5 + r.val < 384; omega))).trans ?_
    exact View.read_writes_cons_unit_of_mem (off' := ![0, 320, 0]) v f _ _ _ _ (ix3 0 r d) rfl fun a => by fin_cases a <;> simp
  · refine (View.read_writes_cons_unit_of_not_mem (off' := ![0, 448, 0]) v f _ _ _ _ rfl (1 : Fin 3) (.inl (by show 64 * 6 + r.val < 448; omega))).trans ?_
    exact View.read_writes_cons_unit_of_mem (off' := ![0, 384, 0]) v f _ _ _ _ (ix3 0 r d) rfl fun a => by fin_cases a <;> simp
  · exact View.read_writes_cons_unit_of_mem (off' := ![0, 448, 0]) v f _ _ _ _ (ix3 0 r d) rfl fun a => by fin_cases a <;> simp

/-- The seven copies of the buffer are read back as the shifted buffer. -/
theorem read_copies {sig : RefSig} {κ : Kind} {sp : Space} (v : View sig κ sp S7x536x512 .f32) (f : v.ty.Contents (Elt F)) (p0 p1 p2 p3 p4 p5 p6 : FVec F S1x536x512 .f32)
    (C : Vec F S544x512 .f32) (hp : ∀ (j : Fin 7) (r : Fin 536) (d : Fin 512), (![p0, p1, p2, p3, p4, p5, p6] : Fin 7 → FVec F S1x536x512 .f32) j (ix3 0 r d) = C (ix2 ⟨j.val + 1 + r.val, by omega⟩ d)) :
    v.read (Elt F) (v.writes (Elt F) f [⟨Rect.unit ![6, 0, 0] S1x536x512.size inb_S7x536x512_S1x536x512_6_0_0, p6⟩, ⟨Rect.unit ![5, 0, 0] S1x536x512.size inb_S7x536x512_S1x536x512_5_0_0, p5⟩, ⟨Rect.unit ![4, 0, 0] S1x536x512.size inb_S7x536x512_S1x536x512_4_0_0, p4⟩, ⟨Rect.unit ![3, 0, 0] S1x536x512.size inb_S7x536x512_S1x536x512_3_0_0, p3⟩, ⟨Rect.unit ![2, 0, 0] S1x536x512.size inb_S7x536x512_S1x536x512_2_0_0, p2⟩, ⟨Rect.unit ![1, 0, 0] S1x536x512.size inb_S7x536x512_S1x536x512_1_0_0, p1⟩, ⟨Rect.unit ![0, 0, 0] S1x536x512.size inb_S7x536x512_S1x536x512_0_0_0, p0⟩]) = shifted C := by
  funext y
  obtain ⟨j, r, d, rfl⟩ : ∃ (j : Fin 7) (r : Fin 536) (d : Fin 512), y = ix3 j r d := ⟨y 0, y 1, y 2, (ix3_eta y).symm⟩
  refine Eq.trans ?_ (hp j r d)
  fin_cases j
  · refine (View.read_writes_cons_unit_of_not_mem (off' := ![6, 0, 0]) v f _ _ _ _ rfl (0 : Fin 3) (.inl (by show 0 < 6; omega))).trans ?_
    refine (View.read_writes_cons_unit_of_not_mem (off' := ![5, 0, 0]) v f _ _ _ _ rfl (0 : Fin 3) (.inl (by show 0 < 5; omega))).trans ?_
    refine (View.read_writes_cons_unit_of_not_mem (off' := ![4, 0, 0]) v f _ _ _ _ rfl (0 : Fin 3) (.inl (by show 0 < 4; omega))).trans ?_
    refine (View.read_writes_cons_unit_of_not_mem (off' := ![3, 0, 0]) v f _ _ _ _ rfl (0 : Fin 3) (.inl (by show 0 < 3; omega))).trans ?_
    refine (View.read_writes_cons_unit_of_not_mem (off' := ![2, 0, 0]) v f _ _ _ _ rfl (0 : Fin 3) (.inl (by show 0 < 2; omega))).trans ?_
    refine (View.read_writes_cons_unit_of_not_mem (off' := ![1, 0, 0]) v f _ _ _ _ rfl (0 : Fin 3) (.inl (by show 0 < 1; omega))).trans ?_
    exact View.read_writes_cons_unit_of_mem (off' := ![0, 0, 0]) v f _ _ _ _ (ix3 0 r d) rfl fun a => by fin_cases a <;> simp
  · refine (View.read_writes_cons_unit_of_not_mem (off' := ![6, 0, 0]) v f _ _ _ _ rfl (0 : Fin 3) (.inl (by show 1 < 6; omega))).trans ?_
    refine (View.read_writes_cons_unit_of_not_mem (off' := ![5, 0, 0]) v f _ _ _ _ rfl (0 : Fin 3) (.inl (by show 1 < 5; omega))).trans ?_
    refine (View.read_writes_cons_unit_of_not_mem (off' := ![4, 0, 0]) v f _ _ _ _ rfl (0 : Fin 3) (.inl (by show 1 < 4; omega))).trans ?_
    refine (View.read_writes_cons_unit_of_not_mem (off' := ![3, 0, 0]) v f _ _ _ _ rfl (0 : Fin 3) (.inl (by show 1 < 3; omega))).trans ?_
    refine (View.read_writes_cons_unit_of_not_mem (off' := ![2, 0, 0]) v f _ _ _ _ rfl (0 : Fin 3) (.inl (by show 1 < 2; omega))).trans ?_
    exact View.read_writes_cons_unit_of_mem (off' := ![1, 0, 0]) v f _ _ _ _ (ix3 0 r d) rfl fun a => by fin_cases a <;> simp
  · refine (View.read_writes_cons_unit_of_not_mem (off' := ![6, 0, 0]) v f _ _ _ _ rfl (0 : Fin 3) (.inl (by show 2 < 6; omega))).trans ?_
    refine (View.read_writes_cons_unit_of_not_mem (off' := ![5, 0, 0]) v f _ _ _ _ rfl (0 : Fin 3) (.inl (by show 2 < 5; omega))).trans ?_
    refine (View.read_writes_cons_unit_of_not_mem (off' := ![4, 0, 0]) v f _ _ _ _ rfl (0 : Fin 3) (.inl (by show 2 < 4; omega))).trans ?_
    refine (View.read_writes_cons_unit_of_not_mem (off' := ![3, 0, 0]) v f _ _ _ _ rfl (0 : Fin 3) (.inl (by show 2 < 3; omega))).trans ?_
    exact View.read_writes_cons_unit_of_mem (off' := ![2, 0, 0]) v f _ _ _ _ (ix3 0 r d) rfl fun a => by fin_cases a <;> simp
  · refine (View.read_writes_cons_unit_of_not_mem (off' := ![6, 0, 0]) v f _ _ _ _ rfl (0 : Fin 3) (.inl (by show 3 < 6; omega))).trans ?_
    refine (View.read_writes_cons_unit_of_not_mem (off' := ![5, 0, 0]) v f _ _ _ _ rfl (0 : Fin 3) (.inl (by show 3 < 5; omega))).trans ?_
    refine (View.read_writes_cons_unit_of_not_mem (off' := ![4, 0, 0]) v f _ _ _ _ rfl (0 : Fin 3) (.inl (by show 3 < 4; omega))).trans ?_
    exact View.read_writes_cons_unit_of_mem (off' := ![3, 0, 0]) v f _ _ _ _ (ix3 0 r d) rfl fun a => by fin_cases a <;> simp
  · refine (View.read_writes_cons_unit_of_not_mem (off' := ![6, 0, 0]) v f _ _ _ _ rfl (0 : Fin 3) (.inl (by show 4 < 6; omega))).trans ?_
    refine (View.read_writes_cons_unit_of_not_mem (off' := ![5, 0, 0]) v f _ _ _ _ rfl (0 : Fin 3) (.inl (by show 4 < 5; omega))).trans ?_
    exact View.read_writes_cons_unit_of_mem (off' := ![4, 0, 0]) v f _ _ _ _ (ix3 0 r d) rfl fun a => by fin_cases a <;> simp
  · refine (View.read_writes_cons_unit_of_not_mem (off' := ![6, 0, 0]) v f _ _ _ _ rfl (0 : Fin 3) (.inl (by show 5 < 6; omega))).trans ?_
    exact View.read_writes_cons_unit_of_mem (off' := ![5, 0, 0]) v f _ _ _ _ (ix3 0 r d) rfl fun a => by fin_cases a <;> simp
  · exact View.read_writes_cons_unit_of_mem (off' := ![6, 0, 0]) v f _ _ _ _ (ix3 0 r d) rfl fun a => by fin_cases a <;> simp

/-- A copy at its entries. -/
theorem copy_apply (C : Vec F S544x512 .f32) (o : ℕ) (inb) (h : o ≤ 8) (r : Fin 536) (d : Fin 512) :
    shapeCast S1x536x512 (View.ld C (Rect.unit ![o, 0] S536x512.size inb) : FVec F S536x512 .f32) shapeCasts_S536x512_S1x536x512 (ix3 0 r d) = C (ix2 ⟨o + r.val, by omega⟩ d) := by
  have e : ∀ x : FVec F S536x512 .f32, shapeCast S1x536x512 x shapeCasts_S536x512_S1x536x512 (ix3 0 r d) = x (ix2 r d) := fun x => by pointwise []
  rw [e]
  exact View.ld_unit_apply_of C _ _ _ _ _ fun a => by fin_cases a <;> simp

variable (m : (ℓ : Loc nD τ sig) → Buf (Elt F) ℓ)

/-- The buffer that a point finds. -/
theorem read_buffer (h : scM0_0.IsWhole) (X : Vec F S544x512 .f32) : View.read (Elt F) (View.whole cc0_scratch0) (h.unread X) = X := h.read_unread X

/-- A later point's convolution is of the buffer that the point before it left. -/
theorem mix_next (c : Dev nD) (t : Fin cfg0.N) (h0 : ¬ t.val % 17 = 0) (j : Fin 8) (r : Fin 64) (d : Fin 512) :
    (outsAt0 m c t.val t.isLt).2.2.2.1 (ix3 0 ⟨64 * j.val + r.val, by omega⟩ d)
      = finish (conv (outsAt0 m c (t.val - 1) (by omega)).2.2.2.2 (shifted (outsAt0 m c (t.val - 1) (by omega)).2.2.2.2) (iblk m c 6 t) (iblk m c 7 t) (64 * j.val) (by omega))
        (iblk m c 8 t) (iblk m c 9 t) (ix3 0 r d) := by
  rw [outsAt0_B m c t h0]
  dsimp only
  unfold out0_B_13
  unfold kernelRun0_B
  dsimp only
  refine (read_runs VO0_13 _ _ _ _ _ _ _ _ _ j r d).trans ?_
  refine congrFun ?_ _
  sl_unfold_words
  simp only [View.readCov, View.readAt_eq_ld, Memref.IsWhole.read_unread, View.ld_unit_zero (S := S1x512) zero2, read_buffer]
  rw [read_copies _ _ _ _ _ _ _ _ _ (outsAt0 m c (t.val - 1) (by omega)).2.2.2.2]
  · fin_cases j <;> rfl
  · intro j r d
    fin_cases j
    · exact copy_apply _ 1 _ (by decide) r d
    · exact copy_apply _ 2 _ (by decide) r d
    · exact copy_apply _ 3 _ (by decide) r d
    · exact copy_apply _ 4 _ (by decide) r d
    · exact copy_apply _ 5 _ (by decide) r d
    · exact copy_apply _ 6 _ (by decide) r d
    · exact copy_apply _ 7 _ (by decide) r d

/-- The queries that a point leaves, … -/
theorem q_left (c : Dev nD) (t : Fin cfg0.N) :
    (outsAt0 m c t.val t.isLt).1 = k0_pay35 (k0_pay11 (iblk m c 0 t) (iblk m c 1 t)) (cols0 (iblk m c 2 t)) (iblk m c 3 t) (iblk m c 4 t) := by
  by_cases h0 : t.val % 17 = 0
  · rw [outsAt0_A m c t h0]
    dsimp only
    unfold out0_A_10
    rw [View.read_writes_junk_eq_canon]
    unfold kernelRun0_A
    dsimp only
    rw [View.canon_unit_zero zero3]
    sl_unfold_words
    simp only [View.readAt_eq_ld, Memref.IsWhole.read_unread, View.ld_unit_zero (S := S1x512x1024) zero3, View.ld_unit_zero (S := S1x1024) zero2, View.ld_unit_zero (S := S512x512) zero2,
      View.ld_unit_zero (S := S1x512) zero2]
    rfl
  · rw [outsAt0_B m c t h0]
    dsimp only
    unfold out0_B_10
    rw [View.read_writes_junk_eq_canon]
    unfold kernelRun0_B
    dsimp only
    rw [View.canon_unit_zero zero3]
    sl_unfold_words
    simp only [View.readAt_eq_ld, Memref.IsWhole.read_unread, View.ld_unit_zero (S := S1x512x1024) zero3, View.ld_unit_zero (S := S1x1024) zero2, View.ld_unit_zero (S := S512x512) zero2,
      View.ld_unit_zero (S := S1x512) zero2]
    rfl

/-- … the keys, … -/
theorem k_left (c : Dev nD) (t : Fin cfg0.N) :
    (outsAt0 m c t.val t.isLt).2.1 = k0_pay35 (k0_pay11 (iblk m c 0 t) (iblk m c 1 t)) (cols1 (iblk m c 2 t)) (iblk m c 3 t) (iblk m c 5 t) := by
  by_cases h0 : t.val % 17 = 0
  · rw [outsAt0_A m c t h0]
    dsimp only
    unfold out0_A_11
    rw [View.read_writes_junk_eq_canon]
    unfold kernelRun0_A
    dsimp only
    rw [View.canon_unit_zero zero3]
    sl_unfold_words
    simp only [View.readAt_eq_ld, Memref.IsWhole.read_unread, View.ld_unit_zero (S := S1x512x1024) zero3, View.ld_unit_zero (S := S1x1024) zero2, View.ld_unit_zero (S := S512x512) zero2,
      View.ld_unit_zero (S := S1x512) zero2]
    rfl
  · rw [outsAt0_B m c t h0]
    dsimp only
    unfold out0_B_11
    rw [View.read_writes_junk_eq_canon]
    unfold kernelRun0_B
    dsimp only
    rw [View.canon_unit_zero zero3]
    sl_unfold_words
    simp only [View.readAt_eq_ld, Memref.IsWhole.read_unread, View.ld_unit_zero (S := S1x512x1024) zero3, View.ld_unit_zero (S := S1x1024) zero2, View.ld_unit_zero (S := S512x512) zero2,
      View.ld_unit_zero (S := S1x512) zero2]
    rfl

/-- … and the values. -/
theorem v_left (c : Dev nD) (t : Fin cfg0.N) :
    (outsAt0 m c t.val t.isLt).2.2.1 = k0_pay79 (k0_pay11 (iblk m c 0 t) (iblk m c 1 t)) (cols2 (iblk m c 2 t)) := by
  by_cases h0 : t.val % 17 = 0
  · rw [outsAt0_A m c t h0]
    dsimp only
    unfold out0_A_12
    rw [View.read_writes_junk_eq_canon]
    unfold kernelRun0_A
    dsimp only
    rw [View.canon_unit_zero zero3]
    sl_unfold_words
    simp only [View.readAt_eq_ld, Memref.IsWhole.read_unread, View.ld_unit_zero (S := S1x512x1024) zero3, View.ld_unit_zero (S := S1x1024) zero2, View.ld_unit_zero (S := S512x512) zero2,
      View.ld_unit_zero (S := S1x512) zero2]
    rfl
  · rw [outsAt0_B m c t h0]
    dsimp only
    unfold out0_B_12
    rw [View.read_writes_junk_eq_canon]
    unfold kernelRun0_B
    dsimp only
    rw [View.canon_unit_zero zero3]
    sl_unfold_words
    simp only [View.readAt_eq_ld, Memref.IsWhole.read_unread, View.ld_unit_zero (S := S1x512x1024) zero3, View.ld_unit_zero (S := S1x1024) zero2, View.ld_unit_zero (S := S512x512) zero2,
      View.ld_unit_zero (S := S1x512) zero2]
    rfl

/-- From row 32 on the buffer is what was last stored there. -/
theorem read_tail {sig : RefSig} {κ : Kind} {sp : Space} (v : View sig κ sp S544x512 .f32) (f : v.ty.Contents (Elt F)) (p : FVec F S512x512 .f32)
    (L : List (View.Piece (Elt F) S544x512 .f32)) (r d : Fin 512) :
    v.read (Elt F) (v.writes (Elt F) f (⟨Rect.unit ![32, 0] S512x512.size inb_S544x512_S512x512_32_0, p⟩ :: L)) (ix2 ⟨32 + r.val, by omega⟩ d) = p (ix2 r d) :=
  View.read_writes_cons_rows_of_mem (o := 32) v f _ _ _ _ (ix2 r d) rfl rfl rfl

/-- Before row 32 it is what was stored before that. -/
theorem read_head {sig : RefSig} {κ : Kind} {sp : Space} (v : View sig κ sp S544x512 .f32) (f : v.ty.Contents (Elt F)) (p : FVec F S512x512 .f32) (q : FVec F S32x512 .f32)
    (L : List (View.Piece (Elt F) S544x512 .f32)) (r : Fin 32) (d : Fin 512) :
    v.read (Elt F) (v.writes (Elt F) f (⟨Rect.unit ![32, 0] S512x512.size inb_S544x512_S512x512_32_0, p⟩ ::
      ⟨Rect.unit ![0, 0] S32x512.size inb_S544x512_S32x512_0_0, q⟩ :: L)) (ix2 ⟨r.val, by omega⟩ d) = q (ix2 r d) :=
  (View.read_writes_cons_rows_of_not_mem (o := 32) (W := 512) v f _ _ _ _ rfl rfl (.inl r.isLt)).trans
    (View.read_writes_cons_rows_of_mem (o := 0) v f _ _ _ _ (ix2 r d) rfl (by show r.val = 0 + r.val; omega) rfl)

/-- The rows that a point carries: its gated linear unit, … -/
theorem unit_left (c : Dev nD) (t : Fin cfg0.N) (r d : Fin 512) :
    (outsAt0 m c t.val t.isLt).2.2.2.2 (ix2 ⟨32 + r.val, by omega⟩ d) = unitOf (iblk m c 0 t) (iblk m c 1 t) (iblk m c 2 t) (ix2 r d) := by
  by_cases h0 : t.val % 17 = 0
  · rw [outsAt0_A m c t h0]
    dsimp only
    unfold sout0_A_0
    unfold kernelRun0_A
    dsimp only
    sl_unfold_words
    simp only [View.readAt_eq_ld, Memref.IsWhole.read_unread, View.ld_unit_zero (S := S1x512x1024) zero3, View.ld_unit_zero (S := S1x1024) zero2]
    exact (read_tail VS0_0 _ (unitOf (iblk m c 0 t) (iblk m c 1 t) (iblk m c 2 t)) _ r d)
  · rw [outsAt0_B m c t h0]
    dsimp only
    unfold sout0_B_0
    unfold kernelRun0_B
    dsimp only
    sl_unfold_words
    simp only [View.readAt_eq_ld, Memref.IsWhole.read_unread, View.ld_unit_zero (S := S1x512x1024) zero3, View.ld_unit_zero (S := S1x1024) zero2]
    exact (read_tail VS0_0 _ (unitOf (iblk m c 0 t) (iblk m c 1 t) (iblk m c 2 t)) _ r d)

/-- … after the last rows of the unit before it: … -/
theorem head_next (c : Dev nD) (t : Fin cfg0.N) (h0 : ¬ t.val % 17 = 0) (r : Fin 32) (d : Fin 512) :
    (outsAt0 m c t.val t.isLt).2.2.2.2 (ix2 ⟨r.val, by omega⟩ d) = (outsAt0 m c (t.val - 1) (by omega)).2.2.2.2 (ix2 ⟨512 + r.val, by omega⟩ d) := by
  rw [outsAt0_B m c t h0]
  dsimp only
  unfold sout0_B_0
  unfold kernelRun0_B
  dsimp only
  sl_unfold_words
  simp only [View.readAt_eq_ld, Memref.IsWhole.read_unread, View.ld_unit_zero (S := S1x512x1024) zero3, View.ld_unit_zero (S := S1x1024) zero2]
  refine (read_head VS0_0 _ _ _ _ r d).trans ?_
  unfold k0_pay1
  rw [shapeCast_self]
  rw [read_buffer]
  exact View.ld_unit_apply_of _ _ _ _ _ _ fun a => by fin_cases a <;> simp

theorem zeros_apply (n : Fin 544) (d : Fin 512) : (k0_pay3 : FVec F S544x512 .f32) (ix2 n d) = FloatOps.ofBits .f32 0x00000000#32 := by
  unfold k0_pay3
  rw [shapeCast_self]
  rfl

/-- The buffer after zeros are stored. -/
theorem read_zero {sig : RefSig} {κ : Kind} {sp : Space} (v : View sig κ sp S544x512 .f32) (f : v.ty.Contents (Elt F)) (n : Fin 544) (d : Fin 512) :
    v.read (Elt F) (v.writes (Elt F) f [⟨Rect.unit ![0, 0] S544x512.size inb_S544x512_S544x512_0_0, k0_pay3⟩]) (ix2 n d) = FloatOps.ofBits .f32 0x00000000#32 :=
  (View.read_writes_cons_rows_of_mem (o := 0) v f _ _ _ _ (ix2 n d) rfl (by show n.val = 0 + n.val; omega) rfl).trans (zeros_apply n d)

/-- … or after zeros. -/
theorem head_first (c : Dev nD) (t : Fin cfg0.N) (h0 : t.val % 17 = 0) (r : Fin 32) (d : Fin 512) :
    (outsAt0 m c t.val t.isLt).2.2.2.2 (ix2 ⟨r.val, by omega⟩ d) = FloatOps.ofBits .f32 0x00000000#32 := by
  rw [outsAt0_A m c t h0]
  dsimp only
  unfold sout0_A_0
  unfold kernelRun0_A
  dsimp only
  sl_unfold_words
  simp only [View.readAt_eq_ld, Memref.IsWhole.read_unread, View.ld_unit_zero (S := S1x512x1024) zero3, View.ld_unit_zero (S := S1x1024) zero2]
  refine (read_head VS0_0 _ _ _ _ r d).trans ?_
  unfold k0_pay1
  rw [shapeCast_self]
  simp only [View.readCov, View.readAt_eq_ld]
  refine (View.ld_unit_apply_of _ _ _ _ _ (ix2 ⟨512 + r.val, by omega⟩ d) fun a => by fin_cases a <;> simp).trans ?_
  exact read_zero (View.whole cc0_scratch0) _ ⟨512 + r.val, by omega⟩ d

end Cert.Proof.Mix

end
-- ==== Proof.Mix.Spec.lean ====
module

public import proofs.«01_k».proof.Proof.Out.Spec

@[expose] public section

noncomputable section

namespace Cert.Proof.Mix

open Idealize.ShloMosaic

/-! ## A layer up to its mixers' inputs, row by row -/

/-- A layer's arrays, at their entries. -/
structure Layer where
  x : Fin 8 → Fin 8192 → Fin 1024 → EReal
  g : Fin 1024 → EReal
  w : Fin 1024 → Fin 2560 → EReal
  qg : Fin 64 → EReal
  kg : Fin 64 → EReal
  dw : ℕ → Fin 512 → EReal
  db : Fin 512 → EReal
  lg : Fin 512 → EReal
  lb : Fin 512 → EReal

/-- The sum of the squares of a head's columns, for the head that a column is in. -/
def headSum (t : Fin 512 → EReal) (c : Fin 512) : EReal :=
  ∑ i : Fin 64, t ⟨64 * (c.val / 64) + i.val, by omega⟩ * t ⟨64 * (c.val / 64) + i.val, by omega⟩

/-- A row normalised head by head and scaled. -/
def headed (t : Fin 512 → EReal) (g : Fin 64 → EReal) (c : Fin 512) : EReal :=
  t c * Ideal.rsqrt (Ideal.div (headSum t c) (Ideal.ofBits .f32 0x42800000#32) + Ideal.ofBits .f32 0x358637BD#32) * g ⟨c.val % 64, by omega⟩

/-- Thirty-one numbers added to another, one after the other. -/
def taps (b : EReal) (t : ℕ → EReal) : EReal :=
  b + t 0 + t 1 + t 2 + t 3 + t 4 + t 5 + t 6 + t 7 + t 8 + t 9 + t 10 + t 11 + t 12 + t 13 + t 14 + t 15 + t 16 + t 17 + t 18 + t 19 + t 20 + t 21 + t 22 + t 23 + t 24 + t 25 + t 26 + t 27 + t 28 + t 29 + t 30

theorem taps_congr {b b' : EReal} {t t' : ℕ → EReal} (hb : b = b') (h : ∀ k, k < 31 → t k = t' k) : taps b t = taps b' t' := by
  unfold taps
  rw [hb, h 0 (by decide), h 1 (by decide), h 2 (by decide), h 3 (by decide), h 4 (by decide), h 5 (by decide), h 6 (by decide), h 7 (by decide), h 8 (by decide), h 9 (by decide), h 10 (by decide), h 11 (by decide), h 12 (by decide), h 13 (by decide), h 14 (by decide), h 15 (by decide), h 16 (by decide), h 17 (by decide), h 18 (by decide), h 19 (by decide), h 20 (by decide), h 21 (by decide), h 22 (by decide), h 23 (by decide), h 24 (by decide), h 25 (by decide), h 26 (by decide), h 27 (by decide), h 28 (by decide), h 29 (by decide), h 30 (by decide)]

/-- A row less its mean. -/
def centred (c : Fin 512 → EReal) (f : Fin 512) : EReal := c f - Ideal.div (∑ j, c j) (Ideal.ofBits .f32 0x44000000#32)

/-- A row's layer norm. -/
def standard (c lg lb : Fin 512 → EReal) (f : Fin 512) : EReal :=
  centred c f * Ideal.rsqrt (Ideal.div (∑ j, centred c j * centred c j) (Ideal.ofBits .f32 0x44000000#32) + Ideal.ofBits .f32 0x358637BD#32) * lg f + lb f

/-- A number times its logistic. -/
def swish (y : EReal) : EReal := y * Ideal.logistic y

namespace Layer

variable (A : Layer) (b : Fin 8)

/-- The projection of the normalised row. -/
def proj (s : Fin 8192) (c : Fin 2560) : EReal := ∑ j, Out.normed (A.x b s) A.g j * A.w j c

/-- The queries, the keys and the values. -/
def q (s : Fin 8192) (c : Fin 512) : EReal := headed (fun c => A.proj b s ⟨c.val, by omega⟩) A.qg c
def k (s : Fin 8192) (c : Fin 512) : EReal := headed (fun c => A.proj b s ⟨512 + c.val, by omega⟩) A.kg c
def v (s : Fin 8192) (c : Fin 512) : EReal := A.proj b s ⟨1024 + c.val, by omega⟩

/-- The gated linear unit before the convolution. -/
def gated (s : Fin 8192) (f : Fin 512) : EReal := A.proj b s ⟨1536 + f.val, by omega⟩ * Ideal.logistic (A.proj b s ⟨2048 + f.val, by omega⟩)

/-- The unit `k` rows earlier: zero before the first row. -/
def before (s : Fin 8192) (k : ℕ) (f : Fin 512) : EReal := if k ≤ s.val then A.gated b ⟨s.val - k, by omega⟩ f else 0

/-- The unit convolved with the thirty rows before it. -/
def conv (s : Fin 8192) (f : Fin 512) : EReal := taps (A.db f) fun k => A.dw k f * A.before b s (30 - k) f

/-- The convolution's output. -/
def mix (s : Fin 8192) (f : Fin 512) : EReal := swish (standard (A.conv b s) A.lg A.lb f)

end Layer

end Cert.Proof.Mix

end
-- ==== Proof.Mix.Entry.lean ====
module

public import proofs.«01_k».proof.Proof.Mix.Block
public import proofs.«01_k».proof.Proof.Mix.Spec

@[expose] public section

set_option maxRecDepth 16384
set_option pp.maxSteps 6000
set_option pp.deepTerms false
set_option pp.deepTerms.threshold 9

noncomputable section

namespace Cert.Proof.Mix

open Idealize.ShloMosaic Cert.Kernel3Ideal
open Cert.Kernel3Ideal.Gen Idealize.ShloMosaic.TcCoe

/-! ## A sum over a head's columns -/

theorem sum_mul_real (c : ℝ) (hc : 0 ≤ c) {n : ℕ} (x : Fin n → EReal) : ∑ i, x i * (c : EReal) = (∑ i, x i) * (c : EReal) := by
  induction n with
  | zero => simp
  | succ n ih =>
    rw [Fin.sum_univ_castSucc, Fin.sum_univ_castSucc, ih fun i => x i.castSucc, mul_comm (x _), mul_comm (∑ i : Fin n, x i.castSucc), mul_comm (_ + _),
      EReal.left_distrib_of_nonneg_of_ne_top (by exact_mod_cast hc) (EReal.coe_ne_top c)]

/-- One over sixty-four, and sixty-four. -/
theorem ofBits_64th : Ideal.ofBits .f32 0x3C800000#32 = (((64 : ℝ)⁻¹ : ℝ) : EReal) := by
  simp [Ideal.ofBits, Ideal.ieee, -EReal.coe_mul]
  norm_num
theorem ofBits_64 : Ideal.ofBits .f32 0x42800000#32 = ((64 : ℝ) : EReal) := by
  simp [Ideal.ofBits, Ideal.ieee, -EReal.coe_mul]
  norm_num

/-- Weighing a row's columns by one over sixty-four on a head and by zero elsewhere takes the head's mean. -/
theorem head_mean (x : Fin 512 → EReal) (c : Fin 512) :
    ∑ l : Fin 512, x l * (if l.val / 64 = c.val / 64 then Ideal.ofBits .f32 0x3C800000#32 else 0)
      = Ideal.div (∑ i : Fin 64, x ⟨64 * (c.val / 64) + i.val, by omega⟩) (Ideal.ofBits .f32 0x42800000#32) := by
  rw [ofBits_64th, ofBits_64, ← Equiv.sum_comp (finProdFinEquiv (m := 8) (n := 64)), Fintype.sum_prod_type,
    Finset.sum_eq_single (⟨c.val / 64, by omega⟩ : Fin 8)]
  · rw [Ideal.div, if_neg (by exact_mod_cast (by norm_num : (64 : ℝ) ≠ 0)), ← EReal.coe_inv, ← sum_mul_real _ (by norm_num)]
    refine Finset.sum_congr rfl fun i _ => ?_
    have e : (finProdFinEquiv ((⟨c.val / 64, by omega⟩ : Fin 8), i) : Fin (8 * 64)) = (⟨64 * (c.val / 64) + i.val, by omega⟩ : Fin 512) :=
      Fin.ext (by simp [finProdFinEquiv]; omega)
    rw [e, if_pos (by show (64 * (c.val / 64) + i.val) / 64 = _; omega)]
  · intro a _ ha
    refine Finset.sum_eq_zero fun i _ => ?_
    rw [if_neg, mul_zero]
    intro h
    refine ha (Fin.ext ?_)
    have : (finProdFinEquiv (a, i)).val = i.val + 64 * a.val := rfl
    have := i.isLt
    show a.val = c.val / 64
    omega
  · intro h
    exact absurd (Finset.mem_univ _) h

/-! ## A grid point's blocks at their entries -/

/-- A block row's row. -/
def row (i : Fin 16) (r : Fin 512) : Fin 8192 := ⟨512 * i.val + r.val, by omega⟩

/-- The buffer's entry in a row. -/
def rowOf (C : Vec Ideal S544x512 .f32) (n : ℕ) (d : Fin 512) : EReal := if h : n < 544 then C (ix2 ⟨n, h⟩ d) else 0
theorem rowOf_eq (C : Vec Ideal S544x512 .f32) (n : Fin 544) (d : Fin 512) : rowOf C n.val d = C (ix2 n d) := dif_pos n.isLt

/-- A tap's weight. -/
def weightOf (x6 : Vec Ideal S31x512 .f32) (k : ℕ) (d : Fin 512) : EReal := if h : k < 31 then x6 (ix2 ⟨k, h⟩ d) else 0

theorem weightOf_eq (x6 : Vec Ideal S31x512 .f32) (k : Fin 31) (d : Fin 512) : weightOf x6 k.val d = x6 (ix2 k d) := dif_pos k.isLt

theorem step_apply (w : Vec Ideal S1x512 .f32) (x acc : FVec Ideal S64x512 .f32) (r : Fin 64) (d : Fin 512) :
    step w x acc (ix2 r d) = acc (ix2 r d) + w (ix2 0 d) * x (ix2 r d) := by
  pointwise [step]
theorem bias_apply (x7 : Vec Ideal S1x512 .f32) (r : Fin 64) (d : Fin 512) : bias x7 (ix2 r d) = x7 (ix2 0 d) := by
  pointwise [bias]
theorem tap_apply (x6 : Vec Ideal S31x512 .f32) (k : ℕ) (h : k < 31) (d : Fin 512) : tap x6 k h (ix2 0 d) = weightOf x6 k d :=
  (View.ld_unit_apply_of x6 _ _ _ _ (ix2 ⟨k, h⟩ d) fun a => by fin_cases a <;> simp).trans (weightOf_eq x6 ⟨k, h⟩ d).symm
theorem here_apply (C : Vec Ideal S544x512 .f32) (o : ℕ) (h) (r : Fin 64) (d : Fin 512) : here C o h (ix2 r d) = rowOf C (o + r.val) d :=
  (View.ld_unit_apply_of C _ _ _ _ (ix2 ⟨o + r.val, by omega⟩ d) fun a => by fin_cases a <;> simp).trans (rowOf_eq C ⟨o + r.val, by omega⟩ d).symm
theorem there_apply (C : Vec Ideal S544x512 .f32) (a o : ℕ) (ha) (h) (r : Fin 64) (d : Fin 512) :
    there (shifted C) a o ha h (ix2 r d) = rowOf C (a + 1 + (o + r.val)) d := by
  unfold there
  have e : ∀ x : FVec Ideal S1x64x512 .f32, shapeCast S64x512 x shapeCasts_S1x64x512_S64x512 (ix2 r d) = x (ix3 0 r d) := fun x => by pointwise []
  refine (e _).trans ((View.ld_unit_apply_of (shifted C) _ _ _ _ (ix3 ⟨a, ha⟩ ⟨o + r.val, by omega⟩ d) fun a => by fin_cases a <;> simp).trans ?_)
  exact (rowOf_eq C ⟨a + 1 + (o + r.val), by omega⟩ d).symm

/-- The convolution at its entries. -/
theorem conv_apply (C : Vec Ideal S544x512 .f32) (x6 : Vec Ideal S31x512 .f32) (x7 : Vec Ideal S1x512 .f32) (r0 : ℕ) (h : r0 ≤ 448) (r : Fin 64) (d : Fin 512) :
    conv C (shifted C) x6 x7 r0 h (ix2 r d) = taps (x7 (ix2 0 d)) fun k => weightOf x6 k d * rowOf C (r0 + r.val + 2 + k) d := by
  unfold conv taps
  simp only [step_apply, bias_apply, tap_apply, here_apply, there_apply]
  iterate 31 refine congrArg₂ (· + ·) ?_ (congrArg (fun n => _ * rowOf C n d) (by omega))
  rfl

theorem lessMean_apply (a : FVec Ideal S64x512 .f32) (r : Fin 64) (d : Fin 512) : lessMean a (ix2 r d) = centred (fun j => a (ix2 r j)) d := by
  pointwise [lessMean]
  rfl
theorem layerNorm_apply (a : FVec Ideal S64x512 .f32) (x8 x9 : Vec Ideal S1x512 .f32) (r : Fin 64) (d : Fin 512) :
    layerNorm a x8 x9 (ix2 r d) = standard (fun j => a (ix2 r j)) (fun j => x8 (ix2 0 j)) (fun j => x9 (ix2 0 j)) d := by
  have e := lessMean_apply a r
  unfold layerNorm
  generalize lessMean a = l at *
  pointwise []
  simp only [e]
  rfl
theorem finish_apply (a : FVec Ideal S64x512 .f32) (x8 x9 : Vec Ideal S1x512 .f32) (r : Fin 64) (d : Fin 512) :
    finish a x8 x9 (ix3 0 r d) = swish (standard (fun j => a (ix2 r j)) (fun j => x8 (ix2 0 j)) (fun j => x9 (ix2 0 j)) d) := by
  rw [← layerNorm_apply a x8 x9 r d]
  unfold finish
  generalize layerNorm a x8 x9 = l
  pointwise []
  rfl

/-- A block's rows normalised head by head, from the heads' weights. -/
def headNorm (p : FVec Ideal S512x512 .f32) (x3 : Vec Ideal S512x512 .bf16) (x4 : Vec Ideal S1x512 .f32) : FVec Ideal S1x512x512 .bf16 :=
  shapeCast S1x512x512 (truncf .bf16 (mulf (mulf p (rsqrt (addf (matmul dot_S512x512_S512x512_S512x512_1_0_0_1_n_n none (truncf .bf16 (mulf p p) bitsLt_bf16_f32 : FVec Ideal S512x512 .bf16)
    (shapeCast S512x512 x3 shapeCasts_S512x512_S512x512 : FVec Ideal S512x512 .bf16) (constant S512x512 .f32 0x00000000#32)) (broadcast S512x512 (Scalar.ofBits .f32 0x358637BD#32 : Ideal .f32)))))
    (broadcastTo S512x512 (shapeCast S1x512 x4 shapeCasts_S1x512_S1x512 : FVec Ideal S1x512 .f32) broadcasts_S1x512_S512x512)) bitsLt_bf16_f32) shapeCasts_S512x512_S1x512x512

theorem headNorm_apply (p : FVec Ideal S512x512 .f32) (x3 : Vec Ideal S512x512 .bf16) (x4 : Vec Ideal S1x512 .f32) (r c : Fin 512) :
    headNorm p x3 x4 (ix3 0 r c) = p (ix2 r c) * Ideal.rsqrt (∑ l : Fin 512, p (ix2 r l) * p (ix2 r l) * x3 (ix2 l c) + Ideal.ofBits .f32 0x358637BD#32) * x4 (ix2 0 c) := by
  pointwise [headNorm]

theorem prod_apply (u : FVec Ideal S512x1024 .bf16) (w : Vec Ideal S1024x512 .bf16) (r c : Fin 512) : prod u w (ix2 r c) = ∑ j : Fin 1024, u (ix2 r j) * w (ix2 j c) := by
  pointwise [prod]

theorem cols0_apply (x : Vec Ideal S1024x2560 .bf16) (j : Fin 1024) (c : Fin 512) : cols0 x (ix2 j c) = x (ix2 j ⟨c.val, by omega⟩) :=
  View.ld_unit_apply_of x _ _ _ _ _ fun a => by fin_cases a <;> simp
theorem cols1_apply (x : Vec Ideal S1024x2560 .bf16) (j : Fin 1024) (c : Fin 512) : cols1 x (ix2 j c) = x (ix2 j ⟨512 + c.val, by omega⟩) :=
  View.ld_unit_apply_of x _ _ _ _ _ fun a => by fin_cases a <;> simp
theorem cols2_apply (x : Vec Ideal S1024x2560 .bf16) (j : Fin 1024) (c : Fin 512) : cols2 x (ix2 j c) = x (ix2 j ⟨1024 + c.val, by omega⟩) :=
  View.ld_unit_apply_of x _ _ _ _ _ fun a => by fin_cases a <;> simp
theorem cols3_apply (x : Vec Ideal S1024x2560 .bf16) (j : Fin 1024) (c : Fin 512) : cols3 x (ix2 j c) = x (ix2 j ⟨1536 + c.val, by omega⟩) :=
  View.ld_unit_apply_of x _ _ _ _ _ fun a => by fin_cases a <;> simp
theorem cols4_apply (x : Vec Ideal S1024x2560 .bf16) (j : Fin 1024) (c : Fin 512) : cols4 x (ix2 j c) = x (ix2 j ⟨2048 + c.val, by omega⟩) :=
  View.ld_unit_apply_of x _ _ _ _ _ fun a => by fin_cases a <;> simp

/-- The blocks of a layer at a grid point. -/
structure Blocks (A : Layer) (b : Fin 8) (i : Fin 16) (x0 : Vec Ideal S1x512x1024 .f32) (x1 : Vec Ideal S1x1024 .f32) (x2 : Vec Ideal S1024x2560 .bf16)
    (x3 : Vec Ideal S512x512 .bf16) (x4 x5 : Vec Ideal S1x512 .f32) (x6 : Vec Ideal S31x512 .f32) (x7 x8 x9 : Vec Ideal S1x512 .f32) : Prop where
  x : ∀ r j, x0 (ix3 0 r j) = A.x b (row i r) j
  g : ∀ j, x1 (ix2 0 j) = A.g j
  w : ∀ r j, x2 (ix2 r j) = A.w r j
  seg : ∀ l c, x3 (ix2 l c) = if l.val / 64 = c.val / 64 then Ideal.ofBits .f32 0x3C800000#32 else 0
  qg : ∀ c, x4 (ix2 0 c) = A.qg ⟨c.val % 64, by omega⟩
  kg : ∀ c, x5 (ix2 0 c) = A.kg ⟨c.val % 64, by omega⟩
  dw : ∀ k d, k < 31 → weightOf x6 k d = A.dw k d
  db : ∀ d, x7 (ix2 0 d) = A.db d
  lg : ∀ d, x8 (ix2 0 d) = A.lg d
  lb : ∀ d, x9 (ix2 0 d) = A.lb d

section Entries

variable {A : Layer} {b : Fin 8} {i : Fin 16} {x0 : Vec Ideal S1x512x1024 .f32} {x1 : Vec Ideal S1x1024 .f32} {x2 : Vec Ideal S1024x2560 .bf16}
    {x3 : Vec Ideal S512x512 .bf16} {x4 x5 : Vec Ideal S1x512 .f32} {x6 : Vec Ideal S31x512 .f32} {x7 x8 x9 : Vec Ideal S1x512 .f32}
    (B : Blocks A b i x0 x1 x2 x3 x4 x5 x6 x7 x8 x9)
include B

theorem mid_apply (r : Fin 512) (j : Fin 1024) : k0_pay11 x0 x1 (ix2 r j) = Out.normed (A.x b (row i r)) A.g j := by
  have e : k0_pay11 x0 x1 (ix2 r j) = Out.normed (fun j => x0 (ix3 0 r j)) (fun j => x1 (ix2 0 j)) j := by
    pointwise [k0_pay11]
    rfl
  rw [e]
  exact congrArg₂ (Out.normed · · j) (funext (B.x r)) (funext B.g)

theorem q_apply (r c : Fin 512) : k0_pay35 (k0_pay11 x0 x1) (cols0 x2) x3 x4 (ix3 0 r c) = A.q b (row i r) c := by
  refine (headNorm_apply (prod (k0_pay11 x0 x1) (cols0 x2)) x3 x4 r c).trans ?_
  simp only [prod_apply, mid_apply B, cols0_apply, B.w, B.seg, B.qg, head_mean]
  rfl

theorem k_apply (r c : Fin 512) : k0_pay35 (k0_pay11 x0 x1) (cols1 x2) x3 x5 (ix3 0 r c) = A.k b (row i r) c := by
  refine (headNorm_apply (prod (k0_pay11 x0 x1) (cols1 x2)) x3 x5 r c).trans ?_
  simp only [prod_apply, mid_apply B, cols1_apply, B.w, B.seg, B.kg, head_mean]
  rfl

theorem v_apply (r c : Fin 512) : k0_pay79 (k0_pay11 x0 x1) (cols2 x2) (ix3 0 r c) = A.v b (row i r) c := by
  have e : ∀ u : FVec Ideal S512x1024 .bf16, ∀ w : Vec Ideal S1024x512 .bf16, k0_pay79 u w (ix3 0 r c) = ∑ j : Fin 1024, u (ix2 r j) * w (ix2 j c) := fun u w => by
    pointwise [k0_pay79]
  rw [e]
  simp only [mid_apply B, cols2_apply, B.w]
  rfl

theorem unit_apply (r c : Fin 512) : unitOf x0 x1 x2 (ix2 r c) = A.gated b (row i r) c := by
  have e : ∀ (u : FVec Ideal S512x1024 .bf16) (p : FVec Ideal S512x512 .f32) (w : Vec Ideal S1024x512 .bf16),
      k0_pay2 u p w (ix2 r c) = p (ix2 r c) * Ideal.logistic (∑ j : Fin 1024, u (ix2 r j) * w (ix2 j c)) := fun u p w => by
    pointwise [k0_pay2]
  unfold unitOf
  rw [e]
  simp only [prod_apply, mid_apply B, cols3_apply, cols4_apply, B.w]
  rfl

/-- The convolution's output of sixty-four rows, from what the buffer holds. -/
theorem mix_apply {C : Vec Ideal S544x512 .f32} {s : Fin 8192} {r0 : ℕ} (h : r0 ≤ 448) (r : Fin 64)
    (hC : ∀ k d, k < 31 → rowOf C (r0 + r.val + 2 + k) d = A.before b s (30 - k) d) (d : Fin 512) :
    finish (conv C (shifted C) x6 x7 r0 h) x8 x9 (ix3 0 r d) = A.mix b s d := by
  rw [finish_apply]
  refine congrArg swish (congr (congr (congrArg₂ standard (funext fun j => ?_) (funext B.lg)) (funext B.lb)) rfl)
  rw [conv_apply]
  exact taps_congr (B.db j) fun k hk => by rw [B.dw k j hk, hC k j hk]

end Entries

end Cert.Proof.Mix

end
-- ==== Proof.Mix.Host.lean ====
module

public import proofs.«01_k».proof.Proof.Mix.Entry
public import Idealize.ShloMosaic.Lib.StableHlo.Run

@[expose] public section

set_option maxRecDepth 16384

noncomputable section

namespace Cert.Proof.Mix

open Cert.Kernel3Ideal Cert.Kernel3Ideal.Gen
open Idealize.ShloMosaic Idealize.ShloMosaic.TcCoe

variable (m : (ℓ : Loc nD τ sig) → Buf (Elt Ideal) ℓ) (c : Dev nD)

/-! ## The kernel's arguments as a layer's arrays -/

/-- The arrays that the kernel's program is called with. -/
def layerOf : Layer where
  x b s j := (m ((c : Thread nD τ).loc main_arg0) : Vec Ideal S8x8192x1024 .f32) (ix3 b s j)
  g j := (m ((c : Thread nD τ).loc main_arg1) : Vec Ideal S1024 .f32) (ix1 j)
  w i j := (m ((c : Thread nD τ).loc main_arg2) : Vec Ideal S1024x2560 .f32) (ix2 i j)
  qg j := (m ((c : Thread nD τ).loc main_arg3) : Vec Ideal S64 .f32) (ix1 j)
  kg j := (m ((c : Thread nD τ).loc main_arg4) : Vec Ideal S64 .f32) (ix1 j)
  dw k f := weightOf (m ((c : Thread nD τ).loc main_arg5) : Vec Ideal S31x512 .f32) k f
  db j := (m ((c : Thread nD τ).loc main_arg6) : Vec Ideal S512 .f32) (ix1 j)
  lg j := (m ((c : Thread nD τ).loc main_arg7) : Vec Ideal S512 .f32) (ix1 j)
  lb j := (m ((c : Thread nD τ).loc main_arg8) : Vec Ideal S512 .f32) (ix1 j)

/-! ## The arrays as the host leaves them -/

theorem row_1024 (v : S1024.Idx → EReal) (h) (j : Fin 1024) : shapeCast S1x1024 v h (ix2 0 j) = v (ix1 j) := by pointwise []
theorem row_512 (v : S512.Idx → EReal) (h) (j : Fin 512) : shapeCast S1x512 v h (ix2 0 j) = v (ix1 j) := by pointwise []

/-- The row-by-row quotient of an index by the length of a head, rounded down. -/
def headOf : IVec S512x512 32 :=
  let i : IVec S512x512 32 := iotaInDim S512x512 32 0
  let n : IVec S_ 32 := constantI S_ 32 64#32
  let q := Host.divsi i (broadcastInDim S512x512 ![] bcast_S_S512x512 n)
  select (andi (cmpi .ne (signi i) (broadcastInDim S512x512 ![] bcast_S_S512x512 (signi n)))
      (cmpi .ne (Host.remsi i (broadcastInDim S512x512 ![] bcast_S_S512x512 n)) (broadcastInDim S512x512 ![] bcast_S_S512x512 (constantI S_ 32 0#32))))
    (subi q (broadcastInDim S512x512 ![] bcast_S_S512x512 (constantI S_ 32 1#32))) q

/-- The weights of the heads' means. -/
def means : Vec Ideal S512x512 .bf16 :=
  truncf .bf16 (select (cmpi .eq headOf (transpose S512x512 [1, 0] headOf transposes_S512x512_S512x512_1_0))
    (broadcastInDim S512x512 ![] bcast_S_S512x512 (constant (F := Ideal) S_ .f32 0x3C800000#32))
    (broadcastInDim S512x512 ![] bcast_S_S512x512 (constant (F := Ideal) S_ .f32 0x00000000#32))) bitsLt_bf16_f32

theorem headOf_apply (l j : Fin 512) : headOf (ix2 l j) = BitVec.ofNat 32 (l.val / 64) := by
  have h : ∀ l : Fin 512, headOf (ix2 l 0) = BitVec.ofNat 32 (l.val / 64) := by decide +kernel
  exact (rfl : headOf (ix2 l j) = headOf (ix2 l 0)).trans (h l)

theorem means_apply (l j : Fin 512) : means (ix2 l j) = if l.val / 64 = j.val / 64 then Ideal.ofBits .f32 0x3C800000#32 else 0 := by
  have e : means (ix2 l j) = if headOf (ix2 l j) = headOf (ix2 j l) then Ideal.ofBits .f32 0x3C800000#32 else 0 := by
    unfold means
    generalize headOf = H
    pointwise []
    by_cases h : H (ix2 l j) = H (ix2 j l)
    · simp [Scalar.select, IntOp.cmpi, h]
    · simp [Scalar.select, IntOp.cmpi, beq_eq_false_iff_ne.mpr h, h]
  rw [e, headOf_apply, headOf_apply]
  have hl := l.isLt
  have hj := j.isLt
  refine if_congr ⟨fun h => ?_, fun h => by rw [h]⟩ rfl rfl
  have h' := congrArg BitVec.toNat h
  simp only [BitVec.toNat_ofNat] at h'
  omega

theorem V_arg0 (b : Fin 8) (s : Fin 8192) (j : Fin 1024) : (V m c main_arg0 : Vec Ideal S8x8192x1024 .f32) (ix3 b s j) = (layerOf m c).x b s j := by
  show (StableHlo.after (List.flatten [hostOps0, hostOps0_1, hostOps0_2, hostOps0_3, hostOps0_4]) (fun b => m (c, b)) main_arg0 : Vec Ideal S8x8192x1024 .f32) (ix3 b s j) = _
  simp only [hostOps0, hostOps0_1, hostOps0_2, hostOps0_3, hostOps0_4, List.flatten_cons, List.flatten_nil, List.append_nil, List.cons_append, List.nil_append]
  after_results_simp
  rfl

theorem V_v14 (j : Fin 1024) : (V m c main_v14 : Vec Ideal S1x1024 .f32) (ix2 0 j) = (layerOf m c).g j := by
  show (StableHlo.after (List.flatten [hostOps0, hostOps0_1, hostOps0_2, hostOps0_3, hostOps0_4]) (fun b => m (c, b)) main_v14 : Vec Ideal S1x1024 .f32) (ix2 0 j) = _
  simp only [hostOps0, hostOps0_1, hostOps0_2, hostOps0_3, hostOps0_4, List.flatten_cons, List.flatten_nil, List.append_nil, List.cons_append, List.nil_append]
  after_results_simp
  exact row_1024 _ _ j

theorem V_v15 (i : Fin 1024) (j : Fin 2560) : (V m c main_v15 : Vec Ideal S1024x2560 .bf16) (ix2 i j) = (layerOf m c).w i j := by
  show (StableHlo.after (List.flatten [hostOps0, hostOps0_1, hostOps0_2, hostOps0_3, hostOps0_4]) (fun b => m (c, b)) main_v15 : Vec Ideal S1024x2560 .bf16) (ix2 i j) = _
  simp only [hostOps0, hostOps0_1, hostOps0_2, hostOps0_3, hostOps0_4, List.flatten_cons, List.flatten_nil, List.append_nil, List.cons_append, List.nil_append]
  after_results_simp
  rfl

theorem V_v5 : (V m c main_v5 : Vec Ideal S512x512 .bf16) = means := by
  show (StableHlo.after (List.flatten [hostOps0, hostOps0_1, hostOps0_2, hostOps0_3, hostOps0_4]) (fun b => m (c, b)) main_v5 : Vec Ideal S512x512 .bf16) = _
  simp only [hostOps0, hostOps0_1, hostOps0_2, hostOps0_3, hostOps0_4, List.flatten_cons, List.flatten_nil, List.append_nil, List.cons_append, List.nil_append]
  after_results_simp
  rfl

theorem V_v9 (j : Fin 512) : (V m c main_v9 : Vec Ideal S1x512 .f32) (ix2 0 j) = (layerOf m c).qg ⟨j.val % 64, by omega⟩ := by
  show (StableHlo.after (List.flatten [hostOps0, hostOps0_1, hostOps0_2, hostOps0_3, hostOps0_4]) (fun b => m (c, b)) main_v9 : Vec Ideal S1x512 .f32) (ix2 0 j) = _
  simp only [hostOps0, hostOps0_1, hostOps0_2, hostOps0_3, hostOps0_4, List.flatten_cons, List.flatten_nil, List.append_nil, List.cons_append, List.nil_append]
  after_results_simp
  pointwise []
  rfl

theorem V_v13 (j : Fin 512) : (V m c main_v13 : Vec Ideal S1x512 .f32) (ix2 0 j) = (layerOf m c).kg ⟨j.val % 64, by omega⟩ := by
  show (StableHlo.after (List.flatten [hostOps0, hostOps0_1, hostOps0_2, hostOps0_3, hostOps0_4]) (fun b => m (c, b)) main_v13 : Vec Ideal S1x512 .f32) (ix2 0 j) = _
  simp only [hostOps0, hostOps0_1, hostOps0_2, hostOps0_3, hostOps0_4, List.flatten_cons, List.flatten_nil, List.append_nil, List.cons_append, List.nil_append]
  after_results_simp
  pointwise []
  rfl

theorem V_arg5 : (V m c main_arg5 : Vec Ideal S31x512 .f32) = (m ((c : Thread nD τ).loc main_arg5) : Vec Ideal S31x512 .f32) := by
  show (StableHlo.after (List.flatten [hostOps0, hostOps0_1, hostOps0_2, hostOps0_3, hostOps0_4]) (fun b => m (c, b)) main_arg5 : Vec Ideal S31x512 .f32) = _
  simp only [hostOps0, hostOps0_1, hostOps0_2, hostOps0_3, hostOps0_4, List.flatten_cons, List.flatten_nil, List.append_nil, List.cons_append, List.nil_append]
  after_results_simp

theorem V_v16 (j : Fin 512) : (V m c main_v16 : Vec Ideal S1x512 .f32) (ix2 0 j) = (layerOf m c).db j := by
  show (StableHlo.after (List.flatten [hostOps0, hostOps0_1, hostOps0_2, hostOps0_3, hostOps0_4]) (fun b => m (c, b)) main_v16 : Vec Ideal S1x512 .f32) (ix2 0 j) = _
  simp only [hostOps0, hostOps0_1, hostOps0_2, hostOps0_3, hostOps0_4, List.flatten_cons, List.flatten_nil, List.append_nil, List.cons_append, List.nil_append]
  after_results_simp
  exact row_512 _ _ j

theorem V_v17 (j : Fin 512) : (V m c main_v17 : Vec Ideal S1x512 .f32) (ix2 0 j) = (layerOf m c).lg j := by
  show (StableHlo.after (List.flatten [hostOps0, hostOps0_1, hostOps0_2, hostOps0_3, hostOps0_4]) (fun b => m (c, b)) main_v17 : Vec Ideal S1x512 .f32) (ix2 0 j) = _
  simp only [hostOps0, hostOps0_1, hostOps0_2, hostOps0_3, hostOps0_4, List.flatten_cons, List.flatten_nil, List.append_nil, List.cons_append, List.nil_append]
  after_results_simp
  exact row_512 _ _ j

theorem V_v18 (j : Fin 512) : (V m c main_v18 : Vec Ideal S1x512 .f32) (ix2 0 j) = (layerOf m c).lb j := by
  show (StableHlo.after (List.flatten [hostOps0, hostOps0_1, hostOps0_2, hostOps0_3, hostOps0_4]) (fun b => m (c, b)) main_v18 : Vec Ideal S1x512 .f32) (ix2 0 j) = _
  simp only [hostOps0, hostOps0_1, hostOps0_2, hostOps0_3, hostOps0_4, List.flatten_cons, List.flatten_nil, List.append_nil, List.cons_append, List.nil_append]
  after_results_simp
  exact row_512 _ _ j

end Cert.Proof.Mix

end
-- ==== Proof.Mix.Array.lean ====
module

public import proofs.«01_k».proof.Proof.Mix.Host

@[expose] public section

set_option maxRecDepth 16384

noncomputable section

namespace Cert.Proof.Mix

open Cert.Kernel3Ideal Cert.Kernel3Ideal.Gen
open Idealize.ShloMosaic Idealize.ShloMosaic.TcCoe

variable (m : (ℓ : Loc nD τ sig) → Buf (Elt Ideal) ℓ) (c : Dev nD)

/-! ## The blocks the grid points stage

A sequence has seventeen points. The first sixteen project a block of rows each; from the second on, each point convolves the block before its own. -/

theorem point_lt (t : Fin cfg0.N) : t.val < 136 := t.isLt

/-- A grid point's sequence and the block of rows it projects: the last point projects the last block again. -/
def seqOf (t : Fin cfg0.N) : Fin 8 := ⟨t.val / 17, by have := point_lt t; omega⟩
def blkOf (t : Fin cfg0.N) : Fin 16 := ⟨min (t.val % 17) 15, by omega⟩
/-- The block of rows whose convolution a grid point leaves. -/
def lastOf (t : Fin cfg0.N) : Fin 16 := ⟨t.val % 17 - 1, by omega⟩

theorem index0 : ∀ t : Fin cfg0.N, win0_0.index t = ![t.val / 17, min (t.val % 17) 15, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![t.val / 17, min (t.val % 17) 15, 0] := (by decide +kernel : ∀ t : Fin grid0.N, _)
theorem index11 : ∀ t : Fin cfg0.N, win0_11.index t = ![t.val / 17, min (t.val % 17) 15, 0] := (by decide +kernel : ∀ t : Fin grid0.N, _)
theorem index12 : ∀ t : Fin cfg0.N, win0_12.index t = ![t.val / 17, min (t.val % 17) 15, 0] := (by decide +kernel : ∀ t : Fin grid0.N, _)
theorem index13 : ∀ t : Fin cfg0.N, win0_13.index t = ![t.val / 17, t.val % 17 - 1, 0] := (by decide +kernel : ∀ t : Fin grid0.N, _)

theorem block0 (t : Fin cfg0.N) (r : Fin 512) (j : Fin 1024) : (iblk m c 0 t : Vec Ideal S1x512x1024 .f32) (ix3 0 r j) = (layerOf m c).x (seqOf t) (row (blkOf t) r) j := by
  rw [← V_arg0 m c]
  blk_simp [iblk]
  congr 1
  blk_ext [index0 t]
  · exact Nat.add_zero _
  · show _ = 512 * min (t.val % 17) 15 + r.val
    rw [mul_comm]

theorem block1 (t : Fin cfg0.N) (j : Fin 1024) : (iblk m c 1 t : Vec Ideal S1x1024 .f32) (ix2 0 j) = (layerOf m c).g j := by
  rw [← V_v14 m c]
  blk_simp [iblk]
  congr 1
  blk_ext [index1 t]

theorem block2 (t : Fin cfg0.N) (i : Fin 1024) (j : Fin 2560) : (iblk m c 2 t : Vec Ideal S1024x2560 .bf16) (ix2 i j) = (layerOf m c).w i j := by
  rw [← V_v15 m c]
  blk_simp [iblk]
  congr 1
  blk_ext [index2 t]

theorem block3 (t : Fin cfg0.N) (i : Fin 512) (j : Fin 512) : (iblk m c 3 t : Vec Ideal S512x512 .bf16) (ix2 i j) = means (ix2 i j) := by
  rw [← V_v5 m c]
  blk_simp [iblk]
  congr 1
  blk_ext [index3 t]

theorem block4 (t : Fin cfg0.N) (j : Fin 512) : (iblk m c 4 t : Vec Ideal S1x512 .f32) (ix2 0 j) = (layerOf m c).qg ⟨j.val % 64, by omega⟩ := by
  rw [← V_v9 m c]
  blk_simp [iblk]
  congr 1
  blk_ext [index4 t]

theorem block5 (t : Fin cfg0.N) (j : Fin 512) : (iblk m c 5 t : Vec Ideal S1x512 .f32) (ix2 0 j) = (layerOf m c).kg ⟨j.val % 64, by omega⟩ := by
  rw [← V_v13 m c]
  blk_simp [iblk]
  congr 1
  blk_ext [index5 t]

theorem block6 (t : Fin cfg0.N) (k : Fin 31) (j : Fin 512) : (iblk m c 6 t : Vec Ideal S31x512 .f32) (ix2 k j) = (m ((c : Thread nD τ).loc main_arg5) : Vec Ideal S31x512 .f32) (ix2 k j) := by
  rw [← V_arg5 m c]
  blk_simp [iblk]
  congr 1
  blk_ext [index6 t]

theorem block7 (t : Fin cfg0.N) (j : Fin 512) : (iblk m c 7 t : Vec Ideal S1x512 .f32) (ix2 0 j) = (layerOf m c).db j := by
  rw [← V_v16 m c]
  blk_simp [iblk]
  congr 1
  blk_ext [index7 t]

theorem block8 (t : Fin cfg0.N) (j : Fin 512) : (iblk m c 8 t : Vec Ideal S1x512 .f32) (ix2 0 j) = (layerOf m c).lg j := by
  rw [← V_v17 m c]
  blk_simp [iblk]
  congr 1
  blk_ext [index8 t]

theorem block9 (t : Fin cfg0.N) (j : Fin 512) : (iblk m c 9 t : Vec Ideal S1x512 .f32) (ix2 0 j) = (layerOf m c).lb j := by
  rw [← V_v18 m c]
  blk_simp [iblk]
  congr 1
  blk_ext [index9 t]

theorem taps_block (t : Fin cfg0.N) (k : ℕ) (d : Fin 512) (h : k < 31) : weightOf (iblk m c 6 t : Vec Ideal S31x512 .f32) k d = (layerOf m c).dw k d :=
  (weightOf_eq _ ⟨k, h⟩ d).trans ((block6 m c t ⟨k, h⟩ d).trans (weightOf_eq _ ⟨k, h⟩ d).symm)

/-- A grid point's blocks are its layer's. -/
theorem blocks (t : Fin cfg0.N) : Blocks (layerOf m c) (seqOf t) (blkOf t) (iblk m c 0 t) (iblk m c 1 t) (iblk m c 2 t) (iblk m c 3 t) (iblk m c 4 t)
    (iblk m c 5 t) (iblk m c 6 t) (iblk m c 7 t) (iblk m c 8 t) (iblk m c 9 t) :=
  ⟨block0 m c t, block1 m c t, block2 m c t, fun l j => (block3 m c t l j).trans (means_apply l j), block4 m c t, block5 m c t, taps_block m c t,
    block7 m c t, block8 m c t, block9 m c t⟩

/-! ## The convolution's rows -/

/-- What the buffer holds after a point: the point's units below the last thirty-two of the block before, zero before the first block. -/
theorem buffer_apply (t : Fin cfg0.N) (hs : t.val % 17 ≤ 15) (n : Fin 544) (d : Fin 512) :
    (outsAt0 m c t.val t.isLt).2.2.2.2 (ix2 n d)
      = if 32 ≤ 512 * (t.val % 17) + n.val then (layerOf m c).gated (seqOf t) ⟨512 * (t.val % 17) + n.val - 32, by omega⟩ d else 0 := by
  have ht := point_lt t
  by_cases hn : 32 ≤ n.val
  · rw [if_pos (by omega)]
    have e : (ix2 n d : S544x512.Idx) = ix2 ⟨32 + (⟨n.val - 32, by omega⟩ : Fin 512).val, by dsimp only; omega⟩ d :=
      congrArg (ix2 · d) (Fin.ext (by dsimp only; omega))
    rw [e]
    refine (unit_left m c t _ d).trans ((unit_apply (blocks m c t) _ d).trans ?_)
    refine congrArg (fun s => (layerOf m c).gated (seqOf t) s d) (Fin.ext ?_)
    show 512 * min (t.val % 17) 15 + (n.val - 32) = 512 * (t.val % 17) + n.val - 32
    omega
  · have e : n = ⟨(⟨n.val, by omega⟩ : Fin 32).val, by dsimp only; omega⟩ := Fin.ext rfl
    by_cases h0 : t.val % 17 = 0
    · rw [if_neg (by omega)]
      exact (head_first m c t h0 ⟨n.val, by omega⟩ d).trans Ideal.ofBits_zero_f32
    · rw [if_pos (by omega)]
      refine (head_next m c t h0 ⟨n.val, by omega⟩ d).trans ?_
      have e : (ix2 ⟨512 + n.val, by omega⟩ d : S544x512.Idx) = ix2 ⟨32 + (⟨480 + n.val, by omega⟩ : Fin 512).val, by dsimp only; omega⟩ d :=
        congrArg (ix2 · d) (Fin.ext (by dsimp only; omega))
      rw [e]
      refine (unit_left m c ⟨t.val - 1, by omega⟩ _ d).trans ((unit_apply (blocks m c _) _ d).trans ?_)
      refine congr (congr (congrArg (layerOf m c).gated (Fin.ext ?_)) (Fin.ext ?_)) rfl
      · show (t.val - 1) / 17 = t.val / 17
        omega
      · show 512 * min ((t.val - 1) % 17) 15 + (480 + n.val) = 512 * (t.val % 17) + n.val - 32
        omega

/-- A point's convolved rows, from the second point of a sequence on. -/
theorem mix_left (t : Fin cfg0.N) (h0 : ¬ t.val % 17 = 0) (r d : Fin 512) :
    (outsAt0 m c t.val t.isLt).2.2.2.1 (ix3 0 r d) = (layerOf m c).mix (seqOf t) (row (lastOf t) r) d := by
  have ht := point_lt t
  have e : (ix3 0 r d : S1x512x512.Idx) = ix3 0 ⟨64 * (⟨r.val / 64, by omega⟩ : Fin 8).val + (⟨r.val % 64, by omega⟩ : Fin 64).val, by dsimp only; omega⟩ d :=
    congrArg (ix3 0 · d) (Fin.ext (by dsimp only; omega))
  rw [e, mix_next m c t h0]
  refine mix_apply (blocks m c t) _ _ (fun k f hk => ?_) d
  have hn : 64 * (r.val / 64) + r.val % 64 + 2 + k < 544 := by omega
  refine (rowOf_eq _ ⟨64 * (r.val / 64) + r.val % 64 + 2 + k, hn⟩ f).trans ?_
  refine (buffer_apply m c ⟨t.val - 1, by omega⟩ (by dsimp only; omega) _ f).trans ?_
  unfold Layer.before
  have e1 : seqOf ⟨t.val - 1, by omega⟩ = seqOf t := Fin.ext (by show (t.val - 1) / 17 = t.val / 17; omega)
  have e2 : (row (lastOf t) r).val = 512 * (t.val % 17 - 1) + r.val := rfl
  rw [e1]
  by_cases hc : 30 - k ≤ (row (lastOf t) r).val
  · rw [if_pos hc, if_pos (by dsimp only; omega)]
    refine congrArg (fun s => (layerOf m c).gated (seqOf t) s f) (Fin.ext ?_)
    dsimp only
    omega
  · rw [if_neg hc, if_neg (by dsimp only; omega)]

/-! ## The kernel's result arrays -/

theorem block_idx (y : S1x512x512.Idx) : ∃ (r l : Fin 512), y = ix3 0 r l :=
  ⟨y 1, y 2, by funext a; fin_cases a <;> first | rfl | exact Subsingleton.elim (α := Fin 1) _ _⟩

theorem array_q : (dats m 0 c).arrAt 10 cfg0.N = (fun y => (layerOf m c).q (y 0) (y 1) (y 2) : Vec Ideal S8x8192x512 .bf16) := by
  refine (dats m 0 c).arrAt_eq_of_covers 10 _ (by decide +kernel) fun t hf y => ?_
  blk_simp
  rw [after0_10]
  obtain ⟨r, l, rfl⟩ := block_idx y
  refine (congrFun (q_left m c t) _).trans ((q_apply (blocks m c t) r l).trans ?_)
  symm
  refine congr (congr (congrArg (layerOf m c).q (Fin.ext ?_)) (Fin.ext ?_)) (Fin.ext ?_)
  · blk_simp [index10 t]
    exact Nat.add_zero _
  · blk_simp [index10 t]
    show _ = 512 * min (t.val % 17) 15 + r.val
    rw [mul_comm]
  · blk_simp [index10 t]

theorem array_k : (dats m 0 c).arrAt 11 cfg0.N = (fun y => (layerOf m c).k (y 0) (y 1) (y 2) : Vec Ideal S8x8192x512 .bf16) := by
  refine (dats m 0 c).arrAt_eq_of_covers 11 _ (by decide +kernel) fun t hf y => ?_
  blk_simp
  rw [after0_11]
  obtain ⟨r, l, rfl⟩ := block_idx y
  refine (congrFun (k_left m c t) _).trans ((k_apply (blocks m c t) r l).trans ?_)
  symm
  refine congr (congr (congrArg (layerOf m c).k (Fin.ext ?_)) (Fin.ext ?_)) (Fin.ext ?_)
  · blk_simp [index11 t]
    exact Nat.add_zero _
  · blk_simp [index11 t]
    show _ = 512 * min (t.val % 17) 15 + r.val
    rw [mul_comm]
  · blk_simp [index11 t]

theorem array_v : (dats m 0 c).arrAt 12 cfg0.N = (fun y => (layerOf m c).v (y 0) (y 1) (y 2) : Vec Ideal S8x8192x512 .bf16) := by
  refine (dats m 0 c).arrAt_eq_of_covers 12 _ (by decide +kernel) fun t hf y => ?_
  blk_simp
  rw [after0_12]
  obtain ⟨r, l, rfl⟩ := block_idx y
  refine (congrFun (v_left m c t) _).trans ((v_apply (blocks m c t) r l).trans ?_)
  symm
  refine congr (congr (congrArg (layerOf m c).v (Fin.ext ?_)) (Fin.ext ?_)) (Fin.ext ?_)
  · blk_simp [index12 t]
    exact Nat.add_zero _
  · blk_simp [index12 t]
    show _ = 512 * min (t.val % 17) 15 + r.val
    rw [mul_comm]
  · blk_simp [index12 t]

/-- No block of convolved rows is done at a sequence's first point. -/
theorem flush_mix : ∀ t : Fin cfg0.N, (cfg0.win 13).flush t = true → ¬ t.val % 17 = 0 := (by decide +kernel : ∀ t : Fin grid0.N, win0_13.flush t = true → ¬ t.val % 17 = 0)

theorem array_mix : (dats m 0 c).arrAt 13 cfg0.N = (fun y => (layerOf m c).mix (y 0) (y 1) (y 2) : Vec Ideal S8x8192x512 .bf16) := by
  refine (dats m 0 c).arrAt_eq_of_covers 13 _ (by decide +kernel) fun t hf y => ?_
  have h0 : ¬ t.val % 17 = 0 := flush_mix t hf
  blk_simp
  rw [after0_13]
  obtain ⟨r, l, rfl⟩ := block_idx y
  refine (mix_left m c t h0 r l).trans ?_
  symm
  refine congr (congr (congrArg (layerOf m c).mix (Fin.ext ?_)) (Fin.ext ?_)) (Fin.ext ?_)
  · blk_simp [index13 t]
    exact Nat.add_zero _
  · blk_simp [index13 t]
    show _ = 512 * (t.val % 17 - 1) + r.val
    rw [mul_comm]
  · blk_simp [index13 t]

end Cert.Proof.Mix

end
-- ==== Proof.Mix.Ref.lean ====
module

public import proofs.«01_k».proof.Proof.Gen.Reference3Ideal.Run
public import proofs.«01_k».proof.Proof.Mix.Entry

@[expose] public section

set_option maxRecDepth 16384

noncomputable section

namespace Cert.Proof.MixRef

open Cert.Reference3Ideal Cert.Reference3Ideal.Gen Cert.Proof.Mix
open Idealize.ShloMosaic Idealize.ShloMosaic.TcCoe

/-! ## The reference, stage by stage -/

/-- The rows normalised. -/
def norm (h : FVec Ideal S8x8192x1024 .f32) (g : FVec Ideal S1024 .f32) : FVec Ideal S8x8192x1024 .f32 :=
  mulf (mulf h (broadcastInDim S8x8192x1024 ![0, 1, 2] bcast_S8x8192x1_S8x8192x1024_0_1_2 (Host.rsqrt (addf
    (Host.divf (broadcastInDim S8x8192x1 ![0, 1] bcast_S8x8192_S8x8192x1_0_1 (Host.reduceAdd (mulf h h) (constant S_ .f32 0x00000000#32) reducesTo_S8x8192x1024_S8x8192_d2 h_S_))
      (broadcastInDim S8x8192x1 ![] bcast_S_S8x8192x1 (constant S_ .f32 0x44800000#32)))
    (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- The projection. -/
def proj (u : FVec Ideal S8x8192x1024 .f32) (w : FVec Ideal S1024x2560 .f32) : FVec Ideal S8x8192x2560 .f32 :=
  Host.dotGeneral dot_S8x8192x1024_S1024x2560_S8x8192x2560_2_0_01_1_n_n none u w

/-- The gated linear unit. -/
def unit (z : FVec Ideal S8x8192x2560 .f32) : FVec Ideal S8x8192x512 .f32 :=
  mulf (extractStridedSlice S8x8192x512 ![0, 0, 1536] z slices_S8x8192x2560_S8x8192x512_0_0_1536)
    (Host.divf (broadcastInDim S8x8192x512 ![] bcast_S_S8x8192x512 (constant S_ .f32 0x3F800000#32))
      (addf (broadcastInDim S8x8192x512 ![] bcast_S_S8x8192x512 (constant S_ .f32 0x3F800000#32))
        (Host.exp (Host.negf (extractStridedSlice S8x8192x512 ![0, 0, 2048] z slices_S8x8192x2560_S8x8192x512_0_0_2048)))))

/-- The unit after thirty rows of zeros. -/
def padded (g : FVec Ideal S8x8192x512 .f32) : FVec Ideal S8x8222x512 .f32 :=
  pad S8x8222x512 ![0, 30, 0] ![0, 0, 0] ![0, 0, 0] g (sitofp .f32 (constantI S_ 32 0#32)) pads_S8x8192x512_S8x8222x512_000_3000_000 h_S_

/-- A row's numbers, along every row. -/
def spread (w : FVec Ideal S512 .f32) : FVec Ideal S8x8192x512 .f32 :=
  broadcastInDim S8x8192x512 ![0, 1, 2] bcast_S1x1x512_S8x8192x512_0_1_2 (broadcastInDim S1x1x512 ![2] bcast_S512_S1x1x512_2 w)

theorem slices_taps (k : ℕ) (h : k < 31) : S31x512.Slices ![k, 0] S1x512 := by
  refine ⟨rfl, fun a => ?_⟩
  fin_cases a
  · show k + 1 ≤ 31
    omega
  · show 0 + 512 ≤ 512
    omega

theorem slices_rows (k : ℕ) (h : k < 31) : S8x8222x512.Slices ![0, k, 0] S8x8192x512 := by
  refine ⟨rfl, fun a => ?_⟩
  fin_cases a
  · show 0 + 8 ≤ 8
    omega
  · show k + 8192 ≤ 8222
    omega
  · show 0 + 512 ≤ 512
    omega

/-- A tap added. -/
def step (p : FVec Ideal S8x8222x512 .f32) (w : FVec Ideal S31x512 .f32) (k : ℕ) (h : k < 31) (acc : FVec Ideal S8x8192x512 .f32) : FVec Ideal S8x8192x512 .f32 :=
  addf acc (mulf (spread (shapeCast _ (extractStridedSlice S1x512 ![k, 0] w (slices_taps k h)) shapeCasts_S1x512_S512))
    (extractStridedSlice S8x8192x512 ![0, k, 0] p (slices_rows k h)))

/-- The convolution: the taps from the earliest row on, then the bias. -/
def conv (p : FVec Ideal S8x8222x512 .f32) (w : FVec Ideal S31x512 .f32) (b : FVec Ideal S512 .f32) : FVec Ideal S8x8192x512 .f32 :=
  addf (step p w 30 (by decide) (step p w 29 (by decide) (step p w 28 (by decide) (step p w 27 (by decide) (step p w 26 (by decide) (step p w 25 (by decide) (step p w 24 (by decide) (step p w 23 (by decide) (step p w 22 (by decide) (step p w 21 (by decide) (step p w 20 (by decide) (step p w 19 (by decide) (step p w 18 (by decide) (step p w 17 (by decide) (step p w 16 (by decide) (step p w 15 (by decide) (step p w 14 (by decide) (step p w 13 (by decide) (step p w 12 (by decide) (step p w 11 (by decide) (step p w 10 (by decide) (step p w 9 (by decide) (step p w 8 (by decide) (step p w 7 (by decide) (step p w 6 (by decide) (step p w 5 (by decide) (step p w 4 (by decide) (step p w 3 (by decide) (step p w 2 (by decide) (step p w 1 (by decide) (step p w 0 (by decide) (broadcastInDim S8x8192x512 ![] bcast_S_S8x8192x512 (constant S_ .f32 0x00000000#32))))))))))))))))))))))))))))))))) (spread b)

/-- The rows less their means. -/
def lessMean (t : FVec Ideal S8x8192x512 .f32) : FVec Ideal S8x8192x512 .f32 :=
  subf t (broadcastInDim S8x8192x512 ![0, 1, 2] bcast_S8x8192x1_S8x8192x512_0_1_2 (Host.divf
    (broadcastInDim S8x8192x1 ![0, 1] bcast_S8x8192_S8x8192x1_0_1 (Host.reduceAdd t (constant S_ .f32 0x00000000#32) reducesTo_S8x8192x512_S8x8192_d2 h_S_))
    (broadcastInDim S8x8192x1 ![] bcast_S_S8x8192x1 (constant S_ .f32 0x44000000#32))))

/-- The centred rows scaled and shifted. -/
def scaled (t : FVec Ideal S8x8192x512 .f32) (g b : FVec Ideal S512 .f32) : FVec Ideal S8x8192x512 .f32 :=
  addf (mulf (mulf t (broadcastInDim S8x8192x512 ![0, 1, 2] bcast_S8x8192x1_S8x8192x512_0_1_2 (Host.rsqrt (addf (Host.divf
    (broadcastInDim S8x8192x1 ![0, 1] bcast_S8x8192_S8x8192x1_0_1 (Host.reduceAdd (mulf t t) (constant S_ .f32 0x00000000#32) reducesTo_S8x8192x512_S8x8192_d2 h_S_))
    (broadcastInDim S8x8192x1 ![] bcast_S_S8x8192x1 (constant S_ .f32 0x44000000#32)))
    (broadcastInDim S8x8192x1 ![] bcast_S_S8x8192x1 (constant S_ .f32 0x358637BD#32)))))) (spread g)) (spread b)

/-- The rows times their logistics. -/
def act (y : FVec Ideal S8x8192x512 .f32) : FVec Ideal S8x8192x512 .bf16 :=
  truncf .bf16 (mulf y (Host.divf (broadcastInDim S8x8192x512 ![] bcast_S_S8x8192x512 (constant S_ .f32 0x3F800000#32))
    (addf (broadcastInDim S8x8192x512 ![] bcast_S_S8x8192x512 (constant S_ .f32 0x3F800000#32)) (Host.exp (Host.negf y))))) bitsLt_bf16_f32

/-- The rows head by head, and the heads normalised. -/
def heads (t : FVec Ideal S8x8192x512 .f32) : FVec Ideal S8x8192x8x64 .f32 := shapeCast _ t shapeCasts_S8x8192x512_S8x8192x8x64
def headNorm (t : FVec Ideal S8x8192x8x64 .f32) (g : FVec Ideal S64 .f32) : FVec Ideal S8x8192x8x64 .f32 :=
  mulf (mulf t (broadcastInDim S8x8192x8x64 ![0, 1, 2, 3] bcast_S8x8192x8x1_S8x8192x8x64_0_1_2_3 (Host.rsqrt (addf (Host.divf
    (broadcastInDim S8x8192x8x1 ![0, 1, 2] bcast_S8x8192x8_S8x8192x8x1_0_1_2 (Host.reduceAdd (mulf t t) (constant S_ .f32 0x00000000#32) reducesTo_S8x8192x8x64_S8x8192x8_d3 h_S_))
    (broadcastInDim S8x8192x8x1 ![] bcast_S_S8x8192x8x1 (constant S_ .f32 0x42800000#32)))
    (broadcastInDim S8x8192x8x1 ![] bcast_S_S8x8192x8x1 (constant S_ .f32 0x358637BD#32))))))
    (broadcastInDim S8x8192x8x64 ![0, 1, 2, 3] bcast_S1x1x1x64_S8x8192x8x64_0_1_2_3 (broadcastInDim S1x1x1x64 ![3] bcast_S64_S1x1x1x64_3 g))
def unheads (t : FVec Ideal S8x8192x8x64 .f32) : FVec Ideal S8x8192x512 .bf16 :=
  truncf .bf16 (shapeCast _ t shapeCasts_S8x8192x8x64_S8x8192x512) bitsLt_bf16_f32

/-- The projection's first, second and third five hundred and twelve columns. -/
def colsQ (z : FVec Ideal S8x8192x2560 .f32) : FVec Ideal S8x8192x512 .f32 := extractStridedSlice S8x8192x512 ![0, 0, 0] z slices_S8x8192x2560_S8x8192x512_0_0_0
def colsK (z : FVec Ideal S8x8192x2560 .f32) : FVec Ideal S8x8192x512 .f32 := extractStridedSlice S8x8192x512 ![0, 0, 512] z slices_S8x8192x2560_S8x8192x512_0_0_512
def colsV (z : FVec Ideal S8x8192x2560 .f32) : FVec Ideal S8x8192x512 .f32 := extractStridedSlice S8x8192x512 ![0, 0, 1024] z slices_S8x8192x2560_S8x8192x512_0_0_1024

/-- The reference's results. -/
def resQ (x : FVec Ideal S8x8192x1024 .f32) (g : FVec Ideal S1024 .f32) (w : FVec Ideal S1024x2560 .f32) (qg : FVec Ideal S64 .f32) : FVec Ideal S8x8192x512 .bf16 :=
  unheads (headNorm (heads (colsQ (proj (norm x g) w))) qg)
def resK (x : FVec Ideal S8x8192x1024 .f32) (g : FVec Ideal S1024 .f32) (w : FVec Ideal S1024x2560 .f32) (kg : FVec Ideal S64 .f32) : FVec Ideal S8x8192x512 .bf16 :=
  unheads (headNorm (heads (colsK (proj (norm x g) w))) kg)
def resV (x : FVec Ideal S8x8192x1024 .f32) (g : FVec Ideal S1024 .f32) (w : FVec Ideal S1024x2560 .f32) : FVec Ideal S8x8192x512 .bf16 :=
  truncf .bf16 (colsV (proj (norm x g) w)) bitsLt_bf16_f32
def resC (x : FVec Ideal S8x8192x1024 .f32) (g : FVec Ideal S1024 .f32) (w : FVec Ideal S1024x2560 .f32) (dw : FVec Ideal S31x512 .f32) (db lg lb : FVec Ideal S512 .f32) :
    FVec Ideal S8x8192x512 .bf16 :=
  act (scaled (lessMean (conv (padded (unit (proj (norm x g) w))) dw db)) lg lb)

/-! ## The stages at an entry -/

theorem toHeads (v : S8x8192x512.Idx → EReal) (h) (b : Fin 8) (s : Fin 8192) (i : Fin 8) (j : Fin 64) :
    shapeCast S8x8192x8x64 v h (ix4 b s i j) = v (ix3 b s ⟨i.val * 64 + j.val, by omega⟩) := by
  pointwise []

theorem ofHeads (v : S8x8192x8x64.Idx → EReal) (h) (b : Fin 8) (s : Fin 8192) (c : Fin 512) :
    shapeCast S8x8192x512 v h (ix3 b s c) = v (ix4 b s ⟨c.val / 64, by omega⟩ ⟨c.val % 64, by omega⟩) := by
  pointwise []

theorem norm_apply (h : FVec Ideal S8x8192x1024 .f32) (g : Vec Ideal S1024 .f32) (b : Fin 8) (s : Fin 8192) (j : Fin 1024) :
    norm h g (ix3 b s j) = Out.normed (fun j => h (ix3 b s j)) (fun j => g (ix1 j)) j := by
  pointwise [norm]
  rfl

theorem proj_apply (u : FVec Ideal S8x8192x1024 .f32) (w : FVec Ideal S1024x2560 .f32) (b : Fin 8) (s : Fin 8192) (c : Fin 2560) :
    proj u w (ix3 b s c) = ∑ j, u (ix3 b s j) * w (ix2 j c) := by
  pointwise [proj]

theorem unit_apply (z : FVec Ideal S8x8192x2560 .f32) (b : Fin 8) (s : Fin 8192) (f : Fin 512) :
    unit z (ix3 b s f) = z (ix3 b s ⟨1536 + f.val, by omega⟩) * Ideal.logistic (z (ix3 b s ⟨2048 + f.val, by omega⟩)) := by
  pointwise [unit]
  rfl

theorem padded_apply (g : FVec Ideal S8x8192x512 .f32) (b : Fin 8) (s : Fin 8222) (f : Fin 512) :
    padded g (ix3 b s f) = if h : 30 ≤ s.val then g (ix3 b ⟨s.val - 30, by omega⟩ f) else (0 : EReal) := by
  pointwise [padded]
  by_cases h : 30 ≤ s.val
  · rw [dif_pos h, dif_pos ⟨h, by omega⟩]
  · rw [dif_neg h, dif_neg fun h' => h h'.1]
    show (((0#32 : BitVec 32).toInt : ℝ) : EReal) = 0
    simp

theorem step_apply (p : FVec Ideal S8x8222x512 .f32) (w : FVec Ideal S31x512 .f32) (k : ℕ) (h : k < 31) (acc : FVec Ideal S8x8192x512 .f32) (b : Fin 8) (s : Fin 8192) (f : Fin 512) :
    step p w k h acc (ix3 b s f) = acc (ix3 b s f) + w (ix2 ⟨k, h⟩ f) * p (ix3 b ⟨k + s.val, by omega⟩ f) := by
  pointwise [step, spread]

theorem conv_apply (p : FVec Ideal S8x8222x512 .f32) (w : Vec Ideal S31x512 .f32) (db : Vec Ideal S512 .f32) (b : Fin 8) (s : Fin 8192) (f : Fin 512) (t : ℕ → EReal)
    (ht : ∀ (k : ℕ) (h : k < 31), w (ix2 ⟨k, h⟩ f) * p (ix3 b ⟨k + s.val, by omega⟩ f) = t k) : conv p w db (ix3 b s f) = taps (db (ix1 f)) t := by
  have e : ∀ u : FVec Ideal S8x8192x512 .f32, addf u (spread db) (ix3 b s f) = u (ix3 b s f) + db (ix1 f) := fun u => by pointwise [spread]
  have z : (broadcastInDim S8x8192x512 ![] bcast_S_S8x8192x512 (constant S_ .f32 0x00000000#32) : FVec Ideal S8x8192x512 .f32) (ix3 b s f) = (0 : EReal) := by pointwise []
  unfold conv taps
  rw [e]
  simp only [step_apply, ht, z, zero_add (t 0)]
  rw [add_comm]
  simp only [← add_assoc]

theorem lessMean_apply (t : FVec Ideal S8x8192x512 .f32) (b : Fin 8) (s : Fin 8192) (f : Fin 512) : lessMean t (ix3 b s f) = centred (fun j => t (ix3 b s j)) f := by
  pointwise [lessMean]
  rfl

theorem scaled_apply (t : FVec Ideal S8x8192x512 .f32) (lg lb : Vec Ideal S512 .f32) (b : Fin 8) (s : Fin 8192) (f : Fin 512) :
    scaled (lessMean t) lg lb (ix3 b s f) = standard (fun j => t (ix3 b s j)) (fun j => lg (ix1 j)) (fun j => lb (ix1 j)) f := by
  have e : ∀ u : FVec Ideal S8x8192x512 .f32, scaled u lg lb (ix3 b s f)
      = u (ix3 b s f) * Ideal.rsqrt (Ideal.div (∑ j, u (ix3 b s j) * u (ix3 b s j)) (Ideal.ofBits .f32 0x44000000#32) + Ideal.ofBits .f32 0x358637BD#32) * lg (ix1 f) + lb (ix1 f) := fun u => by
    pointwise [scaled, spread]
  rw [e]
  simp only [lessMean_apply]
  rfl

theorem act_apply (y : FVec Ideal S8x8192x512 .f32) (b : Fin 8) (s : Fin 8192) (f : Fin 512) : act y (ix3 b s f) = swish (y (ix3 b s f)) := by
  pointwise [act]
  rfl

theorem headNorm_apply (t : FVec Ideal S8x8192x8x64 .f32) (g : Vec Ideal S64 .f32) (b : Fin 8) (s : Fin 8192) (i : Fin 8) (j : Fin 64) :
    headNorm t g (ix4 b s i j) = t (ix4 b s i j) * Ideal.rsqrt (Ideal.div (∑ l, t (ix4 b s i l) * t (ix4 b s i l)) (Ideal.ofBits .f32 0x42800000#32) + Ideal.ofBits .f32 0x358637BD#32)
      * g (ix1 j) := by
  pointwise [headNorm]

theorem headed_apply (t : FVec Ideal S8x8192x512 .f32) (g : Vec Ideal S64 .f32) (b : Fin 8) (s : Fin 8192) (c : Fin 512) :
    unheads (headNorm (heads t) g) (ix3 b s c) = headed (fun c => t (ix3 b s c)) (fun j => g (ix1 j)) c := by
  have e : unheads (headNorm (heads t) g) (ix3 b s c) = headNorm (heads t) g (ix4 b s ⟨c.val / 64, by omega⟩ ⟨c.val % 64, by omega⟩) :=
    ofHeads (headNorm (heads t) g) shapeCasts_S8x8192x8x64_S8x8192x512 b s c
  have h : ∀ (i : Fin 8) (j : Fin 64), heads t (ix4 b s i j) = t (ix3 b s ⟨i.val * 64 + j.val, by omega⟩) :=
    toHeads t shapeCasts_S8x8192x512_S8x8192x8x64 b s
  rw [e, headNorm_apply]
  simp only [h]
  have ec : (⟨c.val / 64 * 64 + c.val % 64, by omega⟩ : Fin 512) = c := Fin.ext (by dsimp only; omega)
  have ei : ∀ l : Fin 64, (⟨c.val / 64 * 64 + l.val, by omega⟩ : Fin 512) = ⟨64 * (c.val / 64) + l.val, by omega⟩ := fun l => Fin.ext (by dsimp only; omega)
  simp only [ec, ei]
  rfl

/-! ## The whole at an entry -/

/-- The arrays that the reference's program is called with. -/
def layerOf (m : (ℓ : Loc nD τ sig) → Buf (Elt Ideal) ℓ) (c : Dev nD) : Layer where
  x b s j := (m ((c.tc : Thread nD τ).loc main_arg0) : Vec Ideal S8x8192x1024 .f32) (ix3 b s j)
  g j := (m ((c.tc : Thread nD τ).loc main_arg1) : Vec Ideal S1024 .f32) (ix1 j)
  w i j := (m ((c.tc : Thread nD τ).loc main_arg2) : Vec Ideal S1024x2560 .f32) (ix2 i j)
  qg j := (m ((c.tc : Thread nD τ).loc main_arg3) : Vec Ideal S64 .f32) (ix1 j)
  kg j := (m ((c.tc : Thread nD τ).loc main_arg4) : Vec Ideal S64 .f32) (ix1 j)
  dw k f := weightOf (m ((c.tc : Thread nD τ).loc main_arg5) : Vec Ideal S31x512 .f32) k f
  db j := (m ((c.tc : Thread nD τ).loc main_arg6) : Vec Ideal S512 .f32) (ix1 j)
  lg j := (m ((c.tc : Thread nD τ).loc main_arg7) : Vec Ideal S512 .f32) (ix1 j)
  lb j := (m ((c.tc : Thread nD τ).loc main_arg8) : Vec Ideal S512 .f32) (ix1 j)

section Rows

variable {A : Layer} {x : Vec Ideal S8x8192x1024 .f32} {g : Vec Ideal S1024 .f32} {w : Vec Ideal S1024x2560 .f32}

theorem proj_eq (hx : ∀ b s j, x (ix3 b s j) = A.x b s j) (hg : ∀ j, g (ix1 j) = A.g j) (hw : ∀ i j, w (ix2 i j) = A.w i j)
    (b : Fin 8) (s : Fin 8192) (c : Fin 2560) : proj (norm x g) w (ix3 b s c) = A.proj b s c := by
  rw [proj_apply]
  simp only [norm_apply, hx, hg, hw]
  rfl

theorem q_eq {z : FVec Ideal S8x8192x2560 .f32} {qg : Vec Ideal S64 .f32} (hz : ∀ b s c, z (ix3 b s c) = A.proj b s c) (hq : ∀ j, qg (ix1 j) = A.qg j)
    (b : Fin 8) (s : Fin 8192) (c : Fin 512) : unheads (headNorm (heads (colsQ z)) qg) (ix3 b s c) = A.q b s c := by
  have e : ∀ c : Fin 512, colsQ z (ix3 b s c) = z (ix3 b s ⟨c.val, by omega⟩) := fun c => by pointwise [colsQ]
  rw [headed_apply]
  simp only [e, hz, hq]
  rfl

theorem k_eq {z : FVec Ideal S8x8192x2560 .f32} {kg : Vec Ideal S64 .f32} (hz : ∀ b s c, z (ix3 b s c) = A.proj b s c) (hk : ∀ j, kg (ix1 j) = A.kg j)
    (b : Fin 8) (s : Fin 8192) (c : Fin 512) : unheads (headNorm (heads (colsK z)) kg) (ix3 b s c) = A.k b s c := by
  have e : ∀ c : Fin 512, colsK z (ix3 b s c) = z (ix3 b s ⟨512 + c.val, by omega⟩) := fun c => by pointwise [colsK]
  rw [headed_apply]
  simp only [e, hz, hk]
  rfl

theorem v_eq {z : FVec Ideal S8x8192x2560 .f32} (hz : ∀ b s c, z (ix3 b s c) = A.proj b s c)
    (b : Fin 8) (s : Fin 8192) (c : Fin 512) : (truncf .bf16 (colsV z) bitsLt_bf16_f32 : FVec Ideal S8x8192x512 .bf16) (ix3 b s c) = A.v b s c := by
  pointwise [colsV]
  exact hz _ _ _

theorem unit_eq {z : FVec Ideal S8x8192x2560 .f32} (hz : ∀ b s c, z (ix3 b s c) = A.proj b s c)
    (b : Fin 8) (s : Fin 8192) (f : Fin 512) : unit z (ix3 b s f) = A.gated b s f := by
  rw [unit_apply, hz, hz]
  rfl

theorem conv_eq {u : FVec Ideal S8x8192x512 .f32} {dw : Vec Ideal S31x512 .f32} {db : Vec Ideal S512 .f32} (hu : ∀ b s f, u (ix3 b s f) = A.gated b s f)
    (hw : ∀ (k : Fin 31) f, dw (ix2 k f) = A.dw k.val f) (hb : ∀ j, db (ix1 j) = A.db j) (b : Fin 8) (s : Fin 8192) (f : Fin 512) :
    conv (padded u) dw db (ix3 b s f) = A.conv b s f := by
  refine (conv_apply (padded u) dw db b s f (fun k => A.dw k f * A.before b s (30 - k) f) fun k hk => ?_).trans (congrArg (taps · _) (hb f))
  refine congr (congrArg (fun a b : EReal => a * b) (hw ⟨k, hk⟩ f)) ?_
  rw [padded_apply]
  unfold Layer.before
  by_cases h : 30 - k ≤ s.val
  · rw [if_pos h, dif_pos (show 30 ≤ k + s.val by omega), hu]
    exact congrArg (A.gated b · f) (Fin.ext (by show k + s.val - 30 = s.val - (30 - k); omega))
  · rw [if_neg h, dif_neg (show ¬ 30 ≤ k + s.val by omega)]

theorem mix_eq {t : FVec Ideal S8x8192x512 .f32} {lg lb : Vec Ideal S512 .f32} (ht : ∀ b s f, t (ix3 b s f) = A.conv b s f)
    (hg : ∀ j, lg (ix1 j) = A.lg j) (hb : ∀ j, lb (ix1 j) = A.lb j) (b : Fin 8) (s : Fin 8192) (f : Fin 512) :
    act (scaled (lessMean t) lg lb) (ix3 b s f) = A.mix b s f := by
  rw [act_apply, scaled_apply]
  simp only [ht, hg, hb]
  rfl

end Rows

section Results

variable (m : (ℓ : Loc nD τ sig) → Buf (Elt Ideal) ℓ) (c : Dev nD)

theorem resQ_apply (b : Fin 8) (s : Fin 8192) (j : Fin 512) :
    resQ (m ((c.tc : Thread nD τ).loc main_arg0)) (m ((c.tc : Thread nD τ).loc main_arg1)) (m ((c.tc : Thread nD τ).loc main_arg2)) (m ((c.tc : Thread nD τ).loc main_arg3)) (ix3 b s j)
      = (layerOf m c).q b s j :=
  q_eq (A := layerOf m c) (proj_eq (fun _ _ _ => rfl) (fun _ => rfl) fun _ _ => rfl) (fun _ => rfl) b s j

theorem resK_apply (b : Fin 8) (s : Fin 8192) (j : Fin 512) :
    resK (m ((c.tc : Thread nD τ).loc main_arg0)) (m ((c.tc : Thread nD τ).loc main_arg1)) (m ((c.tc : Thread nD τ).loc main_arg2)) (m ((c.tc : Thread nD τ).loc main_arg4)) (ix3 b s j)
      = (layerOf m c).k b s j :=
  k_eq (A := layerOf m c) (proj_eq (fun _ _ _ => rfl) (fun _ => rfl) fun _ _ => rfl) (fun _ => rfl) b s j

theorem resV_apply (b : Fin 8) (s : Fin 8192) (j : Fin 512) :
    resV (m ((c.tc : Thread nD τ).loc main_arg0)) (m ((c.tc : Thread nD τ).loc main_arg1)) (m ((c.tc : Thread nD τ).loc main_arg2)) (ix3 b s j) = (layerOf m c).v b s j :=
  v_eq (A := layerOf m c) (proj_eq (fun _ _ _ => rfl) (fun _ => rfl) fun _ _ => rfl) b s j

theorem resC_apply (b : Fin 8) (s : Fin 8192) (j : Fin 512) :
    resC (m ((c.tc : Thread nD τ).loc main_arg0)) (m ((c.tc : Thread nD τ).loc main_arg1)) (m ((c.tc : Thread nD τ).loc main_arg2)) (m ((c.tc : Thread nD τ).loc main_arg5))
      (m ((c.tc : Thread nD τ).loc main_arg6)) (m ((c.tc : Thread nD τ).loc main_arg7)) (m ((c.tc : Thread nD τ).loc main_arg8)) (ix3 b s j) = (layerOf m c).mix b s j :=
  mix_eq (A := layerOf m c) (conv_eq (unit_eq (proj_eq (fun _ _ _ => rfl) (fun _ => rfl) fun _ _ => rfl)) (fun k f => (weightOf_eq _ k f).symm) fun _ => rfl)
    (fun _ => rfl) (fun _ => rfl) b s j

end Results

end Cert.Proof.MixRef

end
-- ==== Proof.Main.Mixer.lean ====
module

public import proofs.«01_k».proof.Defs
public import proofs.«01_k».proof.Proof.Mix.Array
public import proofs.«01_k».proof.Proof.Mix.Ref
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal

@[expose] public section

noncomputable section

namespace Cert.Proof

open Idealize.ShloMosaic Idealize.SL.Sem

/-- The layer's first kernel runs to the end, its arguments unchanged, every counter at zero. -/
theorem frame_kernel3 : Cert.quiescent_Kernel3 := fun m ρ _ => Cert.Kernel3.Gen.frame m ρ

/-- So does that kernel over the extended reals. -/
theorem frame_ideal3 : Cert.quiescent_Kernel3Ideal := fun m ρ _ => Cert.Kernel3Ideal.Gen.frame m ρ

/-- So does its reference. -/
theorem frame_reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The kernel over the extended reals is the kernel's own text. -/
theorem preserves3 : Cert.preserves_Kernel3_Kernel3Ideal := trivial

/-- An array of the results' shape that has given entries. -/
theorem entries_eq {A B : Mix.Layer} (h : B = A) (f : Mix.Layer → Fin 8 → Fin 8192 → Fin 512 → EReal) (v : Vec Ideal Cert.Kernel3Ideal.S8x8192x512 .bf16)
    (hv : ∀ b s j, v (ix3 b s j) = f B b s j) : v = (fun y => f A (y 0) (y 1) (y 2) : Vec Ideal Cert.Kernel3Ideal.S8x8192x512 .bf16) := by
  refine funext fun (y : Cert.Kernel3Ideal.S8x8192x512.Idx) => ?_
  exact (congrArg v (ix3_eta y).symm).trans ((hv (y 0) (y 1) (y 2)).trans (congrArg (fun A => f A (y 0) (y 1) (y 2)) h))

/-- The kernel's run and the reference's run leave the same four results: the queries, the keys, the values and the convolution's output. -/
theorem algebraic3 : Cert.algebraic_Kernel3Ideal_Reference3Ideal := by
  intro m g m' g' _ ha
  have hl : ∀ c, MixRef.layerOf m' c = Mix.layerOf m c := fun c => by
    obtain ⟨h0, h1, h2, h3, h4, h5, h6, h7, h8⟩ := ha c
    unfold MixRef.layerOf Mix.layerOf
    rw [h0, h1, h2, h3, h4, h5, h6, h7, h8]
  refine ⟨fun c => (fun y => (Mix.layerOf m c).q (y 0) (y 1) (y 2) : Vec Ideal Cert.Kernel3Ideal.S8x8192x512 .bf16),
    fun c => (fun y => (Mix.layerOf m c).k (y 0) (y 1) (y 2) : Vec Ideal Cert.Kernel3Ideal.S8x8192x512 .bf16),
    fun c => (fun y => (Mix.layerOf m c).v (y 0) (y 1) (y 2) : Vec Ideal Cert.Kernel3Ideal.S8x8192x512 .bf16),
    fun c => (fun y => (Mix.layerOf m c).mix (y 0) (y 1) (y 2) : Vec Ideal Cert.Kernel3Ideal.S8x8192x512 .bf16), ?_, ?_⟩
  · refine (θ_run _ _ _).mono (fun r h c => ?_) (Cert.Kernel3Ideal.Value.run_blocks (F := Ideal) m g)
    obtain ⟨h0, h1, h2, h3, h⟩ := h c
    exact ⟨h0.trans (Mix.array_q m c), h1.trans (Mix.array_k m c), h2.trans (Mix.array_v m c), h3.trans (Mix.array_mix m c), h⟩
  · refine (θ_run _ _ _).mono (fun r h c => ?_) (Cert.Reference3Ideal.Value.run (F := Ideal) m' g')
    obtain ⟨h0, h1, h2, h3, h⟩ := h c
    exact ⟨h0.trans (entries_eq (hl c) Mix.Layer.q _ (MixRef.resQ_apply m' c)), h1.trans (entries_eq (hl c) Mix.Layer.k _ (MixRef.resK_apply m' c)),
      h2.trans (entries_eq (hl c) Mix.Layer.v _ (MixRef.resV_apply m' c)), h3.trans (entries_eq (hl c) Mix.Layer.mix _ (MixRef.resC_apply m' c)), h⟩

end Cert.Proof

end
-- ==== Proof.lean ====
/- The claims, assembled. -/
module

public import proofs.«01_k».proof.Defs
public import proofs.«01_k».proof.Proof.Main.Frames
public import proofs.«01_k».proof.Proof.Main.Algebraic
public import proofs.«01_k».proof.Proof.Main.Layer
public import proofs.«01_k».proof.Proof.Main.Mixer
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Val.facts_bounded,
  frame_kernel, frame_ideal, fun m ρ _ => frame_ideal m ρ trivial, frame_reference, fun m ρ _ => frame_reference m ρ trivial,
  frame_kernel2, frame_ideal2, frame_reference2, frame_kernel3, frame_ideal3, frame_reference3, preserves, algebraic, preserves2, algebraic2, preserves3, algebraic3⟩

end Cert.Proof

end
